-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((7⁻¹ : ℝ) : EReal)
  ∧ IdealRules.named_const.Statement Cert.KernelIdeal.κ "third" .f32 0x3EAAAAAB#32 ((3⁻¹ : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v497) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S13x8x512x1024 : Shape := ⟨4, ![13, 8, 512, 1024]⟩
abbrev S8x512 : Shape := ⟨2, ![8, 512]⟩
abbrev S9x8x512x1024 : Shape := ⟨4, ![9, 8, 512, 1024]⟩
abbrev S_ : Shape := ⟨0, ![]⟩
abbrev S2x8x512x1024 : Shape := ⟨4, ![2, 8, 512, 1024]⟩
abbrev S2x8x512x1024x1 : Shape := ⟨5, ![2, 8, 512, 1024, 1]⟩
abbrev S2x8x512x1024x3 : Shape := ⟨5, ![2, 8, 512, 1024, 3]⟩
abbrev S2x8x512 : Shape := ⟨3, ![2, 8, 512]⟩
abbrev S2x8x512x1 : Shape := ⟨4, ![2, 8, 512, 1]⟩
abbrev S2x8x512x3 : Shape := ⟨4, ![2, 8, 512, 3]⟩
abbrev S2x8x512x1x3 : Shape := ⟨5, ![2, 8, 512, 1, 3]⟩
abbrev S2x8x512x3x3 : Shape := ⟨5, ![2, 8, 512, 3, 3]⟩
abbrev S5x8x512x1024 : Shape := ⟨4, ![5, 8, 512, 1024]⟩
abbrev S5x8x512x1024x1 : Shape := ⟨5, ![5, 8, 512, 1024, 1]⟩
abbrev S5x8x512x1024x5 : Shape := ⟨5, ![5, 8, 512, 1024, 5]⟩
abbrev S5x8x512 : Shape := ⟨3, ![5, 8, 512]⟩
abbrev S5x8x512x1 : Shape := ⟨4, ![5, 8, 512, 1]⟩
abbrev S5x8x512x5 : Shape := ⟨4, ![5, 8, 512, 5]⟩
abbrev S5x8x512x1x5 : Shape := ⟨5, ![5, 8, 512, 1, 5]⟩
abbrev S5x8x512x5x5 : Shape := ⟨5, ![5, 8, 512, 5, 5]⟩
abbrev S1x8x512x1024 : Shape := ⟨4, ![1, 8, 512, 1024]⟩
abbrev S1x8x512x1024x1 : Shape := ⟨5, ![1, 8, 512, 1024, 1]⟩
abbrev S1x8x512x1024x4 : Shape := ⟨5, ![1, 8, 512, 1024, 4]⟩
abbrev S1x8x512 : Shape := ⟨3, ![1, 8, 512]⟩
abbrev S1x8x512x1 : Shape := ⟨4, ![1, 8, 512, 1]⟩
abbrev S1x8x512x4 : Shape := ⟨4, ![1, 8, 512, 4]⟩
abbrev S1x8x512x1x4 : Shape := ⟨5, ![1, 8, 512, 1, 4]⟩
abbrev S1x8x512x4x4 : Shape := ⟨5, ![1, 8, 512, 4, 4]⟩
abbrev S1x8x512x1024x3 : Shape := ⟨5, ![1, 8, 512, 1024, 3]⟩
abbrev S1x8x512x3 : Shape := ⟨4, ![1, 8, 512, 3]⟩
abbrev S1x8x512x1x3 : Shape := ⟨5, ![1, 8, 512, 1, 3]⟩
abbrev S1x8x512x3x3 : Shape := ⟨5, ![1, 8, 512, 3, 3]⟩
abbrev S2x8x512x1x1 : Shape := ⟨5, ![2, 8, 512, 1, 1]⟩
abbrev S2x8x512x2x1 : Shape := ⟨5, ![2, 8, 512, 2, 1]⟩
abbrev S2x8x512x2 : Shape := ⟨4, ![2, 8, 512, 2]⟩
abbrev S5x8x512x1x1 : Shape := ⟨5, ![5, 8, 512, 1, 1]⟩
abbrev S5x8x512x4x1 : Shape := ⟨5, ![5, 8, 512, 4, 1]⟩
abbrev S5x8x512x4 : Shape := ⟨4, ![5, 8, 512, 4]⟩
abbrev S1x8x512x1x1 : Shape := ⟨5, ![1, 8, 512, 1, 1]⟩
abbrev S1x8x512x3x1 : Shape := ⟨5, ![1, 8, 512, 3, 1]⟩
abbrev S1x8x512x2x1 : Shape := ⟨5, ![1, 8, 512, 2, 1]⟩
abbrev S1x8x512x2 : Shape := ⟨4, ![1, 8, 512, 2]⟩
abbrev S9x8x512 : Shape := ⟨3, ![9, 8, 512]⟩
abbrev S8x8x512x1024 : Shape := ⟨4, ![8, 8, 512, 1024]⟩
abbrev S8x8x512 : Shape := ⟨3, ![8, 8, 512]⟩
abbrev S8 : Shape := ⟨1, ![8]⟩
abbrev S512 : Shape := ⟨1, ![512]⟩
abbrev S1x512 : Shape := ⟨2, ![1, 512]⟩
abbrev S8x1 : Shape := ⟨2, ![8, 1]⟩

class Facts : Prop where
  slices_S13x8x512x1024_S9x8x512x1024_4_0_0_0 : S13x8x512x1024.Slices ![4, 0, 0, 0] S9x8x512x1024
  bcast_S_S9x8x512x1024 : S_.BroadcastsInDim S9x8x512x1024 (![] : Fin 0 → Fin S9x8x512x1024.rank)
  reducesTo_S9x8x512x1024_S_d0_1_2_3 : S9x8x512x1024.ReducesTo [0, 1, 2, 3] S_
  h_S_ : 0 < S_.numel
  bcast_S_S8x512 : S_.BroadcastsInDim S8x512 (![] : Fin 0 → Fin S8x512.rank)
  reducesTo_S8x512_S_d0_1 : S8x512.ReducesTo [0, 1] S_
  slices_S9x8x512x1024_S2x8x512x1024_1_0_0_0 : S9x8x512x1024.Slices ![1, 0, 0, 0] S2x8x512x1024
  slices_S9x8x512x1024_S2x8x512x1024_2_0_0_0 : S9x8x512x1024.Slices ![2, 0, 0, 0] S2x8x512x1024
  slices_S9x8x512x1024_S2x8x512x1024_0_0_0_0 : S9x8x512x1024.Slices ![0, 0, 0, 0] S2x8x512x1024
  bcast_S2x8x512x1024_S2x8x512x1024x1_0_1_2_3 : S2x8x512x1024.BroadcastsInDim S2x8x512x1024x1 (![0, 1, 2, 3] : Fin 4 → Fin S2x8x512x1024x1.rank)
  concatenates_S2x8x512x1024x1_S2x8x512x1024x1_S2x8x512x1024x1_S2x8x512x1024x3_d4 : Shape.Concatenates [S2x8x512x1024x1, S2x8x512x1024x1, S2x8x512x1024x1] S2x8x512x1024x3 4
  slices_S2x8x512x1024x3_S2x8x512x1024x1_0_0_0_0_0 : S2x8x512x1024x3.Slices ![0, 0, 0, 0, 0] S2x8x512x1024x1
  shapeCasts_S2x8x512x1024x1_S2x8x512x1024 : S2x8x512x1024x1.ShapeCasts S2x8x512x1024
  reducesTo_S2x8x512x1024_S2x8x512_d3 : S2x8x512x1024.ReducesTo [3] S2x8x512
  bcast_S2x8x512_S2x8x512x1_0_1_2 : S2x8x512.BroadcastsInDim S2x8x512x1 (![0, 1, 2] : Fin 3 → Fin S2x8x512x1.rank)
  bcast_S2x8x512x1_S2x8x512x1024_0_1_2_3 : S2x8x512x1.BroadcastsInDim S2x8x512x1024 (![0, 1, 2, 3] : Fin 4 → Fin S2x8x512x1024.rank)
  bcast_S2x8x512x1024x1_S2x8x512x1024x3_0_1_2_3_4 : S2x8x512x1024x1.BroadcastsInDim S2x8x512x1024x3 (![0, 1, 2, 3, 4] : Fin 5 → Fin S2x8x512x1024x3.rank)
  reducesTo_S2x8x512x1024x3_S2x8x512x3_d3 : S2x8x512x1024x3.ReducesTo [3] S2x8x512x3
  bcast_S2x8x512x3_S2x8x512x1x3_0_1_2_4 : S2x8x512x3.BroadcastsInDim S2x8x512x1x3 (![0, 1, 2, 4] : Fin 4 → Fin S2x8x512x1x3.rank)
  bcast_S2x8x512x1x3_S2x8x512x1024x3_0_1_2_3_4 : S2x8x512x1x3.BroadcastsInDim S2x8x512x1024x3 (![0, 1, 2, 3, 4] : Fin 5 → Fin S2x8x512x1024x3.rank)
  slices_S2x8x512x1024x3_S2x8x512x1024x1_0_0_0_0_1 : S2x8x512x1024x3.Slices ![0, 0, 0, 0, 1] S2x8x512x1024x1
  slices_S2x8x512x1024x3_S2x8x512x1024x1_0_0_0_0_2 : S2x8x512x1024x3.Slices ![0, 0, 0, 0, 2] S2x8x512x1024x1
  concatenates_S2x8x512x1x3_S2x8x512x1x3_S2x8x512x1x3_S2x8x512x3x3_d3 : Shape.Concatenates [S2x8x512x1x3, S2x8x512x1x3, S2x8x512x1x3] S2x8x512x3x3 3
  slices_S9x8x512x1024_S5x8x512x1024_0_0_0_0 : S9x8x512x1024.Slices ![0, 0, 0, 0] S5x8x512x1024
  slices_S9x8x512x1024_S5x8x512x1024_1_0_0_0 : S9x8x512x1024.Slices ![1, 0, 0, 0] S5x8x512x1024
  slices_S9x8x512x1024_S5x8x512x1024_3_0_0_0 : S9x8x512x1024.Slices ![3, 0, 0, 0] S5x8x512x1024
  slices_S9x8x512x1024_S5x8x512x1024_4_0_0_0 : S9x8x512x1024.Slices ![4, 0, 0, 0] S5x8x512x1024
  slices_S9x8x512x1024_S5x8x512x1024_2_0_0_0 : S9x8x512x1024.Slices ![2, 0, 0, 0] S5x8x512x1024
  bcast_S5x8x512x1024_S5x8x512x1024x1_0_1_2_3 : S5x8x512x1024.BroadcastsInDim S5x8x512x1024x1 (![0, 1, 2, 3] : Fin 4 → Fin S5x8x512x1024x1.rank)
  concatenates_S5x8x512x1024x1_S5x8x512x1024x1_S5x8x512x1024x1_S5x8x512x1024x1_S5x8x512x1024x1_S5x8x512x1024x5_d4 : Shape.Concatenates [S5x8x512x1024x1, S5x8x512x1024x1, S5x8x512x1024x1, S5x8x512x1024x1, S5x8x512x1024x1] S5x8x512x1024x5 4
  slices_S5x8x512x1024x5_S5x8x512x1024x1_0_0_0_0_0 : S5x8x512x1024x5.Slices ![0, 0, 0, 0, 0] S5x8x512x1024x1
  shapeCasts_S5x8x512x1024x1_S5x8x512x1024 : S5x8x512x1024x1.ShapeCasts S5x8x512x1024
  reducesTo_S5x8x512x1024_S5x8x512_d3 : S5x8x512x1024.ReducesTo [3] S5x8x512
  bcast_S5x8x512_S5x8x512x1_0_1_2 : S5x8x512.BroadcastsInDim S5x8x512x1 (![0, 1, 2] : Fin 3 → Fin S5x8x512x1.rank)
  bcast_S5x8x512x1_S5x8x512x1024_0_1_2_3 : S5x8x512x1.BroadcastsInDim S5x8x512x1024 (![0, 1, 2, 3] : Fin 4 → Fin S5x8x512x1024.rank)
  bcast_S5x8x512x1024x1_S5x8x512x1024x5_0_1_2_3_4 : S5x8x512x1024x1.BroadcastsInDim S5x8x512x1024x5 (![0, 1, 2, 3, 4] : Fin 5 → Fin S5x8x512x1024x5.rank)
  reducesTo_S5x8x512x1024x5_S5x8x512x5_d3 : S5x8x512x1024x5.ReducesTo [3] S5x8x512x5
  bcast_S5x8x512x5_S5x8x512x1x5_0_1_2_4 : S5x8x512x5.BroadcastsInDim S5x8x512x1x5 (![0, 1, 2, 4] : Fin 4 → Fin S5x8x512x1x5.rank)
  bcast_S5x8x512x1x5_S5x8x512x1024x5_0_1_2_3_4 : S5x8x512x1x5.BroadcastsInDim S5x8x512x1024x5 (![0, 1, 2, 3, 4] : Fin 5 → Fin S5x8x512x1024x5.rank)
  slices_S5x8x512x1024x5_S5x8x512x1024x1_0_0_0_0_1 : S5x8x512x1024x5.Slices ![0, 0, 0, 0, 1] S5x8x512x1024x1
  slices_S5x8x512x1024x5_S5x8x512x1024x1_0_0_0_0_2 : S5x8x512x1024x5.Slices ![0, 0, 0, 0, 2] S5x8x512x1024x1
  slices_S5x8x512x1024x5_S5x8x512x1024x1_0_0_0_0_3 : S5x8x512x1024x5.Slices ![0, 0, 0, 0, 3] S5x8x512x1024x1
  slices_S5x8x512x1024x5_S5x8x512x1024x1_0_0_0_0_4 : S5x8x512x1024x5.Slices ![0, 0, 0, 0, 4] S5x8x512x1024x1
  concatenates_S5x8x512x1x5_S5x8x512x1x5_S5x8x512x1x5_S5x8x512x1x5_S5x8x512x1x5_S5x8x512x5x5_d3 : Shape.Concatenates [S5x8x512x1x5, S5x8x512x1x5, S5x8x512x1x5, S5x8x512x1x5, S5x8x512x1x5] S5x8x512x5x5 3
  slices_S9x8x512x1024_S1x8x512x1024_5_0_0_0 : S9x8x512x1024.Slices ![5, 0, 0, 0] S1x8x512x1024
  slices_S9x8x512x1024_S1x8x512x1024_6_0_0_0 : S9x8x512x1024.Slices ![6, 0, 0, 0] S1x8x512x1024
  slices_S9x8x512x1024_S1x8x512x1024_8_0_0_0 : S9x8x512x1024.Slices ![8, 0, 0, 0] S1x8x512x1024
  slices_S9x8x512x1024_S1x8x512x1024_7_0_0_0 : S9x8x512x1024.Slices ![7, 0, 0, 0] S1x8x512x1024
  bcast_S1x8x512x1024_S1x8x512x1024x1_0_1_2_3 : S1x8x512x1024.BroadcastsInDim S1x8x512x1024x1 (![0, 1, 2, 3] : Fin 4 → Fin S1x8x512x1024x1.rank)
  concatenates_S1x8x512x1024x1_S1x8x512x1024x1_S1x8x512x1024x1_S1x8x512x1024x1_S1x8x512x1024x4_d4 : Shape.Concatenates [S1x8x512x1024x1, S1x8x512x1024x1, S1x8x512x1024x1, S1x8x512x1024x1] S1x8x512x1024x4 4
  slices_S1x8x512x1024x4_S1x8x512x1024x1_0_0_0_0_0 : S1x8x512x1024x4.Slices ![0, 0, 0, 0, 0] S1x8x512x1024x1
  shapeCasts_S1x8x512x1024x1_S1x8x512x1024 : S1x8x512x1024x1.ShapeCasts S1x8x512x1024
  reducesTo_S1x8x512x1024_S1x8x512_d3 : S1x8x512x1024.ReducesTo [3] S1x8x512
  bcast_S1x8x512_S1x8x512x1_0_1_2 : S1x8x512.BroadcastsInDim S1x8x512x1 (![0, 1, 2] : Fin 3 → Fin S1x8x512x1.rank)
  bcast_S1x8x512x1_S1x8x512x1024_0_1_2_3 : S1x8x512x1.BroadcastsInDim S1x8x512x1024 (![0, 1, 2, 3] : Fin 4 → Fin S1x8x512x1024.rank)
  bcast_S1x8x512x1024x1_S1x8x512x1024x4_0_1_2_3_4 : S1x8x512x1024x1.BroadcastsInDim S1x8x512x1024x4 (![0, 1, 2, 3, 4] : Fin 5 → Fin S1x8x512x1024x4.rank)
  reducesTo_S1x8x512x1024x4_S1x8x512x4_d3 : S1x8x512x1024x4.ReducesTo [3] S1x8x512x4
  bcast_S1x8x512x4_S1x8x512x1x4_0_1_2_4 : S1x8x512x4.BroadcastsInDim S1x8x512x1x4 (![0, 1, 2, 4] : Fin 4 → Fin S1x8x512x1x4.rank)
  bcast_S1x8x512x1x4_S1x8x512x1024x4_0_1_2_3_4 : S1x8x512x1x4.BroadcastsInDim S1x8x512x1024x4 (![0, 1, 2, 3, 4] : Fin 5 → Fin S1x8x512x1024x4.rank)
  slices_S1x8x512x1024x4_S1x8x512x1024x1_0_0_0_0_1 : S1x8x512x1024x4.Slices ![0, 0, 0, 0, 1] S1x8x512x1024x1
  slices_S1x8x512x1024x4_S1x8x512x1024x1_0_0_0_0_2 : S1x8x512x1024x4.Slices ![0, 0, 0, 0, 2] S1x8x512x1024x1
  slices_S1x8x512x1024x4_S1x8x512x1024x1_0_0_0_0_3 : S1x8x512x1024x4.Slices ![0, 0, 0, 0, 3] S1x8x512x1024x1
  concatenates_S1x8x512x1x4_S1x8x512x1x4_S1x8x512x1x4_S1x8x512x1x4_S1x8x512x4x4_d3 : Shape.Concatenates [S1x8x512x1x4, S1x8x512x1x4, S1x8x512x1x4, S1x8x512x1x4] S1x8x512x4x4 3
  concatenates_S1x8x512x1024x1_S1x8x512x1024x1_S1x8x512x1024x1_S1x8x512x1024x3_d4 : Shape.Concatenates [S1x8x512x1024x1, S1x8x512x1024x1, S1x8x512x1024x1] S1x8x512x1024x3 4
  slices_S1x8x512x1024x3_S1x8x512x1024x1_0_0_0_0_0 : S1x8x512x1024x3.Slices ![0, 0, 0, 0, 0] S1x8x512x1024x1
  bcast_S1x8x512x1024x1_S1x8x512x1024x3_0_1_2_3_4 : S1x8x512x1024x1.BroadcastsInDim S1x8x512x1024x3 (![0, 1, 2, 3, 4] : Fin 5 → Fin S1x8x512x1024x3.rank)
  reducesTo_S1x8x512x1024x3_S1x8x512x3_d3 : S1x8x512x1024x3.ReducesTo [3] S1x8x512x3
  bcast_S1x8x512x3_S1x8x512x1x3_0_1_2_4 : S1x8x512x3.BroadcastsInDim S1x8x512x1x3 (![0, 1, 2, 4] : Fin 4 → Fin S1x8x512x1x3.rank)
  bcast_S1x8x512x1x3_S1x8x512x1024x3_0_1_2_3_4 : S1x8x512x1x3.BroadcastsInDim S1x8x512x1024x3 (![0, 1, 2, 3, 4] : Fin 5 → Fin S1x8x512x1024x3.rank)
  slices_S1x8x512x1024x3_S1x8x512x1024x1_0_0_0_0_1 : S1x8x512x1024x3.Slices ![0, 0, 0, 0, 1] S1x8x512x1024x1
  slices_S1x8x512x1024x3_S1x8x512x1024x1_0_0_0_0_2 : S1x8x512x1024x3.Slices ![0, 0, 0, 0, 2] S1x8x512x1024x1
  concatenates_S1x8x512x1x3_S1x8x512x1x3_S1x8x512x1x3_S1x8x512x3x3_d3 : Shape.Concatenates [S1x8x512x1x3, S1x8x512x1x3, S1x8x512x1x3] S1x8x512x3x3 3
  slices_S2x8x512x3x3_S2x8x512x1x1_0_0_0_0_0 : S2x8x512x3x3.Slices ![0, 0, 0, 0, 0] S2x8x512x1x1
  shapeCasts_S2x8x512x1x1_S2x8x512 : S2x8x512x1x1.ShapeCasts S2x8x512
  bcast_S_S2x8x512 : S_.BroadcastsInDim S2x8x512 (![] : Fin 0 → Fin S2x8x512.rank)
  reducesTo_S2x8x512_S_d0_1_2 : S2x8x512.ReducesTo [0, 1, 2] S_
  slices_S2x8x512x3x3_S2x8x512x1x1_0_0_0_1_1 : S2x8x512x3x3.Slices ![0, 0, 0, 1, 1] S2x8x512x1x1
  slices_S2x8x512x3x3_S2x8x512x1x1_0_0_0_2_2 : S2x8x512x3x3.Slices ![0, 0, 0, 2, 2] S2x8x512x1x1
  slices_S2x8x512x3x3_S2x8x512x2x1_0_0_0_0_2 : S2x8x512x3x3.Slices ![0, 0, 0, 0, 2] S2x8x512x2x1
  shapeCasts_S2x8x512x2x1_S2x8x512x2 : S2x8x512x2x1.ShapeCasts S2x8x512x2
  reducesTo_S2x8x512x2_S2x8x512_d3 : S2x8x512x2.ReducesTo [3] S2x8x512
  slices_S5x8x512x5x5_S5x8x512x1x1_0_0_0_0_0 : S5x8x512x5x5.Slices ![0, 0, 0, 0, 0] S5x8x512x1x1
  shapeCasts_S5x8x512x1x1_S5x8x512 : S5x8x512x1x1.ShapeCasts S5x8x512
  bcast_S_S5x8x512 : S_.BroadcastsInDim S5x8x512 (![] : Fin 0 → Fin S5x8x512.rank)
  reducesTo_S5x8x512_S_d0_1_2 : S5x8x512.ReducesTo [0, 1, 2] S_
  slices_S5x8x512x5x5_S5x8x512x1x1_0_0_0_1_1 : S5x8x512x5x5.Slices ![0, 0, 0, 1, 1] S5x8x512x1x1
  slices_S5x8x512x5x5_S5x8x512x1x1_0_0_0_2_2 : S5x8x512x5x5.Slices ![0, 0, 0, 2, 2] S5x8x512x1x1
  slices_S5x8x512x5x5_S5x8x512x1x1_0_0_0_3_3 : S5x8x512x5x5.Slices ![0, 0, 0, 3, 3] S5x8x512x1x1
  slices_S5x8x512x5x5_S5x8x512x1x1_0_0_0_4_4 : S5x8x512x5x5.Slices ![0, 0, 0, 4, 4] S5x8x512x1x1
  slices_S5x8x512x5x5_S5x8x512x4x1_0_0_0_0_4 : S5x8x512x5x5.Slices ![0, 0, 0, 0, 4] S5x8x512x4x1
  shapeCasts_S5x8x512x4x1_S5x8x512x4 : S5x8x512x4x1.ShapeCasts S5x8x512x4
  reducesTo_S5x8x512x4_S5x8x512_d3 : S5x8x512x4.ReducesTo [3] S5x8x512
  slices_S1x8x512x4x4_S1x8x512x1x1_0_0_0_0_0 : S1x8x512x4x4.Slices ![0, 0, 0, 0, 0] S1x8x512x1x1
  shapeCasts_S1x8x512x1x1_S1x8x512 : S1x8x512x1x1.ShapeCasts S1x8x512
  bcast_S_S1x8x512 : S_.BroadcastsInDim S1x8x512 (![] : Fin 0 → Fin S1x8x512.rank)
  reducesTo_S1x8x512_S_d0_1_2 : S1x8x512.ReducesTo [0, 1, 2] S_
  slices_S1x8x512x4x4_S1x8x512x1x1_0_0_0_1_1 : S1x8x512x4x4.Slices ![0, 0, 0, 1, 1] S1x8x512x1x1
  slices_S1x8x512x4x4_S1x8x512x1x1_0_0_0_2_2 : S1x8x512x4x4.Slices ![0, 0, 0, 2, 2] S1x8x512x1x1
  slices_S1x8x512x4x4_S1x8x512x1x1_0_0_0_3_3 : S1x8x512x4x4.Slices ![0, 0, 0, 3, 3] S1x8x512x1x1
  slices_S1x8x512x4x4_S1x8x512x3x1_0_0_0_0_3 : S1x8x512x4x4.Slices ![0, 0, 0, 0, 3] S1x8x512x3x1
  shapeCasts_S1x8x512x3x1_S1x8x512x3 : S1x8x512x3x1.ShapeCasts S1x8x512x3
  reducesTo_S1x8x512x3_S1x8x512_d3 : S1x8x512x3.ReducesTo [3] S1x8x512
  slices_S1x8x512x3x3_S1x8x512x1x1_0_0_0_0_0 : S1x8x512x3x3.Slices ![0, 0, 0, 0, 0] S1x8x512x1x1
  slices_S1x8x512x3x3_S1x8x512x1x1_0_0_0_1_1 : S1x8x512x3x3.Slices ![0, 0, 0, 1, 1] S1x8x512x1x1
  slices_S1x8x512x3x3_S1x8x512x1x1_0_0_0_2_2 : S1x8x512x3x3.Slices ![0, 0, 0, 2, 2] S1x8x512x1x1
  slices_S1x8x512x3x3_S1x8x512x2x1_0_0_0_0_2 : S1x8x512x3x3.Slices ![0, 0, 0, 0, 2] S1x8x512x2x1
  shapeCasts_S1x8x512x2x1_S1x8x512x2 : S1x8x512x2x1.ShapeCasts S1x8x512x2
  reducesTo_S1x8x512x2_S1x8x512_d3 : S1x8x512x2.ReducesTo [3] S1x8x512
  reducesTo_S9x8x512x1024_S9x8x512_d3 : S9x8x512x1024.ReducesTo [3] S9x8x512
  slices_S9x8x512x1024_S8x8x512x1024_1_0_0_0 : S9x8x512x1024.Slices ![1, 0, 0, 0] S8x8x512x1024
  slices_S9x8x512x1024_S8x8x512x1024_0_0_0_0 : S9x8x512x1024.Slices ![0, 0, 0, 0] S8x8x512x1024
  reducesTo_S8x8x512x1024_S8x8x512_d3 : S8x8x512x1024.ReducesTo [3] S8x8x512
  slices_S9x8x512_S8x8x512_1_0_0 : S9x8x512.Slices ![1, 0, 0] S8x8x512
  slices_S9x8x512_S8x8x512_0_0_0 : S9x8x512.Slices ![0, 0, 0] S8x8x512
  bcast_S_S8x8x512 : S_.BroadcastsInDim S8x8x512 (![] : Fin 0 → Fin S8x8x512.rank)
  reducesTo_S8x8x512_S8x512_d0 : S8x8x512.ReducesTo [0] S8x512
  bcast_S8x512_S1x8x512_1_2 : S8x512.BroadcastsInDim S1x8x512 (![1, 2] : Fin 2 → Fin S1x8x512.rank)
  bcast_S1x8x512_S8x8x512_0_1_2 : S1x8x512.BroadcastsInDim S8x8x512 (![0, 1, 2] : Fin 3 → Fin S8x8x512.rank)
  reducesTo_S8x512_S8_d1 : S8x512.ReducesTo [1] S8
  bcast_S_S8 : S_.BroadcastsInDim S8 (![] : Fin 0 → Fin S8.rank)
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  reducesTo_S8_S_d0 : S8.ReducesTo [0] S_

variable [Facts]

def fn_where {F : FTy → Type} [FloatOps F] (arg0 : IVec S_ 1) (arg1 : FVec F S8x512 .f32) (arg2 : FVec F S_ .f32) : FVec F S8x512 .f32 :=
  let v0 : FVec F S_ .f32 := id arg2
  let v1 : FVec F S8x512 .f32 := broadcastInDim S8x512 ![] bcast_S_S8x512 v0
  let v2 : FVec F S8x512 .f32 := (fun p a b => select (broadcastInDim S8x512 ![] bcast_S_S8x512 p) a b) arg0 arg1 v1
  v2

def fn_var {F : FTy → Type} [FloatOps F] (arg0 : FVec F S8x8x512 .f32) (arg1 : IVec S_ 32) : FVec F S8x512 .f32 :=
  let cst : FVec F S_ .f32 := constant S_ .f32 0x00000000#32
  let v0 : FVec F S8x512 .f32 := (fun x v => Host.reduceAdd x v reducesTo_S8x8x512_S8x512_d0 h_S_) arg0 cst
  let v1 : FVec F S1x8x512 .f32 := broadcastInDim S1x8x512 ![1, 2] bcast_S8x512_S1x8x512_1_2 v0
  let cst_0 : FVec F S_ .f32 := constant S_ .f32 0x41000000#32
  let v2 : FVec F S1x8x512 .f32 := broadcastInDim S1x8x512 ![] bcast_S_S1x8x512 cst_0
  let v3 : FVec F S1x8x512 .f32 := Host.divf v1 v2
  let v4 : FVec F S8x8x512 .f32 := broadcastInDim S8x8x512 ![0, 1, 2] bcast_S1x8x512_S8x8x512_0_1_2 v3
  let v5 : FVec F S8x8x512 .f32 := subf arg0 v4
  let v6 : FVec F S8x8x512 .f32 := mulf v5 v5
  let v7 : FVec F S_ .f32 := sitofp .f32 arg1
  let cst_1 : FVec F S_ .f32 := constant S_ .f32 0x41000000#32
  let v8 : FVec F S_ .f32 := subf cst_1 v7
  let cst_2 : FVec F S_ .f32 := constant S_ .f32 0x00000000#32
  let v9 : FVec F S8x512 .f32 := (fun x v => Host.reduceAdd x v reducesTo_S8x8x512_S8x512_d0 h_S_) v6 cst_2
  let v10 : FVec F S8x512 .f32 := broadcastInDim S8x512 ![] bcast_S_S8x512 v8
  let v11 : FVec F S8x512 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let v13 : FVec F S8x512 .f32 := fn_where (F := F) v12 v11 cst_4
  v13

def fn_where_0 {F : FTy → Type} [FloatOps F] (arg0 : IVec S8x512 1) (arg1 : FVec F S8x512 .f32) (arg2 : FVec F S_ .f32) : FVec F S8x512 .f32 :=
  let v0 : FVec F S_ .f32 := id arg2
  let v1 : FVec F S8x512 .f32 := broadcastInDim S8x512 ![] bcast_S_S8x512 v0
  let v2 : FVec F S8x512 .f32 := select arg0 arg1 v1
  v2

def fn_part24 {F : FTy → Type} [FloatOps F] (main_v460 : IVec S_ 1) (main_v488 : IVec S_ 1) : IVec S_ 1 :=
  let main_v489 : IVec S_ 1 := andi main_v460 main_v488
  main_v489

def fn_part23 {F : FTy → Type} [FloatOps F] (main_arg1 : IVec S8x512 32) (main_v460 : IVec S_ 1) (main_v467 : FVec F S8x8x512 .f32) (main_v470 : FVec F S8x8x512 .f32) (main_v471 : FVec F S8x8x512 .f32) : IVec S_ 1 :=
  let main_v472 : FVec F S8x8x512 .f32 := maximumf main_v470 main_v471
  let main_v473 : FVec F S8x8x512 .f32 := Host.divf main_v467 main_v472
  let main_c_78 : IVec S_ 32 := constantI S_ 32 1#32
  let main_v474 : FVec F S8x512 .f32 := fn_var (F := F) main_v473 main_c_78
  let main_c_79 : IVec S_ 32 := constantI S_ 32 0#32
  let main_v475 : IVec S8 32 := (fun x v => Host.reduce IntOp.addi x v reducesTo_S8x512_S8_d1 h_S_) main_arg1 main_c_79
  let main_c_80 : IVec S_ 32 := constantI S_ 32 1#32
  let main_v476 : IVec S8 32 := broadcastInDim S8 ![] bcast_S_S8 main_c_80
  let main_v477 : IVec S8 32 := subi main_v475 main_v476
  let main_v478 : IVec S512 32 := iotaInDim S512 32 0
  let main_v479 : IVec S1x512 32 := broadcastInDim S1x512 ![1] bcast_S512_S1x512_1 main_v478
  let main_v480 : IVec S8x1 32 := broadcastInDim S8x1 ![0] bcast_S8_S8x1_0 main_v477
  let main_v481 : IVec S8x512 32 := broadcastInDim S8x512 ![0, 1] bcast_S1x512_S8x512_0_1 main_v479
  let main_v482 : IVec S8x512 32 := broadcastInDim S8x512 ![0, 1] bcast_S8x1_S8x512_0_1 main_v480
  let main_v483 : IVec S8x512 1 := cmpi .slt main_v481 main_v482
  let main_cst_81 : FVec F S_ .f32 := constant S_ .f32 0x00000000#32
  let main_v484 : FVec F S8x512 .f32 := fn_where_0 (F := F) main_v483 main_v474 main_cst_81
  let main_cst_82 : FVec F S_ .f32 := constant S_ .f32 0x00000000#32
  let main_v485 : FVec F S8 .f32 := (fun x v => Host.reduceAdd x v reducesTo_S8x512_S8_d1 h_S_) main_v484 main_cst_82
  let main_cst_83 : FVec F S_ .f32 := constant S_ .f32 0x00000000#32
  let main_v486 : FVec F S8 .f32 := broadcastInDim S8 ![] bcast_S_S8 main_cst_83
  let main_v487 : IVec S8 1 := cmpf .ogt main_v485 main_v486
  let main_c_84 : IVec S_ 1 := constantI S_ 1 1#1
  let main_v488 : IVec S_ 1 := (fun x v => Host.reduce IntOp.andi x v reducesTo_S8_S_d0 h_S_) main_v487 main_c_84
  fn_part24 (F := F) main_v460 main_v488

def fn_part22 {F : FTy → Type} [FloatOps F] (main_arg1 : IVec S8x512 32) (main_v0 : FVec F S9x8x512x1024 .f32) (main_v451 : IVec S_ 1) (main_v453 : FVec F S1x8x512x2 .f32) : IVec S_ 1 :=
  let main_v454 : FVec F S1x8x512x2 .f32 := mulf main_v453 main_v453
  let main_cst_72 : FVec F S_ .f32 := constant S_ .f32 0x00000000#32
  let main_v455 : FVec F S1x8x512 .f32 := (fun x v => Host.reduceAdd x v reducesTo_S1x8x512x2_S1x8x512_d3 h_S_) main_v454 main_cst_72
  let main_v456 : FVec F S1x8x512 .f32 := Host.sqrt main_v455
  let main_cst_73 : FVec F S_ .f32 := constant S_ .f32 0x00000000#32
  let main_v457 : FVec F S1x8x512 .f32 := broadcastInDim S1x8x512 ![] bcast_S_S1x8x512 main_cst_73
  let main_v458 : IVec S1x8x512 1 := cmpf .ogt main_v456 main_v457
  let main_c_74 : IVec S_ 1 := constantI S_ 1 1#1
  let main_v459 : IVec S_ 1 := (fun x v => Host.reduce IntOp.andi x v reducesTo_S1x8x512_S_d0_1_2 h_S_) main_v458 main_c_74
  let main_v460 : IVec S_ 1 := andi main_v451 main_v459
  let main_v461 : FVec F S9x8x512x1024 .f32 := mulf main_v0 main_v0
  let main_cst_75 : FVec F S_ .f32 := constant S_ .f32 0x00000000#32
  let main_v462 : FVec F S9x8x512 .f32 := (fun x v => Host.reduceAdd x v reducesTo_S9x8x512x1024_S9x8x512_d3 h_S_) main_v461 main_cst_75
  let main_v463 : FVec F S9x8x512 .f32 := Host.sqrt main_v462
  let main_v464 : FVec F S8x8x512x1024 .f32 := (extractStridedSlice S8x8x512x1024 ![1, 0, 0, 0] · slices_S9x8x512x1024_S8x8x512x1024_1_0_0_0) main_v0
  let main_v465 : FVec F S8x8x512x1024 .f32 := (extractStridedSlice S8x8x512x1024 ![0, 0, 0, 0] · slices_S9x8x512x1024_S8x8x512x1024_0_0_0_0) main_v0
  let main_v466 : FVec F S8x8x512x1024 .f32 := mulf main_v464 main_v465
  let main_cst_76 : FVec F S_ .f32 := constant S_ .f32 0x00000000#32
  let main_v467 : FVec F S8x8x512 .f32 := (fun x v => Host.reduceAdd x v reducesTo_S8x8x512x1024_S8x8x512_d3 h_S_) main_v466 main_cst_76
  let main_v468 : FVec F S8x8x512 .f32 := (extractStridedSlice S8x8x512 ![1, 0, 0] · slices_S9x8x512_S8x8x512_1_0_0) main_v463
  let main_v469 : FVec F S8x8x512 .f32 := (extractStridedSlice S8x8x512 ![0, 0, 0] · slices_S9x8x512_S8x8x512_0_0_0) main_v463
  let main_v470 : FVec F S8x8x512 .f32 := mulf main_v468 main_v469
  let main_cst_77 : FVec F S_ .f32 := constant S_ .f32 0x322BCC77#32
  let main_v471 : FVec F S8x8x512 .f32 := broadcastInDim S8x8x512 ![] bcast_S_S8x8x512 main_cst_77
  fn_part23 (F := F) main_arg1 main_v460 main_v467 main_v470 main_v471

def fn_part21 {F : FTy → Type} [FloatOps F] (main_arg1 : IVec S8x512 32) (main_v0 : FVec F S9x8x512x1024 .f32) (main_v334 : FVec F S1x8x512x3x3 .f32) (main_v433 : IVec S_ 1) (main_v435 : FVec F S1x8x512 .f32) : IVec S_ 1 :=
  let main_cst_66 : FVec F S_ .f32 := constant S_ .f32 0x00000000#32
  let main_v436 : FVec F S1x8x512 .f32 := broadcastInDim S1x8x512 ![] bcast_S_S1x8x512 main_cst_66
  let main_v437 : IVec S1x8x512 1 := cmpf .ogt main_v435 main_v436
  let main_c_67 : IVec S_ 1 := constantI S_ 1 1#1
  let main_v438 : IVec S_ 1 := (fun x v => Host.reduce IntOp.andi x v reducesTo_S1x8x512_S_d0_1_2 h_S_) main_v437 main_c_67
  let main_v439 : IVec S_ 1 := andi main_v433 main_v438
  let main_v440 : FVec F S1x8x512x1x1 .f32 := (extractStridedSlice S1x8x512x1x1 ![0, 0, 0, 1, 1] · slices_S1x8x512x3x3_S1x8x512x1x1_0_0_0_1_1) main_v334
  let main_v441 : FVec F S1x8x512 .f32 := shapeCast S1x8x512 main_v440 shapeCasts_S1x8x512x1x1_S1x8x512
  let main_cst_68 : FVec F S_ .f32 := constant S_ .f32 0x00000000#32
  let main_v442 : FVec F S1x8x512 .f32 := broadcastInDim S1x8x512 ![] bcast_S_S1x8x512 main_cst_68
  let main_v443 : IVec S1x8x512 1 := cmpf .ogt main_v441 main_v442
  let main_c_69 : IVec S_ 1 := constantI S_ 1 1#1
  let main_v444 : IVec S_ 1 := (fun x v => Host.reduce IntOp.andi x v reducesTo_S1x8x512_S_d0_1_2 h_S_) main_v443 main_c_69
  let main_v445 : IVec S_ 1 := andi main_v439 main_v444
  let main_v446 : FVec F S1x8x512x1x1 .f32 := (extractStridedSlice S1x8x512x1x1 ![0, 0, 0, 2, 2] · slices_S1x8x512x3x3_S1x8x512x1x1_0_0_0_2_2) main_v334
  let main_v447 : FVec F S1x8x512 .f32 := shapeCast S1x8x512 main_v446 shapeCasts_S1x8x512x1x1_S1x8x512
  let main_cst_70 : FVec F S_ .f32 := constant S_ .f32 0x00000000#32
  let main_v448 : FVec F S1x8x512 .f32 := broadcastInDim S1x8x512 ![] bcast_S_S1x8x512 main_cst_70
  let main_v449 : IVec S1x8x512 1 := cmpf .ogt main_v447 main_v448
  let main_c_71 : IVec S_ 1 := constantI S_ 1 1#1
  let main_v450 : IVec S_ 1 := (fun x v => Host.reduce IntOp.andi x v reducesTo_S1x8x512_S_d0_1_2 h_S_) main_v449 main_c_71
  let main_v451 : IVec S_ 1 := andi main_v445 main_v450
  let main_v452 : FVec F S1x8x512x2x1 .f32 := (extractStridedSlice S1x8x512x2x1 ![0, 0, 0, 0, 2] · slices_S1x8x512x3x3_S1x8x512x2x1_0_0_0_0_2) main_v334
  let main_v453 : FVec F S1x8x512x2 .f32 := shapeCast S1x8x512x2 main_v452 shapeCasts_S1x8x512x2x1_S1x8x512x2
  fn_part22 (F := F) main_arg1 main_v0 main_v451 main_v453

def fn_part20 {F : FTy → Type} [FloatOps F] (main_arg1 : IVec S8x512 32) (main_v0 : FVec F S9x8x512x1024 .f32) (main_v269 : FVec F S1x8x512x4x4 .f32) (main_v334 : FVec F S1x8x512x3x3 .f32) (main_v412 : IVec S_ 1) (main_v416 : IVec S1x8x512 1) (main_c_60 : IVec S_ 1) : IVec S_ 1 :=
  let main_v417 : IVec S_ 1 := (fun x v => Host.reduce IntOp.andi x v reducesTo_S1x8x512_S_d0_1_2 h_S_) main_v416 main_c_60
  let main_v418 : IVec S_ 1 := andi main_v412 main_v417
  let main_v419 : FVec F S1x8x512x1x1 .f32 := (extractStridedSlice S1x8x512x1x1 ![0, 0, 0, 3, 3] · slices_S1x8x512x4x4_S1x8x512x1x1_0_0_0_3_3) main_v269
  let main_v420 : FVec F S1x8x512 .f32 := shapeCast S1x8x512 main_v419 shapeCasts_S1x8x512x1x1_S1x8x512
  let main_cst_61 : FVec F S_ .f32 := constant S_ .f32 0x00000000#32
  let main_v421 : FVec F S1x8x512 .f32 := broadcastInDim S1x8x512 ![] bcast_S_S1x8x512 main_cst_61
  let main_v422 : IVec S1x8x512 1 := cmpf .ogt main_v420 main_v421
  let main_c_62 : IVec S_ 1 := constantI S_ 1 1#1
  let main_v423 : IVec S_ 1 := (fun x v => Host.reduce IntOp.andi x v reducesTo_S1x8x512_S_d0_1_2 h_S_) main_v422 main_c_62
  let main_v424 : IVec S_ 1 := andi main_v418 main_v423
  let main_v425 : FVec F S1x8x512x3x1 .f32 := (extractStridedSlice S1x8x512x3x1 ![0, 0, 0, 0, 3] · slices_S1x8x512x4x4_S1x8x512x3x1_0_0_0_0_3) main_v269
  let main_v426 : FVec F S1x8x512x3 .f32 := shapeCast S1x8x512x3 main_v425 shapeCasts_S1x8x512x3x1_S1x8x512x3
  let main_v427 : FVec F S1x8x512x3 .f32 := mulf main_v426 main_v426
  let main_cst_63 : FVec F S_ .f32 := constant S_ .f32 0x00000000#32
  let main_v428 : FVec F S1x8x512 .f32 := (fun x v => Host.reduceAdd x v reducesTo_S1x8x512x3_S1x8x512_d3 h_S_) main_v427 main_cst_63
  let main_v429 : FVec F S1x8x512 .f32 := Host.sqrt main_v428
  let main_cst_64 : FVec F S_ .f32 := constant S_ .f32 0x00000000#32
  let main_v430 : FVec F S1x8x512 .f32 := broadcastInDim S1x8x512 ![] bcast_S_S1x8x512 main_cst_64
  let main_v431 : IVec S1x8x512 1 := cmpf .ogt main_v429 main_v430
  let main_c_65 : IVec S_ 1 := constantI S_ 1 1#1
  let main_v432 : IVec S_ 1 := (fun x v => Host.reduce IntOp.andi x v reducesTo_S1x8x512_S_d0_1_2 h_S_) main_v431 main_c_65
  let main_v433 : IVec S_ 1 := andi main_v424 main_v432
  let main_v434 : FVec F S1x8x512x1x1 .f32 := (extractStridedSlice S1x8x512x1x1 ![0, 0, 0, 0, 0] · slices_S1x8x512x3x3_S1x8x512x1x1_0_0_0_0_0) main_v334
  let main_v435 : FVec F S1x8x512 .f32 := shapeCast S1x8x512 main_v434 shapeCasts_S1x8x512x1x1_S1x8x512
  fn_part21 (F := F) main_arg1 main_v0 main_v334 main_v433 main_v435

def fn_part19 {F : FTy → Type} [FloatOps F] (main_arg1 : IVec S8x512 32) (main_v0 : FVec F S9x8x512x1024 .f32) (main_v269 : FVec F S1x8x512x4x4 .f32) (main_v334 : FVec F S1x8x512x3x3 .f32) (main_v391 : IVec S_ 1) (main_v398 : IVec S5x8x512 1) (main_c_54 : IVec S_ 1) : IVec S_ 1 :=
  let main_v399 : IVec S_ 1 := (fun x v => Host.reduce IntOp.andi x v reducesTo_S5x8x512_S_d0_1_2 h_S_) main_v398 main_c_54
  let main_v400 : IVec S_ 1 := andi main_v391 main_v399
  let main_v401 : FVec F S1x8x512x1x1 .f32 := (extractStridedSlice S1x8x512x1x1 ![0, 0, 0, 0, 0] · slices_S1x8x512x4x4_S1x8x512x1x1_0_0_0_0_0) main_v269
  let main_v402 : FVec F S1x8x512 .f32 := shapeCast S1x8x512 main_v401 shapeCasts_S1x8x512x1x1_S1x8x512
  let main_cst_55 : FVec F S_ .f32 := constant S_ .f32 0x00000000#32
  let main_v403 : FVec F S1x8x512 .f32 := broadcastInDim S1x8x512 ![] bcast_S_S1x8x512 main_cst_55
  let main_v404 : IVec S1x8x512 1 := cmpf .ogt main_v402 main_v403
  let main_c_56 : IVec S_ 1 := constantI S_ 1 1#1
  let main_v405 : IVec S_ 1 := (fun x v => Host.reduce IntOp.andi x v reducesTo_S1x8x512_S_d0_1_2 h_S_) main_v404 main_c_56
  let main_v406 : IVec S_ 1 := andi main_v400 main_v405
  let main_v407 : FVec F S1x8x512x1x1 .f32 := (extractStridedSlice S1x8x512x1x1 ![0, 0, 0, 1, 1] · slices_S1x8x512x4x4_S1x8x512x1x1_0_0_0_1_1) main_v269
  let main_v408 : FVec F S1x8x512 .f32 := shapeCast S1x8x512 main_v407 shapeCasts_S1x8x512x1x1_S1x8x512
  let main_cst_57 : FVec F S_ .f32 := constant S_ .f32 0x00000000#32
  let main_v409 : FVec F S1x8x512 .f32 := broadcastInDim S1x8x512 ![] bcast_S_S1x8x512 main_cst_57
  let main_v410 : IVec S1x8x512 1 := cmpf .ogt main_v408 main_v409
  let main_c_58 : IVec S_ 1 := constantI S_ 1 1#1
  let main_v411 : IVec S_ 1 := (fun x v => Host.reduce IntOp.andi x v reducesTo_S1x8x512_S_d0_1_2 h_S_) main_v410 main_c_58
  let main_v412 : IVec S_ 1 := andi main_v406 main_v411
  let main_v413 : FVec F S1x8x512x1x1 .f32 := (extractStridedSlice S1x8x512x1x1 ![0, 0, 0, 2, 2] · slices_S1x8x512x4x4_S1x8x512x1x1_0_0_0_2_2) main_v269
  let main_v414 : FVec F S1x8x512 .f32 := shapeCast S1x8x512 main_v413 shapeCasts_S1x8x512x1x1_S1x8x512
  let main_cst_59 : FVec F S_ .f32 := constant S_ .f32 0x00000000#32
  let main_v415 : FVec F S1x8x512 .f32 := broadcastInDim S1x8x512 ![] bcast_S_S1x8x512 main_cst_59
  let main_v416 : IVec S1x8x512 1 := cmpf .ogt main_v414 main_v415
  let main_c_60 : IVec S_ 1 := constantI S_ 1 1#1
  fn_part20 (F := F) main_arg1 main_v0 main_v269 main_v334 main_v412 main_v416 main_c_60

def fn_part18 {F : FTy → Type} [FloatOps F] (main_arg1 : IVec S8x512 32) (main_v0 : FVec F S9x8x512x1024 .f32) (main_v183 : FVec F S5x8x512x5x5 .f32) (main_v269 : FVec F S1x8x512x4x4 .f32) (main_v334 : FVec F S1x8x512x3x3 .f32) (main_v379 : IVec S_ 1) (main_v381 : FVec F S5x8x512 .f32) : IVec S_ 1 :=
  let main_cst_48 : FVec F S_ .f32 := constant S_ .f32 0x00000000#32
  let main_v382 : FVec F S5x8x512 .f32 := broadcastInDim S5x8x512 ![] bcast_S_S5x8x512 main_cst_48
  let main_v383 : IVec S5x8x512 1 := cmpf .ogt main_v381 main_v382
  let main_c_49 : IVec S_ 1 := constantI S_ 1 1#1
  let main_v384 : IVec S_ 1 := (fun x v => Host.reduce IntOp.andi x v reducesTo_S5x8x512_S_d0_1_2 h_S_) main_v383 main_c_49
  let main_v385 : IVec S_ 1 := andi main_v379 main_v384
  let main_v386 : FVec F S5x8x512x1x1 .f32 := (extractStridedSlice S5x8x512x1x1 ![0, 0, 0, 4, 4] · slices_S5x8x512x5x5_S5x8x512x1x1_0_0_0_4_4) main_v183
  let main_v387 : FVec F S5x8x512 .f32 := shapeCast S5x8x512 main_v386 shapeCasts_S5x8x512x1x1_S5x8x512
  let main_cst_50 : FVec F S_ .f32 := constant S_ .f32 0x00000000#32
  let main_v388 : FVec F S5x8x512 .f32 := broadcastInDim S5x8x512 ![] bcast_S_S5x8x512 main_cst_50
  let main_v389 : IVec S5x8x512 1 := cmpf .ogt main_v387 main_v388
  let main_c_51 : IVec S_ 1 := constantI S_ 1 1#1
  let main_v390 : IVec S_ 1 := (fun x v => Host.reduce IntOp.andi x v reducesTo_S5x8x512_S_d0_1_2 h_S_) main_v389 main_c_51
  let main_v391 : IVec S_ 1 := andi main_v385 main_v390
  let main_v392 : FVec F S5x8x512x4x1 .f32 := (extractStridedSlice S5x8x512x4x1 ![0, 0, 0, 0, 4] · slices_S5x8x512x5x5_S5x8x512x4x1_0_0_0_0_4) main_v183
  let main_v393 : FVec F S5x8x512x4 .f32 := shapeCast S5x8x512x4 main_v392 shapeCasts_S5x8x512x4x1_S5x8x512x4
  let main_v394 : FVec F S5x8x512x4 .f32 := mulf main_v393 main_v393
  let main_cst_52 : FVec F S_ .f32 := constant S_ .f32 0x00000000#32
  let main_v395 : FVec F S5x8x512 .f32 := (fun x v => Host.reduceAdd x v reducesTo_S5x8x512x4_S5x8x512_d3 h_S_) main_v394 main_cst_52
  let main_v396 : FVec F S5x8x512 .f32 := Host.sqrt main_v395
  let main_cst_53 : FVec F S_ .f32 := constant S_ .f32 0x00000000#32
  let main_v397 : FVec F S5x8x512 .f32 := broadcastInDim S5x8x512 ![] bcast_S_S5x8x512 main_cst_53
  let main_v398 : IVec S5x8x512 1 := cmpf .ogt main_v396 main_v397
  let main_c_54 : IVec S_ 1 := constantI S_ 1 1#1
  fn_part19 (F := F) main_arg1 main_v0 main_v269 main_v334 main_v391 main_v398 main_c_54

def fn_part17 {F : FTy → Type} [FloatOps F] (main_arg1 : IVec S8x512 32) (main_v0 : FVec F S9x8x512x1024 .f32) (main_v183 : FVec F S5x8x512x5x5 .f32) (main_v269 : FVec F S1x8x512x4x4 .f32) (main_v334 : FVec F S1x8x512x3x3 .f32) (main_v361 : IVec S_ 1) (main_v363 : FVec F S5x8x512 .f32) : IVec S_ 1 :=
  let main_cst_42 : FVec F S_ .f32 := constant S_ .f32 0x00000000#32
  let main_v364 : FVec F S5x8x512 .f32 := broadcastInDim S5x8x512 ![] bcast_S_S5x8x512 main_cst_42
  let main_v365 : IVec S5x8x512 1 := cmpf .ogt main_v363 main_v364
  let main_c_43 : IVec S_ 1 := constantI S_ 1 1#1
  let main_v366 : IVec S_ 1 := (fun x v => Host.reduce IntOp.andi x v reducesTo_S5x8x512_S_d0_1_2 h_S_) main_v365 main_c_43
  let main_v367 : IVec S_ 1 := andi main_v361 main_v366
  let main_v368 : FVec F S5x8x512x1x1 .f32 := (extractStridedSlice S5x8x512x1x1 ![0, 0, 0, 1, 1] · slices_S5x8x512x5x5_S5x8x512x1x1_0_0_0_1_1) main_v183
  let main_v369 : FVec F S5x8x512 .f32 := shapeCast S5x8x512 main_v368 shapeCasts_S5x8x512x1x1_S5x8x512
  let main_cst_44 : FVec F S_ .f32 := constant S_ .f32 0x00000000#32
  let main_v370 : FVec F S5x8x512 .f32 := broadcastInDim S5x8x512 ![] bcast_S_S5x8x512 main_cst_44
  let main_v371 : IVec S5x8x512 1 := cmpf .ogt main_v369 main_v370
  let main_c_45 : IVec S_ 1 := constantI S_ 1 1#1
  let main_v372 : IVec S_ 1 := (fun x v => Host.reduce IntOp.andi x v reducesTo_S5x8x512_S_d0_1_2 h_S_) main_v371 main_c_45
  let main_v373 : IVec S_ 1 := andi main_v367 main_v372
  let main_v374 : FVec F S5x8x512x1x1 .f32 := (extractStridedSlice S5x8x512x1x1 ![0, 0, 0, 2, 2] · slices_S5x8x512x5x5_S5x8x512x1x1_0_0_0_2_2) main_v183
  let main_v375 : FVec F S5x8x512 .f32 := shapeCast S5x8x512 main_v374 shapeCasts_S5x8x512x1x1_S5x8x512
  let main_cst_46 : FVec F S_ .f32 := constant S_ .f32 0x00000000#32
  let main_v376 : FVec F S5x8x512 .f32 := broadcastInDim S5x8x512 ![] bcast_S_S5x8x512 main_cst_46
  let main_v377 : IVec S5x8x512 1 := cmpf .ogt main_v375 main_v376
  let main_c_47 : IVec S_ 1 := constantI S_ 1 1#1
  let main_v378 : IVec S_ 1 := (fun x v => Host.reduce IntOp.andi x v reducesTo_S5x8x512_S_d0_1_2 h_S_) main_v377 main_c_47
  let main_v379 : IVec S_ 1 := andi main_v373 main_v378
  let main_v380 : FVec F S5x8x512x1x1 .f32 := (extractStridedSlice S5x8x512x1x1 ![0, 0, 0, 3, 3] · slices_S5x8x512x5x5_S5x8x512x1x1_0_0_0_3_3) main_v183
  let main_v381 : FVec F S5x8x512 .f32 := shapeCast S5x8x512 main_v380 shapeCasts_S5x8x512x1x1_S5x8x512
  fn_part18 (F := F) main_arg1 main_v0 main_v183 main_v269 main_v334 main_v379 main_v381

def fn_part16 {F : FTy → Type} [FloatOps F] (main_arg1 : IVec S8x512 32) (main_v0 : FVec F S9x8x512x1024 .f32) (main_v76 : FVec F S2x8x512x3x3 .f32) (main_v183 : FVec F S5x8x512x5x5 .f32) (main_v269 : FVec F S1x8x512x4x4 .f32) (main_v334 : FVec F S1x8x512x3x3 .f32) (main_v340 : IVec S_ 1) (main_v344 : IVec S2x8x512 1) (main_c_36 : IVec S_ 1) : IVec S_ 1 :=
  let main_v345 : IVec S_ 1 := (fun x v => Host.reduce IntOp.andi x v reducesTo_S2x8x512_S_d0_1_2 h_S_) main_v344 main_c_36
  let main_v346 : IVec S_ 1 := andi main_v340 main_v345
  let main_v347 : FVec F S2x8x512x1x1 .f32 := (extractStridedSlice S2x8x512x1x1 ![0, 0, 0, 2, 2] · slices_S2x8x512x3x3_S2x8x512x1x1_0_0_0_2_2) main_v76
  let main_v348 : FVec F S2x8x512 .f32 := shapeCast S2x8x512 main_v347 shapeCasts_S2x8x512x1x1_S2x8x512
  let main_cst_37 : FVec F S_ .f32 := constant S_ .f32 0x00000000#32
  let main_v349 : FVec F S2x8x512 .f32 := broadcastInDim S2x8x512 ![] bcast_S_S2x8x512 main_cst_37
  let main_v350 : IVec S2x8x512 1 := cmpf .ogt main_v348 main_v349
  let main_c_38 : IVec S_ 1 := constantI S_ 1 1#1
  let main_v351 : IVec S_ 1 := (fun x v => Host.reduce IntOp.andi x v reducesTo_S2x8x512_S_d0_1_2 h_S_) main_v350 main_c_38
  let main_v352 : IVec S_ 1 := andi main_v346 main_v351
  let main_v353 : FVec F S2x8x512x2x1 .f32 := (extractStridedSlice S2x8x512x2x1 ![0, 0, 0, 0, 2] · slices_S2x8x512x3x3_S2x8x512x2x1_0_0_0_0_2) main_v76
  let main_v354 : FVec F S2x8x512x2 .f32 := shapeCast S2x8x512x2 main_v353 shapeCasts_S2x8x512x2x1_S2x8x512x2
  let main_v355 : FVec F S2x8x512x2 .f32 := mulf main_v354 main_v354
  let main_cst_39 : FVec F S_ .f32 := constant S_ .f32 0x00000000#32
  let main_v356 : FVec F S2x8x512 .f32 := (fun x v => Host.reduceAdd x v reducesTo_S2x8x512x2_S2x8x512_d3 h_S_) main_v355 main_cst_39
  let main_v357 : FVec F S2x8x512 .f32 := Host.sqrt main_v356
  let main_cst_40 : FVec F S_ .f32 := constant S_ .f32 0x00000000#32
  let main_v358 : FVec F S2x8x512 .f32 := broadcastInDim S2x8x512 ![] bcast_S_S2x8x512 main_cst_40
  let main_v359 : IVec S2x8x512 1 := cmpf .ogt main_v357 main_v358
  let main_c_41 : IVec S_ 1 := constantI S_ 1 1#1
  let main_v360 : IVec S_ 1 := (fun x v => Host.reduce IntOp.andi x v reducesTo_S2x8x512_S_d0_1_2 h_S_) main_v359 main_c_41
  let main_v361 : IVec S_ 1 := andi main_v352 main_v360
  let main_v362 : FVec F S5x8x512x1x1 .f32 := (extractStridedSlice S5x8x512x1x1 ![0, 0, 0, 0, 0] · slices_S5x8x512x5x5_S5x8x512x1x1_0_0_0_0_0) main_v183
  let main_v363 : FVec F S5x8x512 .f32 := shapeCast S5x8x512 main_v362 shapeCasts_S5x8x512x1x1_S5x8x512
  fn_part17 (F := F) main_arg1 main_v0 main_v183 main_v269 main_v334 main_v361 main_v363

def fn_part15 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v269 : FVec F S1x8x512x4x4 .f32) (main_v288 : FVec F S1x8x512x3 .f32) (main_v306 : FVec F S1x8x512x3 .f32) (main_v312 : FVec F S1x8x512x1024x3 .f32) (main_v320 : FVec F S1x8x512x1024 .f32) (main_v324 : FVec F S1x8x512x3 .f32) : IVec S_ 1 :=
  let main_v325 : FVec F S1x8x512x1024x1 .f32 := broadcastInDim S1x8x512x1024x1 ![0, 1, 2, 3] bcast_S1x8x512x1024_S1x8x512x1024x1_0_1_2_3 main_v320
  let main_v326 : FVec F S1x8x512x1x3 .f32 := broadcastInDim S1x8x512x1x3 ![0, 1, 2, 4] bcast_S1x8x512x3_S1x8x512x1x3_0_1_2_4 main_v324
  let main_v327 : FVec F S1x8x512x1024x3 .f32 := broadcastInDim S1x8x512x1024x3 ![0, 1, 2, 3, 4] bcast_S1x8x512x1024x1_S1x8x512x1024x3_0_1_2_3_4 main_v325
  let main_v328 : FVec F S1x8x512x1024x3 .f32 := broadcastInDim S1x8x512x1024x3 ![0, 1, 2, 3, 4] bcast_S1x8x512x1x3_S1x8x512x1024x3_0_1_2_3_4 main_v326
  let main_v329 : FVec F S1x8x512x1024x3 .f32 := mulf main_v327 main_v328
  let main_v330 : FVec F S1x8x512x1024x3 .f32 := subf main_v312 main_v329
  let main_v331 : FVec F S1x8x512x1x3 .f32 := broadcastInDim S1x8x512x1x3 ![0, 1, 2, 4] bcast_S1x8x512x3_S1x8x512x1x3_0_1_2_4 main_v288
  let main_v332 : FVec F S1x8x512x1x3 .f32 := broadcastInDim S1x8x512x1x3 ![0, 1, 2, 4] bcast_S1x8x512x3_S1x8x512x1x3_0_1_2_4 main_v306
  let main_v333 : FVec F S1x8x512x1x3 .f32 := broadcastInDim S1x8x512x1x3 ![0, 1, 2, 4] bcast_S1x8x512x3_S1x8x512x1x3_0_1_2_4 main_v324
  let main_v334 : FVec F S1x8x512x3x3 .f32 := concatenate S1x8x512x3x3 3 [⟨S1x8x512x1x3, main_v331⟩, ⟨S1x8x512x1x3, main_v332⟩, ⟨S1x8x512x1x3, main_v333⟩] concatenates_S1x8x512x1x3_S1x8x512x1x3_S1x8x512x1x3_S1x8x512x3x3_d3
  let main_v335 : FVec F S2x8x512x1x1 .f32 := (extractStridedSlice S2x8x512x1x1 ![0, 0, 0, 0, 0] · slices_S2x8x512x3x3_S2x8x512x1x1_0_0_0_0_0) main_v76
  let main_v336 : FVec F S2x8x512 .f32 := shapeCast S2x8x512 main_v335 shapeCasts_S2x8x512x1x1_S2x8x512
  let main_cst_33 : FVec F S_ .f32 := constant S_ .f32 0x00000000#32
  let main_v337 : FVec F S2x8x512 .f32 := broadcastInDim S2x8x512 ![] bcast_S_S2x8x512 main_cst_33
  let main_v338 : IVec S2x8x512 1 := cmpf .ogt main_v336 main_v337
  let main_c_34 : IVec S_ 1 := constantI S_ 1 1#1
  let main_v339 : IVec S_ 1 := (fun x v => Host.reduce IntOp.andi x v reducesTo_S2x8x512_S_d0_1_2 h_S_) main_v338 main_c_34
  let main_v340 : IVec S_ 1 := andi main_v11 main_v339
  let main_v341 : FVec F S2x8x512x1x1 .f32 := (extractStridedSlice S2x8x512x1x1 ![0, 0, 0, 1, 1] · slices_S2x8x512x3x3_S2x8x512x1x1_0_0_0_1_1) main_v76
  let main_v342 : FVec F S2x8x512 .f32 := shapeCast S2x8x512 main_v341 shapeCasts_S2x8x512x1x1_S2x8x512
  let main_cst_35 : FVec F S_ .f32 := constant S_ .f32 0x00000000#32
  let main_v343 : FVec F S2x8x512 .f32 := broadcastInDim S2x8x512 ![] bcast_S_S2x8x512 main_cst_35
  let main_v344 : IVec S2x8x512 1 := cmpf .ogt main_v342 main_v343
  let main_c_36 : IVec S_ 1 := constantI S_ 1 1#1
  fn_part16 (F := F) main_arg1 main_v0 main_v76 main_v183 main_v269 main_v334 main_v340 main_v344 main_c_36

def fn_part14 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v269 : FVec F S1x8x512x4x4 .f32) (main_v288 : FVec F S1x8x512x3 .f32) (main_v294 : FVec F S1x8x512x1024x3 .f32) (main_v302 : FVec F S1x8x512x1024 .f32) (main_v303 : FVec F S1x8x512x1024x1 .f32) : IVec S_ 1 :=
  let main_v304 : FVec F S1x8x512x1024x3 .f32 := broadcastInDim S1x8x512x1024x3 ![0, 1, 2, 3, 4] bcast_S1x8x512x1024x1_S1x8x512x1024x3_0_1_2_3_4 main_v303
  let main_v305 : FVec F S1x8x512x1024x3 .f32 := mulf main_v304 main_v294
  let main_cst_30 : FVec F S_ .f32 := constant S_ .f32 0x00000000#32
  let main_v306 : FVec F S1x8x512x3 .f32 := (fun x v => Host.reduceAdd x v reducesTo_S1x8x512x1024x3_S1x8x512x3_d3 h_S_) main_v305 main_cst_30
  let main_v307 : FVec F S1x8x512x1024x1 .f32 := broadcastInDim S1x8x512x1024x1 ![0, 1, 2, 3] bcast_S1x8x512x1024_S1x8x512x1024x1_0_1_2_3 main_v302
  let main_v308 : FVec F S1x8x512x1x3 .f32 := broadcastInDim S1x8x512x1x3 ![0, 1, 2, 4] bcast_S1x8x512x3_S1x8x512x1x3_0_1_2_4 main_v306
  let main_v309 : FVec F S1x8x512x1024x3 .f32 := broadcastInDim S1x8x512x1024x3 ![0, 1, 2, 3, 4] bcast_S1x8x512x1024x1_S1x8x512x1024x3_0_1_2_3_4 main_v307
  let main_v310 : FVec F S1x8x512x1024x3 .f32 := broadcastInDim S1x8x512x1024x3 ![0, 1, 2, 3, 4] bcast_S1x8x512x1x3_S1x8x512x1024x3_0_1_2_3_4 main_v308
  let main_v311 : FVec F S1x8x512x1024x3 .f32 := mulf main_v309 main_v310
  let main_v312 : FVec F S1x8x512x1024x3 .f32 := subf main_v294 main_v311
  let main_v313 : FVec F S1x8x512x1024x1 .f32 := (extractStridedSlice S1x8x512x1024x1 ![0, 0, 0, 0, 2] · slices_S1x8x512x1024x3_S1x8x512x1024x1_0_0_0_0_2) main_v312
  let main_v314 : FVec F S1x8x512x1024 .f32 := shapeCast S1x8x512x1024 main_v313 shapeCasts_S1x8x512x1024x1_S1x8x512x1024
  let main_v315 : FVec F S1x8x512x1024 .f32 := mulf main_v314 main_v314
  let main_cst_31 : FVec F S_ .f32 := constant S_ .f32 0x00000000#32
  let main_v316 : FVec F S1x8x512 .f32 := (fun x v => Host.reduceAdd x v reducesTo_S1x8x512x1024_S1x8x512_d3 h_S_) main_v315 main_cst_31
  let main_v317 : FVec F S1x8x512x1 .f32 := broadcastInDim S1x8x512x1 ![0, 1, 2] bcast_S1x8x512_S1x8x512x1_0_1_2 main_v316
  let main_v318 : FVec F S1x8x512x1 .f32 := Host.sqrt main_v317
  let main_v319 : FVec F S1x8x512x1024 .f32 := broadcastInDim S1x8x512x1024 ![0, 1, 2, 3] bcast_S1x8x512x1_S1x8x512x1024_0_1_2_3 main_v318
  let main_v320 : FVec F S1x8x512x1024 .f32 := Host.divf main_v314 main_v319
  let main_v321 : FVec F S1x8x512x1024x1 .f32 := broadcastInDim S1x8x512x1024x1 ![0, 1, 2, 3] bcast_S1x8x512x1024_S1x8x512x1024x1_0_1_2_3 main_v320
  let main_v322 : FVec F S1x8x512x1024x3 .f32 := broadcastInDim S1x8x512x1024x3 ![0, 1, 2, 3, 4] bcast_S1x8x512x1024x1_S1x8x512x1024x3_0_1_2_3_4 main_v321
  let main_v323 : FVec F S1x8x512x1024x3 .f32 := mulf main_v322 main_v312
  let main_cst_32 : FVec F S_ .f32 := constant S_ .f32 0x00000000#32
  let main_v324 : FVec F S1x8x512x3 .f32 := (fun x v => Host.reduceAdd x v reducesTo_S1x8x512x1024x3_S1x8x512x3_d3 h_S_) main_v323 main_cst_32
  fn_part15 (F := F) main_arg1 main_v0 main_v11 main_v76 main_v183 main_v269 main_v288 main_v306 main_v312 main_v320 main_v324

def fn_part13 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v269 : FVec F S1x8x512x4x4 .f32) (main_v276 : FVec F S1x8x512x1024x3 .f32) (main_v278 : FVec F S1x8x512x1024 .f32) (main_v281 : FVec F S1x8x512x1 .f32) : IVec S_ 1 :=
  let main_v282 : FVec F S1x8x512x1 .f32 := Host.sqrt main_v281
  let main_v283 : FVec F S1x8x512x1024 .f32 := broadcastInDim S1x8x512x1024 ![0, 1, 2, 3] bcast_S1x8x512x1_S1x8x512x1024_0_1_2_3 main_v282
  let main_v284 : FVec F S1x8x512x1024 .f32 := Host.divf main_v278 main_v283
  let main_v285 : FVec F S1x8x512x1024x1 .f32 := broadcastInDim S1x8x512x1024x1 ![0, 1, 2, 3] bcast_S1x8x512x1024_S1x8x512x1024x1_0_1_2_3 main_v284
  let main_v286 : FVec F S1x8x512x1024x3 .f32 := broadcastInDim S1x8x512x1024x3 ![0, 1, 2, 3, 4] bcast_S1x8x512x1024x1_S1x8x512x1024x3_0_1_2_3_4 main_v285
  let main_v287 : FVec F S1x8x512x1024x3 .f32 := mulf main_v286 main_v276
  let main_cst_28 : FVec F S_ .f32 := constant S_ .f32 0x00000000#32
  let main_v288 : FVec F S1x8x512x3 .f32 := (fun x v => Host.reduceAdd x v reducesTo_S1x8x512x1024x3_S1x8x512x3_d3 h_S_) main_v287 main_cst_28
  let main_v289 : FVec F S1x8x512x1024x1 .f32 := broadcastInDim S1x8x512x1024x1 ![0, 1, 2, 3] bcast_S1x8x512x1024_S1x8x512x1024x1_0_1_2_3 main_v284
  let main_v290 : FVec F S1x8x512x1x3 .f32 := broadcastInDim S1x8x512x1x3 ![0, 1, 2, 4] bcast_S1x8x512x3_S1x8x512x1x3_0_1_2_4 main_v288
  let main_v291 : FVec F S1x8x512x1024x3 .f32 := broadcastInDim S1x8x512x1024x3 ![0, 1, 2, 3, 4] bcast_S1x8x512x1024x1_S1x8x512x1024x3_0_1_2_3_4 main_v289
  let main_v292 : FVec F S1x8x512x1024x3 .f32 := broadcastInDim S1x8x512x1024x3 ![0, 1, 2, 3, 4] bcast_S1x8x512x1x3_S1x8x512x1024x3_0_1_2_3_4 main_v290
  let main_v293 : FVec F S1x8x512x1024x3 .f32 := mulf main_v291 main_v292
  let main_v294 : FVec F S1x8x512x1024x3 .f32 := subf main_v276 main_v293
  let main_v295 : FVec F S1x8x512x1024x1 .f32 := (extractStridedSlice S1x8x512x1024x1 ![0, 0, 0, 0, 1] · slices_S1x8x512x1024x3_S1x8x512x1024x1_0_0_0_0_1) main_v294
  let main_v296 : FVec F S1x8x512x1024 .f32 := shapeCast S1x8x512x1024 main_v295 shapeCasts_S1x8x512x1024x1_S1x8x512x1024
  let main_v297 : FVec F S1x8x512x1024 .f32 := mulf main_v296 main_v296
  let main_cst_29 : FVec F S_ .f32 := constant S_ .f32 0x00000000#32
  let main_v298 : FVec F S1x8x512 .f32 := (fun x v => Host.reduceAdd x v reducesTo_S1x8x512x1024_S1x8x512_d3 h_S_) main_v297 main_cst_29
  let main_v299 : FVec F S1x8x512x1 .f32 := broadcastInDim S1x8x512x1 ![0, 1, 2] bcast_S1x8x512_S1x8x512x1_0_1_2 main_v298
  let main_v300 : FVec F S1x8x512x1 .f32 := Host.sqrt main_v299
  let main_v301 : FVec F S1x8x512x1024 .f32 := broadcastInDim S1x8x512x1024 ![0, 1, 2, 3] bcast_S1x8x512x1_S1x8x512x1024_0_1_2_3 main_v300
  let main_v302 : FVec F S1x8x512x1024 .f32 := Host.divf main_v296 main_v301
  let main_v303 : FVec F S1x8x512x1024x1 .f32 := broadcastInDim S1x8x512x1024x1 ![0, 1, 2, 3] bcast_S1x8x512x1024_S1x8x512x1024x1_0_1_2_3 main_v302
  fn_part14 (F := F) main_arg1 main_v0 main_v11 main_v76 main_v183 main_v269 main_v288 main_v294 main_v302 main_v303

def fn_part12 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v204 : FVec F S1x8x512x4 .f32) (main_v222 : FVec F S1x8x512x4 .f32) (main_v240 : FVec F S1x8x512x4 .f32) (main_v246 : FVec F S1x8x512x1024x4 .f32) (main_v254 : FVec F S1x8x512x1024 .f32) (main_v258 : FVec F S1x8x512x4 .f32) : IVec S_ 1 :=
  let main_v259 : FVec F S1x8x512x1024x1 .f32 := broadcastInDim S1x8x512x1024x1 ![0, 1, 2, 3] bcast_S1x8x512x1024_S1x8x512x1024x1_0_1_2_3 main_v254
  let main_v260 : FVec F S1x8x512x1x4 .f32 := broadcastInDim S1x8x512x1x4 ![0, 1, 2, 4] bcast_S1x8x512x4_S1x8x512x1x4_0_1_2_4 main_v258
  let main_v261 : FVec F S1x8x512x1024x4 .f32 := broadcastInDim S1x8x512x1024x4 ![0, 1, 2, 3, 4] bcast_S1x8x512x1024x1_S1x8x512x1024x4_0_1_2_3_4 main_v259
  let main_v262 : FVec F S1x8x512x1024x4 .f32 := broadcastInDim S1x8x512x1024x4 ![0, 1, 2, 3, 4] bcast_S1x8x512x1x4_S1x8x512x1024x4_0_1_2_3_4 main_v260
  let main_v263 : FVec F S1x8x512x1024x4 .f32 := mulf main_v261 main_v262
  let main_v264 : FVec F S1x8x512x1024x4 .f32 := subf main_v246 main_v263
  let main_v265 : FVec F S1x8x512x1x4 .f32 := broadcastInDim S1x8x512x1x4 ![0, 1, 2, 4] bcast_S1x8x512x4_S1x8x512x1x4_0_1_2_4 main_v204
  let main_v266 : FVec F S1x8x512x1x4 .f32 := broadcastInDim S1x8x512x1x4 ![0, 1, 2, 4] bcast_S1x8x512x4_S1x8x512x1x4_0_1_2_4 main_v222
  let main_v267 : FVec F S1x8x512x1x4 .f32 := broadcastInDim S1x8x512x1x4 ![0, 1, 2, 4] bcast_S1x8x512x4_S1x8x512x1x4_0_1_2_4 main_v240
  let main_v268 : FVec F S1x8x512x1x4 .f32 := broadcastInDim S1x8x512x1x4 ![0, 1, 2, 4] bcast_S1x8x512x4_S1x8x512x1x4_0_1_2_4 main_v258
  let main_v269 : FVec F S1x8x512x4x4 .f32 := concatenate S1x8x512x4x4 3 [⟨S1x8x512x1x4, main_v265⟩, ⟨S1x8x512x1x4, main_v266⟩, ⟨S1x8x512x1x4, main_v267⟩, ⟨S1x8x512x1x4, main_v268⟩] concatenates_S1x8x512x1x4_S1x8x512x1x4_S1x8x512x1x4_S1x8x512x1x4_S1x8x512x4x4_d3
  let main_v270 : FVec F S1x8x512x1024 .f32 := (extractStridedSlice S1x8x512x1024 ![6, 0, 0, 0] · slices_S9x8x512x1024_S1x8x512x1024_6_0_0_0) main_v0
  let main_v271 : FVec F S1x8x512x1024 .f32 := (extractStridedSlice S1x8x512x1024 ![7, 0, 0, 0] · slices_S9x8x512x1024_S1x8x512x1024_7_0_0_0) main_v0
  let main_v272 : FVec F S1x8x512x1024 .f32 := (extractStridedSlice S1x8x512x1024 ![8, 0, 0, 0] · slices_S9x8x512x1024_S1x8x512x1024_8_0_0_0) main_v0
  let main_v273 : FVec F S1x8x512x1024x1 .f32 := broadcastInDim S1x8x512x1024x1 ![0, 1, 2, 3] bcast_S1x8x512x1024_S1x8x512x1024x1_0_1_2_3 main_v270
  let main_v274 : FVec F S1x8x512x1024x1 .f32 := broadcastInDim S1x8x512x1024x1 ![0, 1, 2, 3] bcast_S1x8x512x1024_S1x8x512x1024x1_0_1_2_3 main_v271
  let main_v275 : FVec F S1x8x512x1024x1 .f32 := broadcastInDim S1x8x512x1024x1 ![0, 1, 2, 3] bcast_S1x8x512x1024_S1x8x512x1024x1_0_1_2_3 main_v272
  let main_v276 : FVec F S1x8x512x1024x3 .f32 := concatenate S1x8x512x1024x3 4 [⟨S1x8x512x1024x1, main_v273⟩, ⟨S1x8x512x1024x1, main_v274⟩, ⟨S1x8x512x1024x1, main_v275⟩] concatenates_S1x8x512x1024x1_S1x8x512x1024x1_S1x8x512x1024x1_S1x8x512x1024x3_d4
  let main_v277 : FVec F S1x8x512x1024x1 .f32 := (extractStridedSlice S1x8x512x1024x1 ![0, 0, 0, 0, 0] · slices_S1x8x512x1024x3_S1x8x512x1024x1_0_0_0_0_0) main_v276
  let main_v278 : FVec F S1x8x512x1024 .f32 := shapeCast S1x8x512x1024 main_v277 shapeCasts_S1x8x512x1024x1_S1x8x512x1024
  let main_v279 : FVec F S1x8x512x1024 .f32 := mulf main_v278 main_v278
  let main_cst_27 : FVec F S_ .f32 := constant S_ .f32 0x00000000#32
  let main_v280 : FVec F S1x8x512 .f32 := (fun x v => Host.reduceAdd x v reducesTo_S1x8x512x1024_S1x8x512_d3 h_S_) main_v279 main_cst_27
  let main_v281 : FVec F S1x8x512x1 .f32 := broadcastInDim S1x8x512x1 ![0, 1, 2] bcast_S1x8x512_S1x8x512x1_0_1_2 main_v280
  fn_part13 (F := F) main_arg1 main_v0 main_v11 main_v76 main_v183 main_v269 main_v276 main_v278 main_v281

def fn_part11 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v204 : FVec F S1x8x512x4 .f32) (main_v222 : FVec F S1x8x512x4 .f32) (main_v228 : FVec F S1x8x512x1024x4 .f32) (main_v236 : FVec F S1x8x512x1024 .f32) (main_v237 : FVec F S1x8x512x1024x1 .f32) : IVec S_ 1 :=
  let main_v238 : FVec F S1x8x512x1024x4 .f32 := broadcastInDim S1x8x512x1024x4 ![0, 1, 2, 3, 4] bcast_S1x8x512x1024x1_S1x8x512x1024x4_0_1_2_3_4 main_v237
  let main_v239 : FVec F S1x8x512x1024x4 .f32 := mulf main_v238 main_v228
  let main_cst_24 : FVec F S_ .f32 := constant S_ .f32 0x00000000#32
  let main_v240 : FVec F S1x8x512x4 .f32 := (fun x v => Host.reduceAdd x v reducesTo_S1x8x512x1024x4_S1x8x512x4_d3 h_S_) main_v239 main_cst_24
  let main_v241 : FVec F S1x8x512x1024x1 .f32 := broadcastInDim S1x8x512x1024x1 ![0, 1, 2, 3] bcast_S1x8x512x1024_S1x8x512x1024x1_0_1_2_3 main_v236
  let main_v242 : FVec F S1x8x512x1x4 .f32 := broadcastInDim S1x8x512x1x4 ![0, 1, 2, 4] bcast_S1x8x512x4_S1x8x512x1x4_0_1_2_4 main_v240
  let main_v243 : FVec F S1x8x512x1024x4 .f32 := broadcastInDim S1x8x512x1024x4 ![0, 1, 2, 3, 4] bcast_S1x8x512x1024x1_S1x8x512x1024x4_0_1_2_3_4 main_v241
  let main_v244 : FVec F S1x8x512x1024x4 .f32 := broadcastInDim S1x8x512x1024x4 ![0, 1, 2, 3, 4] bcast_S1x8x512x1x4_S1x8x512x1024x4_0_1_2_3_4 main_v242
  let main_v245 : FVec F S1x8x512x1024x4 .f32 := mulf main_v243 main_v244
  let main_v246 : FVec F S1x8x512x1024x4 .f32 := subf main_v228 main_v245
  let main_v247 : FVec F S1x8x512x1024x1 .f32 := (extractStridedSlice S1x8x512x1024x1 ![0, 0, 0, 0, 3] · slices_S1x8x512x1024x4_S1x8x512x1024x1_0_0_0_0_3) main_v246
  let main_v248 : FVec F S1x8x512x1024 .f32 := shapeCast S1x8x512x1024 main_v247 shapeCasts_S1x8x512x1024x1_S1x8x512x1024
  let main_v249 : FVec F S1x8x512x1024 .f32 := mulf main_v248 main_v248
  let main_cst_25 : FVec F S_ .f32 := constant S_ .f32 0x00000000#32
  let main_v250 : FVec F S1x8x512 .f32 := (fun x v => Host.reduceAdd x v reducesTo_S1x8x512x1024_S1x8x512_d3 h_S_) main_v249 main_cst_25
  let main_v251 : FVec F S1x8x512x1 .f32 := broadcastInDim S1x8x512x1 ![0, 1, 2] bcast_S1x8x512_S1x8x512x1_0_1_2 main_v250
  let main_v252 : FVec F S1x8x512x1 .f32 := Host.sqrt main_v251
  let main_v253 : FVec F S1x8x512x1024 .f32 := broadcastInDim S1x8x512x1024 ![0, 1, 2, 3] bcast_S1x8x512x1_S1x8x512x1024_0_1_2_3 main_v252
  let main_v254 : FVec F S1x8x512x1024 .f32 := Host.divf main_v248 main_v253
  let main_v255 : FVec F S1x8x512x1024x1 .f32 := broadcastInDim S1x8x512x1024x1 ![0, 1, 2, 3] bcast_S1x8x512x1024_S1x8x512x1024x1_0_1_2_3 main_v254
  let main_v256 : FVec F S1x8x512x1024x4 .f32 := broadcastInDim S1x8x512x1024x4 ![0, 1, 2, 3, 4] bcast_S1x8x512x1024x1_S1x8x512x1024x4_0_1_2_3_4 main_v255
  let main_v257 : FVec F S1x8x512x1024x4 .f32 := mulf main_v256 main_v246
  let main_cst_26 : FVec F S_ .f32 := constant S_ .f32 0x00000000#32
  let main_v258 : FVec F S1x8x512x4 .f32 := (fun x v => Host.reduceAdd x v reducesTo_S1x8x512x1024x4_S1x8x512x4_d3 h_S_) main_v257 main_cst_26
  fn_part12 (F := F) main_arg1 main_v0 main_v11 main_v76 main_v183 main_v204 main_v222 main_v240 main_v246 main_v254 main_v258

def fn_part10 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v204 : FVec F S1x8x512x4 .f32) (main_v210 : FVec F S1x8x512x1024x4 .f32) (main_v212 : FVec F S1x8x512x1024 .f32) (main_v215 : FVec F S1x8x512x1 .f32) : IVec S_ 1 :=
  let main_v216 : FVec F S1x8x512x1 .f32 := Host.sqrt main_v215
  let main_v217 : FVec F S1x8x512x1024 .f32 := broadcastInDim S1x8x512x1024 ![0, 1, 2, 3] bcast_S1x8x512x1_S1x8x512x1024_0_1_2_3 main_v216
  let main_v218 : FVec F S1x8x512x1024 .f32 := Host.divf main_v212 main_v217
  let main_v219 : FVec F S1x8x512x1024x1 .f32 := broadcastInDim S1x8x512x1024x1 ![0, 1, 2, 3] bcast_S1x8x512x1024_S1x8x512x1024x1_0_1_2_3 main_v218
  let main_v220 : FVec F S1x8x512x1024x4 .f32 := broadcastInDim S1x8x512x1024x4 ![0, 1, 2, 3, 4] bcast_S1x8x512x1024x1_S1x8x512x1024x4_0_1_2_3_4 main_v219
  let main_v221 : FVec F S1x8x512x1024x4 .f32 := mulf main_v220 main_v210
  let main_cst_22 : FVec F S_ .f32 := constant S_ .f32 0x00000000#32
  let main_v222 : FVec F S1x8x512x4 .f32 := (fun x v => Host.reduceAdd x v reducesTo_S1x8x512x1024x4_S1x8x512x4_d3 h_S_) main_v221 main_cst_22
  let main_v223 : FVec F S1x8x512x1024x1 .f32 := broadcastInDim S1x8x512x1024x1 ![0, 1, 2, 3] bcast_S1x8x512x1024_S1x8x512x1024x1_0_1_2_3 main_v218
  let main_v224 : FVec F S1x8x512x1x4 .f32 := broadcastInDim S1x8x512x1x4 ![0, 1, 2, 4] bcast_S1x8x512x4_S1x8x512x1x4_0_1_2_4 main_v222
  let main_v225 : FVec F S1x8x512x1024x4 .f32 := broadcastInDim S1x8x512x1024x4 ![0, 1, 2, 3, 4] bcast_S1x8x512x1024x1_S1x8x512x1024x4_0_1_2_3_4 main_v223
  let main_v226 : FVec F S1x8x512x1024x4 .f32 := broadcastInDim S1x8x512x1024x4 ![0, 1, 2, 3, 4] bcast_S1x8x512x1x4_S1x8x512x1024x4_0_1_2_3_4 main_v224
  let main_v227 : FVec F S1x8x512x1024x4 .f32 := mulf main_v225 main_v226
  let main_v228 : FVec F S1x8x512x1024x4 .f32 := subf main_v210 main_v227
  let main_v229 : FVec F S1x8x512x1024x1 .f32 := (extractStridedSlice S1x8x512x1024x1 ![0, 0, 0, 0, 2] · slices_S1x8x512x1024x4_S1x8x512x1024x1_0_0_0_0_2) main_v228
  let main_v230 : FVec F S1x8x512x1024 .f32 := shapeCast S1x8x512x1024 main_v229 shapeCasts_S1x8x512x1024x1_S1x8x512x1024
  let main_v231 : FVec F S1x8x512x1024 .f32 := mulf main_v230 main_v230
  let main_cst_23 : FVec F S_ .f32 := constant S_ .f32 0x00000000#32
  let main_v232 : FVec F S1x8x512 .f32 := (fun x v => Host.reduceAdd x v reducesTo_S1x8x512x1024_S1x8x512_d3 h_S_) main_v231 main_cst_23
  let main_v233 : FVec F S1x8x512x1 .f32 := broadcastInDim S1x8x512x1 ![0, 1, 2] bcast_S1x8x512_S1x8x512x1_0_1_2 main_v232
  let main_v234 : FVec F S1x8x512x1 .f32 := Host.sqrt main_v233
  let main_v235 : FVec F S1x8x512x1024 .f32 := broadcastInDim S1x8x512x1024 ![0, 1, 2, 3] bcast_S1x8x512x1_S1x8x512x1024_0_1_2_3 main_v234
  let main_v236 : FVec F S1x8x512x1024 .f32 := Host.divf main_v230 main_v235
  let main_v237 : FVec F S1x8x512x1024x1 .f32 := broadcastInDim S1x8x512x1024x1 ![0, 1, 2, 3] bcast_S1x8x512x1024_S1x8x512x1024x1_0_1_2_3 main_v236
  fn_part11 (F := F) main_arg1 main_v0 main_v11 main_v76 main_v183 main_v204 main_v222 main_v228 main_v236 main_v237

def fn_part9 {F : FTy → Type} [FloatOps F] (main_arg1 : IVec S8x512 32) (main_v0 : FVec F S9x8x512x1024 .f32) (main_v11 : IVec S_ 1) (main_v76 : FVec F S2x8x512x3x3 .f32) (main_v183 : FVec F S5x8x512x5x5 .f32) (main_v192 : FVec F S1x8x512x1024x4 .f32) (main_v194 : FVec F S1x8x512x1024 .f32) : IVec S_ 1 :=
  let main_v195 : FVec F S1x8x512x1024 .f32 := mulf main_v194 main_v194
  let main_cst_19 : FVec F S_ .f32 := constant S_ .f32 0x00000000#32
  let main_v196 : FVec F S1x8x512 .f32 := (fun x v => Host.reduceAdd x v reducesTo_S1x8x512x1024_S1x8x512_d3 h_S_) main_v195 main_cst_19
  let main_v197 : FVec F S1x8x512x1 .f32 := broadcastInDim S1x8x512x1 ![0, 1, 2] bcast_S1x8x512_S1x8x512x1_0_1_2 main_v196
  let main_v198 : FVec F S1x8x512x1 .f32 := Host.sqrt main_v197
  let main_v199 : FVec F S1x8x512x1024 .f32 := broadcastInDim S1x8x512x1024 ![0, 1, 2, 3] bcast_S1x8x512x1_S1x8x512x1024_0_1_2_3 main_v198
  let main_v200 : FVec F S1x8x512x1024 .f32 := Host.divf main_v194 main_v199
  let main_v201 : FVec F S1x8x512x1024x1 .f32 := broadcastInDim S1x8x512x1024x1 ![0, 1, 2, 3] bcast_S1x8x512x1024_S1x8x512x1024x1_0_1_2_3 main_v200
  let main_v202 : FVec F S1x8x512x1024x4 .f32 := broadcastInDim S1x8x512x1024x4 ![0, 1, 2, 3, 4] bcast_S1x8x512x1024x1_S1x8x512x1024x4_0_1_2_3_4 main_v201
  let main_v203 : FVec F S1x8x512x1024x4 .f32 := mulf main_v202 main_v192
  let main_cst_20 : FVec F S_ .f32 := constant S_ .f32 0x00000000#32
  let main_v204 : FVec F S1x8x512x4 .f32 := (fun x v => Host.reduceAdd x v reducesTo_S1x8x512x1024x4_S1x8x512x4_d3 h_S_) main_v203 main_cst_20
  let main_v205 : FVec F S1x8x512x1024x1 .f32 := broadcastInDim S1x8x512x1024x1 ![0, 1, 2, 3] bcast_S1x8x512x1024_S1x8x512x1024x1_0_1_2_3 main_v200
  let main_v206 : FVec F S1x8x512x1x4 .f32 := broadcastInDim S1x8x512x1x4 ![0, 1, 2, 4] bcast_S1x8x512x4_S1x8x512x1x4_0_1_2_4 main_v204
  let main_v207 : FVec F S1x8x512x1024x4 .f32 := broadcastInDim S1x8x512x1024x4 ![0, 1, 2, 3, 4] bcast_S1x8x512x1024x1_S1x8x512x1024x4_0_1_2_3_4 main_v205
  let main_v208 : FVec F S1x8x512x1024x4 .f32 := broadcastInDim S1x8x512x1024x4 ![0, 1, 2, 3, 4] bcast_S1x8x512x1x4_S1x8x512x1024x4_0_1_2_3_4 main_v206
  let main_v209 : FVec F S1x8x512x1024x4 .f32 := mulf main_v207 main_v208
  let main_v210 : FVec F S1x8x512x1024x4 .f32 := subf main_v192 main_v209
  let main_v211 : FVec F S1x8x512x1024x1 .f32 := (extractStridedSlice S1x8x512x1024x1 ![0, 0, 0, 0, 1] · slices_S1x8x512x1024x4_S1x8x512x1024x1_0_0_0_0_1) main_v210
  let main_v212 : FVec F S1x8x512x1024 .f32 := shapeCast S1x8x512x1024 main_v211 shapeCasts_S1x8x512x1024x1_S1x8x512x1024
  let main_v213 : FVec F S1x8x512x1024 .f32 := mulf main_v212 main_v212
  let main_cst_21 : FVec F S_ .f32 := constant S_ .f32 0x00000000#32
  let main_v214 : FVec F S1x8x512 .f32 := (fun x v => Host.reduceAdd x v reducesTo_S1x8x512x1024_S1x8x512_d3 h_S_) main_v213 main_cst_21
  let main_v215 : FVec F S1x8x512x1 .f32 := broadcastInDim S1x8x512x1 ![0, 1, 2] bcast_S1x8x512_S1x8x512x1_0_1_2 main_v214
  fn_part10 (F := F) main_arg1 main_v0 main_v11 main_v76 main_v183 main_v204 main_v210 main_v212 main_v215

def fn_part8 {F : FTy → Type} [FloatOps F] (main_arg1 : IVec S8x512 32) (main_v0 : FVec F S9x8x512x1024 .f32) (main_v11 : IVec S_ 1) (main_v76 : FVec F S2x8x512x3x3 .f32) (main_v99 : FVec F S5x8x512x5 .f32) (main_v117 : FVec F S5x8x512x5 .f32) (main_v135 : FVec F S5x8x512x5 .f32) (main_v153 : FVec F S5x8x512x5 .f32) (main_v159 : FVec F S5x8x512x1024x5 .f32) (main_v167 : FVec F S5x8x512x1024 .f32) (main_v170 : FVec F S5x8x512x1024x5 .f32) (main_cst_18 : FVec F S_ .f32) : IVec S_ 1 :=
  let main_v171 : FVec F S5x8x512x5 .f32 := (fun x v => Host.reduceAdd x v reducesTo_S5x8x512x1024x5_S5x8x512x5_d3 h_S_) main_v170 main_cst_18
  let main_v172 : FVec F S5x8x512x1024x1 .f32 := broadcastInDim S5x8x512x1024x1 ![0, 1, 2, 3] bcast_S5x8x512x1024_S5x8x512x1024x1_0_1_2_3 main_v167
  let main_v173 : FVec F S5x8x512x1x5 .f32 := broadcastInDim S5x8x512x1x5 ![0, 1, 2, 4] bcast_S5x8x512x5_S5x8x512x1x5_0_1_2_4 main_v171
  let main_v174 : FVec F S5x8x512x1024x5 .f32 := broadcastInDim S5x8x512x1024x5 ![0, 1, 2, 3, 4] bcast_S5x8x512x1024x1_S5x8x512x1024x5_0_1_2_3_4 main_v172
  let main_v175 : FVec F S5x8x512x1024x5 .f32 := broadcastInDim S5x8x512x1024x5 ![0, 1, 2, 3, 4] bcast_S5x8x512x1x5_S5x8x512x1024x5_0_1_2_3_4 main_v173
  let main_v176 : FVec F S5x8x512x1024x5 .f32 := mulf main_v174 main_v175
  let main_v177 : FVec F S5x8x512x1024x5 .f32 := subf main_v159 main_v176
  let main_v178 : FVec F S5x8x512x1x5 .f32 := broadcastInDim S5x8x512x1x5 ![0, 1, 2, 4] bcast_S5x8x512x5_S5x8x512x1x5_0_1_2_4 main_v99
  let main_v179 : FVec F S5x8x512x1x5 .f32 := broadcastInDim S5x8x512x1x5 ![0, 1, 2, 4] bcast_S5x8x512x5_S5x8x512x1x5_0_1_2_4 main_v117
  let main_v180 : FVec F S5x8x512x1x5 .f32 := broadcastInDim S5x8x512x1x5 ![0, 1, 2, 4] bcast_S5x8x512x5_S5x8x512x1x5_0_1_2_4 main_v135
  let main_v181 : FVec F S5x8x512x1x5 .f32 := broadcastInDim S5x8x512x1x5 ![0, 1, 2, 4] bcast_S5x8x512x5_S5x8x512x1x5_0_1_2_4 main_v153
  let main_v182 : FVec F S5x8x512x1x5 .f32 := broadcastInDim S5x8x512x1x5 ![0, 1, 2, 4] bcast_S5x8x512x5_S5x8x512x1x5_0_1_2_4 main_v171
  let main_v183 : FVec F S5x8x512x5x5 .f32 := concatenate S5x8x512x5x5 3 [⟨S5x8x512x1x5, main_v178⟩, ⟨S5x8x512x1x5, main_v179⟩, ⟨S5x8x512x1x5, main_v180⟩, ⟨S5x8x512x1x5, main_v181⟩, ⟨S5x8x512x1x5, main_v182⟩] concatenates_S5x8x512x1x5_S5x8x512x1x5_S5x8x512x1x5_S5x8x512x1x5_S5x8x512x1x5_S5x8x512x5x5_d3
  let main_v184 : FVec F S1x8x512x1024 .f32 := (extractStridedSlice S1x8x512x1024 ![5, 0, 0, 0] · slices_S9x8x512x1024_S1x8x512x1024_5_0_0_0) main_v0
  let main_v185 : FVec F S1x8x512x1024 .f32 := (extractStridedSlice S1x8x512x1024 ![6, 0, 0, 0] · slices_S9x8x512x1024_S1x8x512x1024_6_0_0_0) main_v0
  let main_v186 : FVec F S1x8x512x1024 .f32 := (extractStridedSlice S1x8x512x1024 ![8, 0, 0, 0] · slices_S9x8x512x1024_S1x8x512x1024_8_0_0_0) main_v0
  let main_v187 : FVec F S1x8x512x1024 .f32 := (extractStridedSlice S1x8x512x1024 ![7, 0, 0, 0] · slices_S9x8x512x1024_S1x8x512x1024_7_0_0_0) main_v0
  let main_v188 : FVec F S1x8x512x1024x1 .f32 := broadcastInDim S1x8x512x1024x1 ![0, 1, 2, 3] bcast_S1x8x512x1024_S1x8x512x1024x1_0_1_2_3 main_v184
  let main_v189 : FVec F S1x8x512x1024x1 .f32 := broadcastInDim S1x8x512x1024x1 ![0, 1, 2, 3] bcast_S1x8x512x1024_S1x8x512x1024x1_0_1_2_3 main_v185
  let main_v190 : FVec F S1x8x512x1024x1 .f32 := broadcastInDim S1x8x512x1024x1 ![0, 1, 2, 3] bcast_S1x8x512x1024_S1x8x512x1024x1_0_1_2_3 main_v186
  let main_v191 : FVec F S1x8x512x1024x1 .f32 := broadcastInDim S1x8x512x1024x1 ![0, 1, 2, 3] bcast_S1x8x512x1024_S1x8x512x1024x1_0_1_2_3 main_v187
  let main_v192 : FVec F S1x8x512x1024x4 .f32 := concatenate S1x8x512x1024x4 4 [⟨S1x8x512x1024x1, main_v188⟩, ⟨S1x8x512x1024x1, main_v189⟩, ⟨S1x8x512x1024x1, main_v190⟩, ⟨S1x8x512x1024x1, main_v191⟩] concatenates_S1x8x512x1024x1_S1x8x512x1024x1_S1x8x512x1024x1_S1x8x512x1024x1_S1x8x512x1024x4_d4
  let main_v193 : FVec F S1x8x512x1024x1 .f32 := (extractStridedSlice S1x8x512x1024x1 ![0, 0, 0, 0, 0] · slices_S1x8x512x1024x4_S1x8x512x1024x1_0_0_0_0_0) main_v192
  let main_v194 : FVec F S1x8x512x1024 .f32 := shapeCast S1x8x512x1024 main_v193 shapeCasts_S1x8x512x1024x1_S1x8x512x1024
  fn_part9 (F := F) main_arg1 main_v0 main_v11 main_v76 main_v183 main_v192 main_v194

def fn_part7 {F : FTy → Type} [FloatOps F] (main_arg1 : IVec S8x512 32) (main_v0 : FVec F S9x8x512x1024 .f32) (main_v11 : IVec S_ 1) (main_v76 : FVec F S2x8x512x3x3 .f32) (main_v99 : FVec F S5x8x512x5 .f32) (main_v117 : FVec F S5x8x512x5 .f32) (main_v135 : FVec F S5x8x512x5 .f32) (main_v141 : FVec F S5x8x512x1024x5 .f32) (main_v149 : FVec F S5x8x512x1024 .f32) : IVec S_ 1 :=
  let main_v150 : FVec F S5x8x512x1024x1 .f32 := broadcastInDim S5x8x512x1024x1 ![0, 1, 2, 3] bcast_S5x8x512x1024_S5x8x512x1024x1_0_1_2_3 main_v149
  let main_v151 : FVec F S5x8x512x1024x5 .f32 := broadcastInDim S5x8x512x1024x5 ![0, 1, 2, 3, 4] bcast_S5x8x512x1024x1_S5x8x512x1024x5_0_1_2_3_4 main_v150
  let main_v152 : FVec F S5x8x512x1024x5 .f32 := mulf main_v151 main_v141
  let main_cst_16 : FVec F S_ .f32 := constant S_ .f32 0x00000000#32
  let main_v153 : FVec F S5x8x512x5 .f32 := (fun x v => Host.reduceAdd x v reducesTo_S5x8x512x1024x5_S5x8x512x5_d3 h_S_) main_v152 main_cst_16
  let main_v154 : FVec F S5x8x512x1024x1 .f32 := broadcastInDim S5x8x512x1024x1 ![0, 1, 2, 3] bcast_S5x8x512x1024_S5x8x512x1024x1_0_1_2_3 main_v149
  let main_v155 : FVec F S5x8x512x1x5 .f32 := broadcastInDim S5x8x512x1x5 ![0, 1, 2, 4] bcast_S5x8x512x5_S5x8x512x1x5_0_1_2_4 main_v153
  let main_v156 : FVec F S5x8x512x1024x5 .f32 := broadcastInDim S5x8x512x1024x5 ![0, 1, 2, 3, 4] bcast_S5x8x512x1024x1_S5x8x512x1024x5_0_1_2_3_4 main_v154
  let main_v157 : FVec F S5x8x512x1024x5 .f32 := broadcastInDim S5x8x512x1024x5 ![0, 1, 2, 3, 4] bcast_S5x8x512x1x5_S5x8x512x1024x5_0_1_2_3_4 main_v155
  let main_v158 : FVec F S5x8x512x1024x5 .f32 := mulf main_v156 main_v157
  let main_v159 : FVec F S5x8x512x1024x5 .f32 := subf main_v141 main_v158
  let main_v160 : FVec F S5x8x512x1024x1 .f32 := (extractStridedSlice S5x8x512x1024x1 ![0, 0, 0, 0, 4] · slices_S5x8x512x1024x5_S5x8x512x1024x1_0_0_0_0_4) main_v159
  let main_v161 : FVec F S5x8x512x1024 .f32 := shapeCast S5x8x512x1024 main_v160 shapeCasts_S5x8x512x1024x1_S5x8x512x1024
  let main_v162 : FVec F S5x8x512x1024 .f32 := mulf main_v161 main_v161
  let main_cst_17 : FVec F S_ .f32 := constant S_ .f32 0x00000000#32
  let main_v163 : FVec F S5x8x512 .f32 := (fun x v => Host.reduceAdd x v reducesTo_S5x8x512x1024_S5x8x512_d3 h_S_) main_v162 main_cst_17
  let main_v164 : FVec F S5x8x512x1 .f32 := broadcastInDim S5x8x512x1 ![0, 1, 2] bcast_S5x8x512_S5x8x512x1_0_1_2 main_v163
  let main_v165 : FVec F S5x8x512x1 .f32 := Host.sqrt main_v164
  let main_v166 : FVec F S5x8x512x1024 .f32 := broadcastInDim S5x8x512x1024 ![0, 1, 2, 3] bcast_S5x8x512x1_S5x8x512x1024_0_1_2_3 main_v165
  let main_v167 : FVec F S5x8x512x1024 .f32 := Host.divf main_v161 main_v166
  let main_v168 : FVec F S5x8x512x1024x1 .f32 := broadcastInDim S5x8x512x1024x1 ![0, 1, 2, 3] bcast_S5x8x512x1024_S5x8x512x1024x1_0_1_2_3 main_v167
  let main_v169 : FVec F S5x8x512x1024x5 .f32 := broadcastInDim S5x8x512x1024x5 ![0, 1, 2, 3, 4] bcast_S5x8x512x1024x1_S5x8x512x1024x5_0_1_2_3_4 main_v168
  let main_v170 : FVec F S5x8x512x1024x5 .f32 := mulf main_v169 main_v159
  let main_cst_18 : FVec F S_ .f32 := constant S_ .f32 0x00000000#32
  fn_part8 (F := F) main_arg1 main_v0 main_v11 main_v76 main_v99 main_v117 main_v135 main_v153 main_v159 main_v167 main_v170 main_cst_18

def fn_part6 {F : FTy → Type} [FloatOps F] (main_arg1 : IVec S8x512 32) (main_v0 : FVec F S9x8x512x1024 .f32) (main_v11 : IVec S_ 1) (main_v76 : FVec F S2x8x512x3x3 .f32) (main_v99 : FVec F S5x8x512x5 .f32) (main_v117 : FVec F S5x8x512x5 .f32) (main_v123 : FVec F S5x8x512x1024x5 .f32) (main_v125 : FVec F S5x8x512x1024 .f32) (main_v127 : FVec F S5x8x512 .f32) : IVec S_ 1 :=
  let main_v128 : FVec F S5x8x512x1 .f32 := broadcastInDim S5x8x512x1 ![0, 1, 2] bcast_S5x8x512_S5x8x512x1_0_1_2 main_v127
  let main_v129 : FVec F S5x8x512x1 .f32 := Host.sqrt main_v128
  let main_v130 : FVec F S5x8x512x1024 .f32 := broadcastInDim S5x8x512x1024 ![0, 1, 2, 3] bcast_S5x8x512x1_S5x8x512x1024_0_1_2_3 main_v129
  let main_v131 : FVec F S5x8x512x1024 .f32 := Host.divf main_v125 main_v130
  let main_v132 : FVec F S5x8x512x1024x1 .f32 := broadcastInDim S5x8x512x1024x1 ![0, 1, 2, 3] bcast_S5x8x512x1024_S5x8x512x1024x1_0_1_2_3 main_v131
  let main_v133 : FVec F S5x8x512x1024x5 .f32 := broadcastInDim S5x8x512x1024x5 ![0, 1, 2, 3, 4] bcast_S5x8x512x1024x1_S5x8x512x1024x5_0_1_2_3_4 main_v132
  let main_v134 : FVec F S5x8x512x1024x5 .f32 := mulf main_v133 main_v123
  let main_cst_14 : FVec F S_ .f32 := constant S_ .f32 0x00000000#32
  let main_v135 : FVec F S5x8x512x5 .f32 := (fun x v => Host.reduceAdd x v reducesTo_S5x8x512x1024x5_S5x8x512x5_d3 h_S_) main_v134 main_cst_14
  let main_v136 : FVec F S5x8x512x1024x1 .f32 := broadcastInDim S5x8x512x1024x1 ![0, 1, 2, 3] bcast_S5x8x512x1024_S5x8x512x1024x1_0_1_2_3 main_v131
  let main_v137 : FVec F S5x8x512x1x5 .f32 := broadcastInDim S5x8x512x1x5 ![0, 1, 2, 4] bcast_S5x8x512x5_S5x8x512x1x5_0_1_2_4 main_v135
  let main_v138 : FVec F S5x8x512x1024x5 .f32 := broadcastInDim S5x8x512x1024x5 ![0, 1, 2, 3, 4] bcast_S5x8x512x1024x1_S5x8x512x1024x5_0_1_2_3_4 main_v136
  let main_v139 : FVec F S5x8x512x1024x5 .f32 := broadcastInDim S5x8x512x1024x5 ![0, 1, 2, 3, 4] bcast_S5x8x512x1x5_S5x8x512x1024x5_0_1_2_3_4 main_v137
  let main_v140 : FVec F S5x8x512x1024x5 .f32 := mulf main_v138 main_v139
  let main_v141 : FVec F S5x8x512x1024x5 .f32 := subf main_v123 main_v140
  let main_v142 : FVec F S5x8x512x1024x1 .f32 := (extractStridedSlice S5x8x512x1024x1 ![0, 0, 0, 0, 3] · slices_S5x8x512x1024x5_S5x8x512x1024x1_0_0_0_0_3) main_v141
  let main_v143 : FVec F S5x8x512x1024 .f32 := shapeCast S5x8x512x1024 main_v142 shapeCasts_S5x8x512x1024x1_S5x8x512x1024
  let main_v144 : FVec F S5x8x512x1024 .f32 := mulf main_v143 main_v143
  let main_cst_15 : FVec F S_ .f32 := constant S_ .f32 0x00000000#32
  let main_v145 : FVec F S5x8x512 .f32 := (fun x v => Host.reduceAdd x v reducesTo_S5x8x512x1024_S5x8x512_d3 h_S_) main_v144 main_cst_15
  let main_v146 : FVec F S5x8x512x1 .f32 := broadcastInDim S5x8x512x1 ![0, 1, 2] bcast_S5x8x512_S5x8x512x1_0_1_2 main_v145
  let main_v147 : FVec F S5x8x512x1 .f32 := Host.sqrt main_v146
  let main_v148 : FVec F S5x8x512x1024 .f32 := broadcastInDim S5x8x512x1024 ![0, 1, 2, 3] bcast_S5x8x512x1_S5x8x512x1024_0_1_2_3 main_v147
  let main_v149 : FVec F S5x8x512x1024 .f32 := Host.divf main_v143 main_v148
  fn_part7 (F := F) main_arg1 main_v0 main_v11 main_v76 main_v99 main_v117 main_v135 main_v141 main_v149

def fn_part5 {F : FTy → Type} [FloatOps F] (main_arg1 : IVec S8x512 32) (main_v0 : FVec F S9x8x512x1024 .f32) (main_v11 : IVec S_ 1) (main_v76 : FVec F S2x8x512x3x3 .f32) (main_v99 : FVec F S5x8x512x5 .f32) (main_v105 : FVec F S5x8x512x1024x5 .f32) (main_v106 : FVec F S5x8x512x1024x1 .f32) : IVec S_ 1 :=
  let main_v107 : FVec F S5x8x512x1024 .f32 := shapeCast S5x8x512x1024 main_v106 shapeCasts_S5x8x512x1024x1_S5x8x512x1024
  let main_v108 : FVec F S5x8x512x1024 .f32 := mulf main_v107 main_v107
  let main_cst_11 : FVec F S_ .f32 := constant S_ .f32 0x00000000#32
  let main_v109 : FVec F S5x8x512 .f32 := (fun x v => Host.reduceAdd x v reducesTo_S5x8x512x1024_S5x8x512_d3 h_S_) main_v108 main_cst_11
  let main_v110 : FVec F S5x8x512x1 .f32 := broadcastInDim S5x8x512x1 ![0, 1, 2] bcast_S5x8x512_S5x8x512x1_0_1_2 main_v109
  let main_v111 : FVec F S5x8x512x1 .f32 := Host.sqrt main_v110
  let main_v112 : FVec F S5x8x512x1024 .f32 := broadcastInDim S5x8x512x1024 ![0, 1, 2, 3] bcast_S5x8x512x1_S5x8x512x1024_0_1_2_3 main_v111
  let main_v113 : FVec F S5x8x512x1024 .f32 := Host.divf main_v107 main_v112
  let main_v114 : FVec F S5x8x512x1024x1 .f32 := broadcastInDim S5x8x512x1024x1 ![0, 1, 2, 3] bcast_S5x8x512x1024_S5x8x512x1024x1_0_1_2_3 main_v113
  let main_v115 : FVec F S5x8x512x1024x5 .f32 := broadcastInDim S5x8x512x1024x5 ![0, 1, 2, 3, 4] bcast_S5x8x512x1024x1_S5x8x512x1024x5_0_1_2_3_4 main_v114
  let main_v116 : FVec F S5x8x512x1024x5 .f32 := mulf main_v115 main_v105
  let main_cst_12 : FVec F S_ .f32 := constant S_ .f32 0x00000000#32
  let main_v117 : FVec F S5x8x512x5 .f32 := (fun x v => Host.reduceAdd x v reducesTo_S5x8x512x1024x5_S5x8x512x5_d3 h_S_) main_v116 main_cst_12
  let main_v118 : FVec F S5x8x512x1024x1 .f32 := broadcastInDim S5x8x512x1024x1 ![0, 1, 2, 3] bcast_S5x8x512x1024_S5x8x512x1024x1_0_1_2_3 main_v113
  let main_v119 : FVec F S5x8x512x1x5 .f32 := broadcastInDim S5x8x512x1x5 ![0, 1, 2, 4] bcast_S5x8x512x5_S5x8x512x1x5_0_1_2_4 main_v117
  let main_v120 : FVec F S5x8x512x1024x5 .f32 := broadcastInDim S5x8x512x1024x5 ![0, 1, 2, 3, 4] bcast_S5x8x512x1024x1_S5x8x512x1024x5_0_1_2_3_4 main_v118
  let main_v121 : FVec F S5x8x512x1024x5 .f32 := broadcastInDim S5x8x512x1024x5 ![0, 1, 2, 3, 4] bcast_S5x8x512x1x5_S5x8x512x1024x5_0_1_2_3_4 main_v119
  let main_v122 : FVec F S5x8x512x1024x5 .f32 := mulf main_v120 main_v121
  let main_v123 : FVec F S5x8x512x1024x5 .f32 := subf main_v105 main_v122
  let main_v124 : FVec F S5x8x512x1024x1 .f32 := (extractStridedSlice S5x8x512x1024x1 ![0, 0, 0, 0, 2] · slices_S5x8x512x1024x5_S5x8x512x1024x1_0_0_0_0_2) main_v123
  let main_v125 : FVec F S5x8x512x1024 .f32 := shapeCast S5x8x512x1024 main_v124 shapeCasts_S5x8x512x1024x1_S5x8x512x1024
  let main_v126 : FVec F S5x8x512x1024 .f32 := mulf main_v125 main_v125
  let main_cst_13 : FVec F S_ .f32 := constant S_ .f32 0x00000000#32
  let main_v127 : FVec F S5x8x512 .f32 := (fun x v => Host.reduceAdd x v reducesTo_S5x8x512x1024_S5x8x512_d3 h_S_) main_v126 main_cst_13
  fn_part6 (F := F) main_arg1 main_v0 main_v11 main_v76 main_v99 main_v117 main_v123 main_v125 main_v127

def fn_part4 {F : FTy → Type} [FloatOps F] (main_arg1 : IVec S8x512 32) (main_v0 : FVec F S9x8x512x1024 .f32) (main_v11 : IVec S_ 1) (main_v76 : FVec F S2x8x512x3x3 .f32) (main_v80 : FVec F S5x8x512x1024 .f32) (main_v81 : FVec F S5x8x512x1024 .f32) (main_v82 : FVec F S5x8x512x1024x1 .f32) (main_v83 : FVec F S5x8x512x1024x1 .f32) (main_v84 : FVec F S5x8x512x1024x1 .f32) : IVec S_ 1 :=
  let main_v85 : FVec F S5x8x512x1024x1 .f32 := broadcastInDim S5x8x512x1024x1 ![0, 1, 2, 3] bcast_S5x8x512x1024_S5x8x512x1024x1_0_1_2_3 main_v80
  let main_v86 : FVec F S5x8x512x1024x1 .f32 := broadcastInDim S5x8x512x1024x1 ![0, 1, 2, 3] bcast_S5x8x512x1024_S5x8x512x1024x1_0_1_2_3 main_v81
  let main_v87 : FVec F S5x8x512x1024x5 .f32 := concatenate S5x8x512x1024x5 4 [⟨S5x8x512x1024x1, main_v82⟩, ⟨S5x8x512x1024x1, main_v83⟩, ⟨S5x8x512x1024x1, main_v84⟩, ⟨S5x8x512x1024x1, main_v85⟩, ⟨S5x8x512x1024x1, main_v86⟩] concatenates_S5x8x512x1024x1_S5x8x512x1024x1_S5x8x512x1024x1_S5x8x512x1024x1_S5x8x512x1024x1_S5x8x512x1024x5_d4
  let main_v88 : FVec F S5x8x512x1024x1 .f32 := (extractStridedSlice S5x8x512x1024x1 ![0, 0, 0, 0, 0] · slices_S5x8x512x1024x5_S5x8x512x1024x1_0_0_0_0_0) main_v87
  let main_v89 : FVec F S5x8x512x1024 .f32 := shapeCast S5x8x512x1024 main_v88 shapeCasts_S5x8x512x1024x1_S5x8x512x1024
  let main_v90 : FVec F S5x8x512x1024 .f32 := mulf main_v89 main_v89
  let main_cst_9 : FVec F S_ .f32 := constant S_ .f32 0x00000000#32
  let main_v91 : FVec F S5x8x512 .f32 := (fun x v => Host.reduceAdd x v reducesTo_S5x8x512x1024_S5x8x512_d3 h_S_) main_v90 main_cst_9
  let main_v92 : FVec F S5x8x512x1 .f32 := broadcastInDim S5x8x512x1 ![0, 1, 2] bcast_S5x8x512_S5x8x512x1_0_1_2 main_v91
  let main_v93 : FVec F S5x8x512x1 .f32 := Host.sqrt main_v92
  let main_v94 : FVec F S5x8x512x1024 .f32 := broadcastInDim S5x8x512x1024 ![0, 1, 2, 3] bcast_S5x8x512x1_S5x8x512x1024_0_1_2_3 main_v93
  let main_v95 : FVec F S5x8x512x1024 .f32 := Host.divf main_v89 main_v94
  let main_v96 : FVec F S5x8x512x1024x1 .f32 := broadcastInDim S5x8x512x1024x1 ![0, 1, 2, 3] bcast_S5x8x512x1024_S5x8x512x1024x1_0_1_2_3 main_v95
  let main_v97 : FVec F S5x8x512x1024x5 .f32 := broadcastInDim S5x8x512x1024x5 ![0, 1, 2, 3, 4] bcast_S5x8x512x1024x1_S5x8x512x1024x5_0_1_2_3_4 main_v96
  let main_v98 : FVec F S5x8x512x1024x5 .f32 := mulf main_v97 main_v87
  let main_cst_10 : FVec F S_ .f32 := constant S_ .f32 0x00000000#32
  let main_v99 : FVec F S5x8x512x5 .f32 := (fun x v => Host.reduceAdd x v reducesTo_S5x8x512x1024x5_S5x8x512x5_d3 h_S_) main_v98 main_cst_10
  let main_v100 : FVec F S5x8x512x1024x1 .f32 := broadcastInDim S5x8x512x1024x1 ![0, 1, 2, 3] bcast_S5x8x512x1024_S5x8x512x1024x1_0_1_2_3 main_v95
  let main_v101 : FVec F S5x8x512x1x5 .f32 := broadcastInDim S5x8x512x1x5 ![0, 1, 2, 4] bcast_S5x8x512x5_S5x8x512x1x5_0_1_2_4 main_v99
  let main_v102 : FVec F S5x8x512x1024x5 .f32 := broadcastInDim S5x8x512x1024x5 ![0, 1, 2, 3, 4] bcast_S5x8x512x1024x1_S5x8x512x1024x5_0_1_2_3_4 main_v100
  let main_v103 : FVec F S5x8x512x1024x5 .f32 := broadcastInDim S5x8x512x1024x5 ![0, 1, 2, 3, 4] bcast_S5x8x512x1x5_S5x8x512x1024x5_0_1_2_3_4 main_v101
  let main_v104 : FVec F S5x8x512x1024x5 .f32 := mulf main_v102 main_v103
  let main_v105 : FVec F S5x8x512x1024x5 .f32 := subf main_v87 main_v104
  let main_v106 : FVec F S5x8x512x1024x1 .f32 := (extractStridedSlice S5x8x512x1024x1 ![0, 0, 0, 0, 1] · slices_S5x8x512x1024x5_S5x8x512x1024x1_0_0_0_0_1) main_v105
  fn_part5 (F := F) main_arg1 main_v0 main_v11 main_v76 main_v99 main_v105 main_v106

def fn_part3 {F : FTy → Type} [FloatOps F] (main_arg1 : IVec S8x512 32) (main_v0 : FVec F S9x8x512x1024 .f32) (main_v11 : IVec S_ 1) (main_v30 : FVec F S2x8x512x3 .f32) (main_v48 : FVec F S2x8x512x3 .f32) (main_v54 : FVec F S2x8x512x1024x3 .f32) (main_v56 : FVec F S2x8x512x1024 .f32) (main_v61 : FVec F S2x8x512x1024 .f32) : IVec S_ 1 :=
  let main_v62 : FVec F S2x8x512x1024 .f32 := Host.divf main_v56 main_v61
  let main_v63 : FVec F S2x8x512x1024x1 .f32 := broadcastInDim S2x8x512x1024x1 ![0, 1, 2, 3] bcast_S2x8x512x1024_S2x8x512x1024x1_0_1_2_3 main_v62
  let main_v64 : FVec F S2x8x512x1024x3 .f32 := broadcastInDim S2x8x512x1024x3 ![0, 1, 2, 3, 4] bcast_S2x8x512x1024x1_S2x8x512x1024x3_0_1_2_3_4 main_v63
  let main_v65 : FVec F S2x8x512x1024x3 .f32 := mulf main_v64 main_v54
  let main_cst_8 : FVec F S_ .f32 := constant S_ .f32 0x00000000#32
  let main_v66 : FVec F S2x8x512x3 .f32 := (fun x v => Host.reduceAdd x v reducesTo_S2x8x512x1024x3_S2x8x512x3_d3 h_S_) main_v65 main_cst_8
  let main_v67 : FVec F S2x8x512x1024x1 .f32 := broadcastInDim S2x8x512x1024x1 ![0, 1, 2, 3] bcast_S2x8x512x1024_S2x8x512x1024x1_0_1_2_3 main_v62
  let main_v68 : FVec F S2x8x512x1x3 .f32 := broadcastInDim S2x8x512x1x3 ![0, 1, 2, 4] bcast_S2x8x512x3_S2x8x512x1x3_0_1_2_4 main_v66
  let main_v69 : FVec F S2x8x512x1024x3 .f32 := broadcastInDim S2x8x512x1024x3 ![0, 1, 2, 3, 4] bcast_S2x8x512x1024x1_S2x8x512x1024x3_0_1_2_3_4 main_v67
  let main_v70 : FVec F S2x8x512x1024x3 .f32 := broadcastInDim S2x8x512x1024x3 ![0, 1, 2, 3, 4] bcast_S2x8x512x1x3_S2x8x512x1024x3_0_1_2_3_4 main_v68
  let main_v71 : FVec F S2x8x512x1024x3 .f32 := mulf main_v69 main_v70
  let main_v72 : FVec F S2x8x512x1024x3 .f32 := subf main_v54 main_v71
  let main_v73 : FVec F S2x8x512x1x3 .f32 := broadcastInDim S2x8x512x1x3 ![0, 1, 2, 4] bcast_S2x8x512x3_S2x8x512x1x3_0_1_2_4 main_v30
  let main_v74 : FVec F S2x8x512x1x3 .f32 := broadcastInDim S2x8x512x1x3 ![0, 1, 2, 4] bcast_S2x8x512x3_S2x8x512x1x3_0_1_2_4 main_v48
  let main_v75 : FVec F S2x8x512x1x3 .f32 := broadcastInDim S2x8x512x1x3 ![0, 1, 2, 4] bcast_S2x8x512x3_S2x8x512x1x3_0_1_2_4 main_v66
  let main_v76 : FVec F S2x8x512x3x3 .f32 := concatenate S2x8x512x3x3 3 [⟨S2x8x512x1x3, main_v73⟩, ⟨S2x8x512x1x3, main_v74⟩, ⟨S2x8x512x1x3, main_v75⟩] concatenates_S2x8x512x1x3_S2x8x512x1x3_S2x8x512x1x3_S2x8x512x3x3_d3
  let main_v77 : FVec F S5x8x512x1024 .f32 := (extractStridedSlice S5x8x512x1024 ![0, 0, 0, 0] · slices_S9x8x512x1024_S5x8x512x1024_0_0_0_0) main_v0
  let main_v78 : FVec F S5x8x512x1024 .f32 := (extractStridedSlice S5x8x512x1024 ![1, 0, 0, 0] · slices_S9x8x512x1024_S5x8x512x1024_1_0_0_0) main_v0
  let main_v79 : FVec F S5x8x512x1024 .f32 := (extractStridedSlice S5x8x512x1024 ![3, 0, 0, 0] · slices_S9x8x512x1024_S5x8x512x1024_3_0_0_0) main_v0
  let main_v80 : FVec F S5x8x512x1024 .f32 := (extractStridedSlice S5x8x512x1024 ![4, 0, 0, 0] · slices_S9x8x512x1024_S5x8x512x1024_4_0_0_0) main_v0
  let main_v81 : FVec F S5x8x512x1024 .f32 := (extractStridedSlice S5x8x512x1024 ![2, 0, 0, 0] · slices_S9x8x512x1024_S5x8x512x1024_2_0_0_0) main_v0
  let main_v82 : FVec F S5x8x512x1024x1 .f32 := broadcastInDim S5x8x512x1024x1 ![0, 1, 2, 3] bcast_S5x8x512x1024_S5x8x512x1024x1_0_1_2_3 main_v77
  let main_v83 : FVec F S5x8x512x1024x1 .f32 := broadcastInDim S5x8x512x1024x1 ![0, 1, 2, 3] bcast_S5x8x512x1024_S5x8x512x1024x1_0_1_2_3 main_v78
  let main_v84 : FVec F S5x8x512x1024x1 .f32 := broadcastInDim S5x8x512x1024x1 ![0, 1, 2, 3] bcast_S5x8x512x1024_S5x8x512x1024x1_0_1_2_3 main_v79
  fn_part4 (F := F) main_arg1 main_v0 main_v11 main_v76 main_v80 main_v81 main_v82 main_v83 main_v84

def fn_part2 {F : FTy → Type} [FloatOps F] (main_arg1 : IVec S8x512 32) (main_v0 : FVec F S9x8x512x1024 .f32) (main_v11 : IVec S_ 1) (main_v30 : FVec F S2x8x512x3 .f32) (main_v36 : FVec F S2x8x512x1024x3 .f32) (main_v38 : FVec F S2x8x512x1024 .f32) (main_v39 : FVec F S2x8x512x1024 .f32) (main_cst_5 : FVec F S_ .f32) : IVec S_ 1 :=
  let main_v40 : FVec F S2x8x512 .f32 := (fun x v => Host.reduceAdd x v reducesTo_S2x8x512x1024_S2x8x512_d3 h_S_) main_v39 main_cst_5
  let main_v41 : FVec F S2x8x512x1 .f32 := broadcastInDim S2x8x512x1 ![0, 1, 2] bcast_S2x8x512_S2x8x512x1_0_1_2 main_v40
  let main_v42 : FVec F S2x8x512x1 .f32 := Host.sqrt main_v41
  let main_v43 : FVec F S2x8x512x1024 .f32 := broadcastInDim S2x8x512x1024 ![0, 1, 2, 3] bcast_S2x8x512x1_S2x8x512x1024_0_1_2_3 main_v42
  let main_v44 : FVec F S2x8x512x1024 .f32 := Host.divf main_v38 main_v43
  let main_v45 : FVec F S2x8x512x1024x1 .f32 := broadcastInDim S2x8x512x1024x1 ![0, 1, 2, 3] bcast_S2x8x512x1024_S2x8x512x1024x1_0_1_2_3 main_v44
  let main_v46 : FVec F S2x8x512x1024x3 .f32 := broadcastInDim S2x8x512x1024x3 ![0, 1, 2, 3, 4] bcast_S2x8x512x1024x1_S2x8x512x1024x3_0_1_2_3_4 main_v45
  let main_v47 : FVec F S2x8x512x1024x3 .f32 := mulf main_v46 main_v36
  let main_cst_6 : FVec F S_ .f32 := constant S_ .f32 0x00000000#32
  let main_v48 : FVec F S2x8x512x3 .f32 := (fun x v => Host.reduceAdd x v reducesTo_S2x8x512x1024x3_S2x8x512x3_d3 h_S_) main_v47 main_cst_6
  let main_v49 : FVec F S2x8x512x1024x1 .f32 := broadcastInDim S2x8x512x1024x1 ![0, 1, 2, 3] bcast_S2x8x512x1024_S2x8x512x1024x1_0_1_2_3 main_v44
  let main_v50 : FVec F S2x8x512x1x3 .f32 := broadcastInDim S2x8x512x1x3 ![0, 1, 2, 4] bcast_S2x8x512x3_S2x8x512x1x3_0_1_2_4 main_v48
  let main_v51 : FVec F S2x8x512x1024x3 .f32 := broadcastInDim S2x8x512x1024x3 ![0, 1, 2, 3, 4] bcast_S2x8x512x1024x1_S2x8x512x1024x3_0_1_2_3_4 main_v49
  let main_v52 : FVec F S2x8x512x1024x3 .f32 := broadcastInDim S2x8x512x1024x3 ![0, 1, 2, 3, 4] bcast_S2x8x512x1x3_S2x8x512x1024x3_0_1_2_3_4 main_v50
  let main_v53 : FVec F S2x8x512x1024x3 .f32 := mulf main_v51 main_v52
  let main_v54 : FVec F S2x8x512x1024x3 .f32 := subf main_v36 main_v53
  let main_v55 : FVec F S2x8x512x1024x1 .f32 := (extractStridedSlice S2x8x512x1024x1 ![0, 0, 0, 0, 2] · slices_S2x8x512x1024x3_S2x8x512x1024x1_0_0_0_0_2) main_v54
  let main_v56 : FVec F S2x8x512x1024 .f32 := shapeCast S2x8x512x1024 main_v55 shapeCasts_S2x8x512x1024x1_S2x8x512x1024
  let main_v57 : FVec F S2x8x512x1024 .f32 := mulf main_v56 main_v56
  let main_cst_7 : FVec F S_ .f32 := constant S_ .f32 0x00000000#32
  let main_v58 : FVec F S2x8x512 .f32 := (fun x v => Host.reduceAdd x v reducesTo_S2x8x512x1024_S2x8x512_d3 h_S_) main_v57 main_cst_7
  let main_v59 : FVec F S2x8x512x1 .f32 := broadcastInDim S2x8x512x1 ![0, 1, 2] bcast_S2x8x512_S2x8x512x1_0_1_2 main_v58
  let main_v60 : FVec F S2x8x512x1 .f32 := Host.sqrt main_v59
  let main_v61 : FVec F S2x8x512x1024 .f32 := broadcastInDim S2x8x512x1024 ![0, 1, 2, 3] bcast_S2x8x512x1_S2x8x512x1024_0_1_2_3 main_v60
  fn_part3 (F := F) main_arg1 main_v0 main_v11 main_v30 main_v48 main_v54 main_v56 main_v61

def fn_part1 {F : FTy → Type} [FloatOps F] (main_arg1 : IVec S8x512 32) (main_v0 : FVec F S9x8x512x1024 .f32) (main_v11 : IVec S_ 1) (main_v18 : FVec F S2x8x512x1024x3 .f32) : IVec S_ 1 :=
  let main_v19 : FVec F S2x8x512x1024x1 .f32 := (extractStridedSlice S2x8x512x1024x1 ![0, 0, 0, 0, 0] · slices_S2x8x512x1024x3_S2x8x512x1024x1_0_0_0_0_0) main_v18
  let main_v20 : FVec F S2x8x512x1024 .f32 := shapeCast S2x8x512x1024 main_v19 shapeCasts_S2x8x512x1024x1_S2x8x512x1024
  let main_v21 : FVec F S2x8x512x1024 .f32 := mulf main_v20 main_v20
  let main_cst_3 : FVec F S_ .f32 := constant S_ .f32 0x00000000#32
  let main_v22 : FVec F S2x8x512 .f32 := (fun x v => Host.reduceAdd x v reducesTo_S2x8x512x1024_S2x8x512_d3 h_S_) main_v21 main_cst_3
  let main_v23 : FVec F S2x8x512x1 .f32 := broadcastInDim S2x8x512x1 ![0, 1, 2] bcast_S2x8x512_S2x8x512x1_0_1_2 main_v22
  let main_v24 : FVec F S2x8x512x1 .f32 := Host.sqrt main_v23
  let main_v25 : FVec F S2x8x512x1024 .f32 := broadcastInDim S2x8x512x1024 ![0, 1, 2, 3] bcast_S2x8x512x1_S2x8x512x1024_0_1_2_3 main_v24
  let main_v26 : FVec F S2x8x512x1024 .f32 := Host.divf main_v20 main_v25
  let main_v27 : FVec F S2x8x512x1024x1 .f32 := broadcastInDim S2x8x512x1024x1 ![0, 1, 2, 3] bcast_S2x8x512x1024_S2x8x512x1024x1_0_1_2_3 main_v26
  let main_v28 : FVec F S2x8x512x1024x3 .f32 := broadcastInDim S2x8x512x1024x3 ![0, 1, 2, 3, 4] bcast_S2x8x512x1024x1_S2x8x512x1024x3_0_1_2_3_4 main_v27
  let main_v29 : FVec F S2x8x512x1024x3 .f32 := mulf main_v28 main_v18
  let main_cst_4 : FVec F S_ .f32 := constant S_ .f32 0x00000000#32
  let main_v30 : FVec F S2x8x512x3 .f32 := (fun x v => Host.reduceAdd x v reducesTo_S2x8x512x1024x3_S2x8x512x3_d3 h_S_) main_v29 main_cst_4
  let main_v31 : FVec F S2x8x512x1024x1 .f32 := broadcastInDim S2x8x512x1024x1 ![0, 1, 2, 3] bcast_S2x8x512x1024_S2x8x512x1024x1_0_1_2_3 main_v26
  let main_v32 : FVec F S2x8x512x1x3 .f32 := broadcastInDim S2x8x512x1x3 ![0, 1, 2, 4] bcast_S2x8x512x3_S2x8x512x1x3_0_1_2_4 main_v30
  let main_v33 : FVec F S2x8x512x1024x3 .f32 := broadcastInDim S2x8x512x1024x3 ![0, 1, 2, 3, 4] bcast_S2x8x512x1024x1_S2x8x512x1024x3_0_1_2_3_4 main_v31
  let main_v34 : FVec F S2x8x512x1024x3 .f32 := broadcastInDim S2x8x512x1024x3 ![0, 1, 2, 3, 4] bcast_S2x8x512x1x3_S2x8x512x1024x3_0_1_2_3_4 main_v32
  let main_v35 : FVec F S2x8x512x1024x3 .f32 := mulf main_v33 main_v34
  let main_v36 : FVec F S2x8x512x1024x3 .f32 := subf main_v18 main_v35
  let main_v37 : FVec F S2x8x512x1024x1 .f32 := (extractStridedSlice S2x8x512x1024x1 ![0, 0, 0, 0, 1] · slices_S2x8x512x1024x3_S2x8x512x1024x1_0_0_0_0_1) main_v36
  let main_v38 : FVec F S2x8x512x1024 .f32 := shapeCast S2x8x512x1024 main_v37 shapeCasts_S2x8x512x1024x1_S2x8x512x1024
  let main_v39 : FVec F S2x8x512x1024 .f32 := mulf main_v38 main_v38
  let main_cst_5 : FVec F S_ .f32 := constant S_ .f32 0x00000000#32
  fn_part2 (F := F) main_arg1 main_v0 main_v11 main_v30 main_v36 main_v38 main_v39 main_cst_5

def fn {F : FTy → Type} [FloatOps F] (main_arg0 : FVec F S13x8x512x1024 .f32) (main_arg1 : IVec S8x512 32) : IVec S_ 1 :=
  let main_v0 : FVec F S9x8x512x1024 .f32 := (extractStridedSlice S9x8x512x1024 ![4, 0, 0, 0] · slices_S13x8x512x1024_S9x8x512x1024_4_0_0_0) main_arg0
  let main_v1 : FVec F S9x8x512x1024 .f32 := Host.absf main_v0
  let main_cst : FVec F S_ .f32 := constant S_ .f32 0x7F800000#32
  let main_v2 : FVec F S9x8x512x1024 .f32 := broadcastInDim S9x8x512x1024 ![] bcast_S_S9x8x512x1024 main_cst
  let main_v3 : IVec S9x8x512x1024 1 := cmpf .olt main_v1 main_v2
  let main_c : IVec S_ 1 := constantI S_ 1 1#1
  let main_v4 : IVec S_ 1 := (fun x v => Host.reduce IntOp.andi x v reducesTo_S9x8x512x1024_S_d0_1_2_3 h_S_) main_v3 main_c
  let main_c_0 : IVec S_ 32 := constantI S_ 32 0#32
  let main_v5 : IVec S8x512 32 := broadcastInDim S8x512 ![] bcast_S_S8x512 main_c_0
  let main_v6 : IVec S8x512 1 := cmpi .sge main_arg1 main_v5
  let main_c_1 : IVec S_ 32 := constantI S_ 32 1#32
  let main_v7 : IVec S8x512 32 := broadcastInDim S8x512 ![] bcast_S_S8x512 main_c_1
  let main_v8 : IVec S8x512 1 := cmpi .sle main_arg1 main_v7
  let main_v9 : IVec S8x512 1 := andi main_v6 main_v8
  let main_c_2 : IVec S_ 1 := constantI S_ 1 1#1
  let main_v10 : IVec S_ 1 := (fun x v => Host.reduce IntOp.andi x v reducesTo_S8x512_S_d0_1 h_S_) main_v9 main_c_2
  let main_v11 : IVec S_ 1 := andi main_v4 main_v10
  let main_v12 : FVec F S2x8x512x1024 .f32 := (extractStridedSlice S2x8x512x1024 ![1, 0, 0, 0] · slices_S9x8x512x1024_S2x8x512x1024_1_0_0_0) main_v0
  let main_v13 : FVec F S2x8x512x1024 .f32 := (extractStridedSlice S2x8x512x1024 ![2, 0, 0, 0] · slices_S9x8x512x1024_S2x8x512x1024_2_0_0_0) main_v0
  let main_v14 : FVec F S2x8x512x1024 .f32 := (extractStridedSlice S2x8x512x1024 ![0, 0, 0, 0] · slices_S9x8x512x1024_S2x8x512x1024_0_0_0_0) main_v0
  let main_v15 : FVec F S2x8x512x1024x1 .f32 := broadcastInDim S2x8x512x1024x1 ![0, 1, 2, 3] bcast_S2x8x512x1024_S2x8x512x1024x1_0_1_2_3 main_v12
  let main_v16 : FVec F S2x8x512x1024x1 .f32 := broadcastInDim S2x8x512x1024x1 ![0, 1, 2, 3] bcast_S2x8x512x1024_S2x8x512x1024x1_0_1_2_3 main_v13
  let main_v17 : FVec F S2x8x512x1024x1 .f32 := broadcastInDim S2x8x512x1024x1 ![0, 1, 2, 3] bcast_S2x8x512x1024_S2x8x512x1024x1_0_1_2_3 main_v14
  let main_v18 : FVec F S2x8x512x1024x3 .f32 := concatenate S2x8x512x1024x3 4 [⟨S2x8x512x1024x1, main_v15⟩, ⟨S2x8x512x1024x1, main_v16⟩, ⟨S2x8x512x1024x1, main_v17⟩] concatenates_S2x8x512x1024x1_S2x8x512x1024x1_S2x8x512x1024x1_S2x8x512x1024x3_d4
  fn_part1 (F := F) main_arg1 main_v0 main_v11 main_v18
-- ==== Kernel.lean ====
abbrev S13x8x512x1024 : Shape := ⟨4, ![13, 8, 512, 1024]⟩
abbrev S8x512 : Shape := ⟨2, ![8, 512]⟩
abbrev S8x1x512 : Shape := ⟨3, ![8, 1, 512]⟩
abbrev S8x1x1024 : Shape := ⟨3, ![8, 1, 1024]⟩
abbrev S4x1x512x1024 : Shape := ⟨4, ![4, 1, 512, 1024]⟩
abbrev S1x1x512x1024 : Shape := ⟨4, ![1, 1, 512, 1024]⟩
abbrev S1x1x512 : Shape := ⟨3, ![1, 1, 512]⟩
abbrev S1x1x1024 : Shape := ⟨3, ![1, 1, 1024]⟩
abbrev S1x1 : Shape := ⟨2, ![1, 1]⟩
abbrev S1x1x128x128 : Shape := ⟨4, ![1, 1, 128, 128]⟩
abbrev S128x128 : Shape := ⟨2, ![128, 128]⟩
abbrev S128 : Shape := ⟨1, ![128]⟩
abbrev S1x128 : Shape := ⟨2, ![1, 128]⟩
abbrev S1x512 : Shape := ⟨2, ![1, 512]⟩
abbrev S1 : Shape := ⟨1, ![1]⟩
abbrev S1x2048 : Shape := ⟨2, ![1, 2048]⟩
abbrev S4x512x1024 : Shape := ⟨3, ![4, 512, 1024]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S13x8x512x1024, .f32⟩
  | .hbm, ⟨1, _⟩ => ⟨S8x512, .i32⟩
  | .hbm, ⟨2, _⟩ => ⟨S8x1x512, .i32⟩
  | .hbm, ⟨3, _⟩ => ⟨S8x1x1024, .f32⟩
  | .local _ .vmem, ⟨0, _⟩ => ⟨S4x1x512x1024, .f32⟩
  | .local _ .vmem, ⟨1, _⟩ => ⟨S4x1x512x1024, .f32⟩
  | .local _ .vmem, ⟨2, _⟩ => ⟨S4x1x512x1024, .f32⟩
  | .local _ .vmem, ⟨3, _⟩ => ⟨S4x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512, .i32⟩
  | .local _ .vmem, ⟨7, _⟩ => ⟨S1x1x512, .i32⟩
  | .local _ .vmem, ⟨8, _⟩ => ⟨S1x1x1024, .f32⟩
  | .local _ .vmem, ⟨9, _⟩ => ⟨S1x1x1024, .f32⟩
  | .local _ .vmem, ⟨10, _⟩ => ⟨S1x1, .f32⟩
  | _, _ => ⟨S13x8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c12_i32 : BitVec 32 := 12#32
  let c0_i32 : BitVec 32 := 0#32
  let c0_i32_0 : BitVec 32 := 0#32
  ![c12_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "seventh" => some ((7⁻¹ : ℝ) : EReal)
  | "third" => some ((3⁻¹ : ℝ) : EReal)
  | _ => none
-- ==== ReferenceIdeal.lean ====
abbrev S13x8x512x1024 : Shape := ⟨4, ![13, 8, 512, 1024]⟩
abbrev S8x512 : Shape := ⟨2, ![8, 512]⟩
abbrev S9x8x512x1024 : Shape := ⟨4, ![9, 8, 512, 1024]⟩
abbrev S2x8x512x1024 : Shape := ⟨4, ![2, 8, 512, 1024]⟩
abbrev S2x8x512x1024x1 : Shape := ⟨5, ![2, 8, 512, 1024, 1]⟩
abbrev S2x8x512x1024x3 : Shape := ⟨5, ![2, 8, 512, 1024, 3]⟩
abbrev S_ : Shape := ⟨0, ![]⟩
abbrev S2x8x512 : Shape := ⟨3, ![2, 8, 512]⟩
abbrev S2x8x512x1 : Shape := ⟨4, ![2, 8, 512, 1]⟩
abbrev S2x8x512x3 : Shape := ⟨4, ![2, 8, 512, 3]⟩
abbrev S2x8x512x1x3 : Shape := ⟨5, ![2, 8, 512, 1, 3]⟩
abbrev S2x8x512x3x3 : Shape := ⟨5, ![2, 8, 512, 3, 3]⟩
abbrev S5x8x512x1024 : Shape := ⟨4, ![5, 8, 512, 1024]⟩
abbrev S5x8x512x1024x1 : Shape := ⟨5, ![5, 8, 512, 1024, 1]⟩
abbrev S5x8x512x1024x5 : Shape := ⟨5, ![5, 8, 512, 1024, 5]⟩
abbrev S5x8x512 : Shape := ⟨3, ![5, 8, 512]⟩
abbrev S5x8x512x1 : Shape := ⟨4, ![5, 8, 512, 1]⟩
abbrev S5x8x512x5 : Shape := ⟨4, ![5, 8, 512, 5]⟩
abbrev S5x8x512x1x5 : Shape := ⟨5, ![5, 8, 512, 1, 5]⟩
abbrev S5x8x512x5x5 : Shape := ⟨5, ![5, 8, 512, 5, 5]⟩
abbrev S1x8x512x1024 : Shape := ⟨4, ![1, 8, 512, 1024]⟩
abbrev S1x8x512x1024x1 : Shape := ⟨5, ![1, 8, 512, 1024, 1]⟩
abbrev S1x8x512x1024x4 : Shape := ⟨5, ![1, 8, 512, 1024, 4]⟩
abbrev S1x8x512 : Shape := ⟨3, ![1, 8, 512]⟩
abbrev S1x8x512x1 : Shape := ⟨4, ![1, 8, 512, 1]⟩
abbrev S1x8x512x4 : Shape := ⟨4, ![1, 8, 512, 4]⟩
abbrev S1x8x512x1x4 : Shape := ⟨5, ![1, 8, 512, 1, 4]⟩
abbrev S1x8x512x4x4 : Shape := ⟨5, ![1, 8, 512, 4, 4]⟩
abbrev S1x8x512x1024x3 : Shape := ⟨5, ![1, 8, 512, 1024, 3]⟩
abbrev S1x8x512x3 : Shape := ⟨4, ![1, 8, 512, 3]⟩
abbrev S1x8x512x1x3 : Shape := ⟨5, ![1, 8, 512, 1, 3]⟩
abbrev S1x8x512x3x3 : Shape := ⟨5, ![1, 8, 512, 3, 3]⟩
abbrev S2x8x512x3x1 : Shape := ⟨5, ![2, 8, 512, 3, 1]⟩
abbrev S2x8x512x2x2 : Shape := ⟨5, ![2, 8, 512, 2, 2]⟩
abbrev S2x8x512x2 : Shape := ⟨4, ![2, 8, 512, 2]⟩
abbrev S2x8x512x1x2 : Shape := ⟨5, ![2, 8, 512, 1, 2]⟩
abbrev S2x8x512x2x1 : Shape := ⟨5, ![2, 8, 512, 2, 1]⟩
abbrev S5x8x512x5x1 : Shape := ⟨5, ![5, 8, 512, 5, 1]⟩
abbrev S5x8x512x4x4 : Shape := ⟨5, ![5, 8, 512, 4, 4]⟩
abbrev S5x8x512x4 : Shape := ⟨4, ![5, 8, 512, 4]⟩
abbrev S5x8x512x1x4 : Shape := ⟨5, ![5, 8, 512, 1, 4]⟩
abbrev S5x8x512x4x1 : Shape := ⟨5, ![5, 8, 512, 4, 1]⟩
abbrev S1x8x512x4x1 : Shape := ⟨5, ![1, 8, 512, 4, 1]⟩
abbrev S1x8x512x3x1 : Shape := ⟨5, ![1, 8, 512, 3, 1]⟩
abbrev S1x8x512x2x2 : Shape := ⟨5, ![1, 8, 512, 2, 2]⟩
abbrev S1x8x512x2 : Shape := ⟨4, ![1, 8, 512, 2]⟩
abbrev S1x8x512x1x2 : Shape := ⟨5, ![1, 8, 512, 1, 2]⟩
abbrev S1x8x512x2x1 : Shape := ⟨5, ![1, 8, 512, 2, 1]⟩
abbrev S9x8x512 : Shape := ⟨3, ![9, 8, 512]⟩
abbrev S8x512x1024 : Shape := ⟨3, ![8, 512, 1024]⟩
abbrev S8x8x512x1024 : Shape := ⟨4, ![8, 8, 512, 1024]⟩
abbrev S8x8x512 : Shape := ⟨3, ![8, 8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S8x1024 : Shape := ⟨2, ![8, 1024]⟩
abbrev S8x1x1024 : Shape := ⟨3, ![8, 1, 1024]⟩

abbrev nBuf : Space → Nat
  | .hbm => 596
  | .vmem => 0
  | .smem => 0
  | _ => 0

abbrev hbmTy0_0 (i : Nat) : BufTy := match i % 128 with
  | 0 => ⟨S13x8x512x1024, .f32⟩
  | 1 => ⟨S8x512, .i32⟩
  | 2 => ⟨S9x8x512x1024, .f32⟩
  | 3 => ⟨S2x8x512x1024, .f32⟩
  | 4 => ⟨S2x8x512x1024, .f32⟩
  | 5 => ⟨S2x8x512x1024, .f32⟩
  | 6 => ⟨S2x8x512x1024x1, .f32⟩
  | 7 => ⟨S2x8x512x1024x1, .f32⟩
  | 8 => ⟨S2x8x512x1024x1, .f32⟩
  | 9 => ⟨S2x8x512x1024x3, .f32⟩
  | 10 => ⟨S2x8x512x1024x1, .f32⟩
  | 11 => ⟨S2x8x512x1024, .f32⟩
  | 12 => ⟨S2x8x512x1024, .f32⟩
  | 13 => ⟨S_, .f32⟩
  | 14 => ⟨S2x8x512, .f32⟩
  | 15 => ⟨S2x8x512x1, .f32⟩
  | 16 => ⟨S2x8x512x1, .f32⟩
  | 17 => ⟨S2x8x512x1024, .f32⟩
  | 18 => ⟨S2x8x512x1024, .f32⟩
  | 19 => ⟨S2x8x512x1024x1, .f32⟩
  | 20 => ⟨S2x8x512x1024x3, .f32⟩
  | 21 => ⟨S2x8x512x1024x3, .f32⟩
  | 22 => ⟨S_, .f32⟩
  | 23 => ⟨S2x8x512x3, .f32⟩
  | 24 => ⟨S2x8x512x1024x1, .f32⟩
  | 25 => ⟨S2x8x512x1x3, .f32⟩
  | 26 => ⟨S2x8x512x1024x3, .f32⟩
  | 27 => ⟨S2x8x512x1024x3, .f32⟩
  | 28 => ⟨S2x8x512x1024x3, .f32⟩
  | 29 => ⟨S2x8x512x1024x3, .f32⟩
  | 30 => ⟨S2x8x512x1024x1, .f32⟩
  | 31 => ⟨S2x8x512x1024, .f32⟩
  | 32 => ⟨S2x8x512x1024, .f32⟩
  | 33 => ⟨S_, .f32⟩
  | 34 => ⟨S2x8x512, .f32⟩
  | 35 => ⟨S2x8x512x1, .f32⟩
  | 36 => ⟨S2x8x512x1, .f32⟩
  | 37 => ⟨S2x8x512x1024, .f32⟩
  | 38 => ⟨S2x8x512x1024, .f32⟩
  | 39 => ⟨S2x8x512x1024x1, .f32⟩
  | 40 => ⟨S2x8x512x1024x3, .f32⟩
  | 41 => ⟨S2x8x512x1024x3, .f32⟩
  | 42 => ⟨S_, .f32⟩
  | 43 => ⟨S2x8x512x3, .f32⟩
  | 44 => ⟨S2x8x512x1024x1, .f32⟩
  | 45 => ⟨S2x8x512x1x3, .f32⟩
  | 46 => ⟨S2x8x512x1024x3, .f32⟩
  | 47 => ⟨S2x8x512x1024x3, .f32⟩
  | 48 => ⟨S2x8x512x1024x3, .f32⟩
  | 49 => ⟨S2x8x512x1024x3, .f32⟩
  | 50 => ⟨S2x8x512x1024x1, .f32⟩
  | 51 => ⟨S2x8x512x1024, .f32⟩
  | 52 => ⟨S2x8x512x1024, .f32⟩
  | 53 => ⟨S_, .f32⟩
  | 54 => ⟨S2x8x512, .f32⟩
  | 55 => ⟨S2x8x512x1, .f32⟩
  | 56 => ⟨S2x8x512x1, .f32⟩
  | 57 => ⟨S2x8x512x1024, .f32⟩
  | 58 => ⟨S2x8x512x1024, .f32⟩
  | 59 => ⟨S2x8x512x1024x1, .f32⟩
  | 60 => ⟨S2x8x512x1024x3, .f32⟩
  | 61 => ⟨S2x8x512x1024x3, .f32⟩
  | 62 => ⟨S_, .f32⟩
  | 63 => ⟨S2x8x512x3, .f32⟩
  | 64 => ⟨S2x8x512x1024x1, .f32⟩
  | 65 => ⟨S2x8x512x1x3, .f32⟩
  | 66 => ⟨S2x8x512x1024x3, .f32⟩
  | 67 => ⟨S2x8x512x1024x3, .f32⟩
  | 68 => ⟨S2x8x512x1024x3, .f32⟩
  | 69 => ⟨S2x8x512x1024x3, .f32⟩
  | 70 => ⟨S2x8x512x1x3, .f32⟩
  | 71 => ⟨S2x8x512x1x3, .f32⟩
  | 72 => ⟨S2x8x512x1x3, .f32⟩
  | 73 => ⟨S2x8x512x3x3, .f32⟩
  | 74 => ⟨S5x8x512x1024, .f32⟩
  | 75 => ⟨S5x8x512x1024, .f32⟩
  | 76 => ⟨S5x8x512x1024, .f32⟩
  | 77 => ⟨S5x8x512x1024, .f32⟩
  | 78 => ⟨S5x8x512x1024, .f32⟩
  | 79 => ⟨S5x8x512x1024x1, .f32⟩
  | 80 => ⟨S5x8x512x1024x1, .f32⟩
  | 81 => ⟨S5x8x512x1024x1, .f32⟩
  | 82 => ⟨S5x8x512x1024x1, .f32⟩
  | 83 => ⟨S5x8x512x1024x1, .f32⟩
  | 84 => ⟨S5x8x512x1024x5, .f32⟩
  | 85 => ⟨S5x8x512x1024x1, .f32⟩
  | 86 => ⟨S5x8x512x1024, .f32⟩
  | 87 => ⟨S5x8x512x1024, .f32⟩
  | 88 => ⟨S_, .f32⟩
  | 89 => ⟨S5x8x512, .f32⟩
  | 90 => ⟨S5x8x512x1, .f32⟩
  | 91 => ⟨S5x8x512x1, .f32⟩
  | 92 => ⟨S5x8x512x1024, .f32⟩
  | 93 => ⟨S5x8x512x1024, .f32⟩
  | 94 => ⟨S5x8x512x1024x1, .f32⟩
  | 95 => ⟨S5x8x512x1024x5, .f32⟩
  | 96 => ⟨S5x8x512x1024x5, .f32⟩
  | 97 => ⟨S_, .f32⟩
  | 98 => ⟨S5x8x512x5, .f32⟩
  | 99 => ⟨S5x8x512x1024x1, .f32⟩
  | 100 => ⟨S5x8x512x1x5, .f32⟩
  | 101 => ⟨S5x8x512x1024x5, .f32⟩
  | 102 => ⟨S5x8x512x1024x5, .f32⟩
  | 103 => ⟨S5x8x512x1024x5, .f32⟩
  | 104 => ⟨S5x8x512x1024x5, .f32⟩
  | 105 => ⟨S5x8x512x1024x1, .f32⟩
  | 106 => ⟨S5x8x512x1024, .f32⟩
  | 107 => ⟨S5x8x512x1024, .f32⟩
  | 108 => ⟨S_, .f32⟩
  | 109 => ⟨S5x8x512, .f32⟩
  | 110 => ⟨S5x8x512x1, .f32⟩
  | 111 => ⟨S5x8x512x1, .f32⟩
  | 112 => ⟨S5x8x512x1024, .f32⟩
  | 113 => ⟨S5x8x512x1024, .f32⟩
  | 114 => ⟨S5x8x512x1024x1, .f32⟩
  | 115 => ⟨S5x8x512x1024x5, .f32⟩
  | 116 => ⟨S5x8x512x1024x5, .f32⟩
  | 117 => ⟨S_, .f32⟩
  | 118 => ⟨S5x8x512x5, .f32⟩
  | 119 => ⟨S5x8x512x1024x1, .f32⟩
  | 120 => ⟨S5x8x512x1x5, .f32⟩
  | 121 => ⟨S5x8x512x1024x5, .f32⟩
  | 122 => ⟨S5x8x512x1024x5, .f32⟩
  | 123 => ⟨S5x8x512x1024x5, .f32⟩
  | 124 => ⟨S5x8x512x1024x5, .f32⟩
  | 125 => ⟨S5x8x512x1024x1, .f32⟩
  | 126 => ⟨S5x8x512x1024, .f32⟩
  | 127 => ⟨S5x8x512x1024, .f32⟩
  | _ => ⟨S13x8x512x1024, .f32⟩

abbrev hbmTy0_1 (i : Nat) : BufTy := match i % 128 with
  | 0 => ⟨S_, .f32⟩
  | 1 => ⟨S5x8x512, .f32⟩
  | 2 => ⟨S5x8x512x1, .f32⟩
  | 3 => ⟨S5x8x512x1, .f32⟩
  | 4 => ⟨S5x8x512x1024, .f32⟩
  | 5 => ⟨S5x8x512x1024, .f32⟩
  | 6 => ⟨S5x8x512x1024x1, .f32⟩
  | 7 => ⟨S5x8x512x1024x5, .f32⟩
  | 8 => ⟨S5x8x512x1024x5, .f32⟩
  | 9 => ⟨S_, .f32⟩
  | 10 => ⟨S5x8x512x5, .f32⟩
  | 11 => ⟨S5x8x512x1024x1, .f32⟩
  | 12 => ⟨S5x8x512x1x5, .f32⟩
  | 13 => ⟨S5x8x512x1024x5, .f32⟩
  | 14 => ⟨S5x8x512x1024x5, .f32⟩
  | 15 => ⟨S5x8x512x1024x5, .f32⟩
  | 16 => ⟨S5x8x512x1024x5, .f32⟩
  | 17 => ⟨S5x8x512x1024x1, .f32⟩
  | 18 => ⟨S5x8x512x1024, .f32⟩
  | 19 => ⟨S5x8x512x1024, .f32⟩
  | 20 => ⟨S_, .f32⟩
  | 21 => ⟨S5x8x512, .f32⟩
  | 22 => ⟨S5x8x512x1, .f32⟩
  | 23 => ⟨S5x8x512x1, .f32⟩
  | 24 => ⟨S5x8x512x1024, .f32⟩
  | 25 => ⟨S5x8x512x1024, .f32⟩
  | 26 => ⟨S5x8x512x1024x1, .f32⟩
  | 27 => ⟨S5x8x512x1024x5, .f32⟩
  | 28 => ⟨S5x8x512x1024x5, .f32⟩
  | 29 => ⟨S_, .f32⟩
  | 30 => ⟨S5x8x512x5, .f32⟩
  | 31 => ⟨S5x8x512x1024x1, .f32⟩
  | 32 => ⟨S5x8x512x1x5, .f32⟩
  | 33 => ⟨S5x8x512x1024x5, .f32⟩
  | 34 => ⟨S5x8x512x1024x5, .f32⟩
  | 35 => ⟨S5x8x512x1024x5, .f32⟩
  | 36 => ⟨S5x8x512x1024x5, .f32⟩
  | 37 => ⟨S5x8x512x1024x1, .f32⟩
  | 38 => ⟨S5x8x512x1024, .f32⟩
  | 39 => ⟨S5x8x512x1024, .f32⟩
  | 40 => ⟨S_, .f32⟩
  | 41 => ⟨S5x8x512, .f32⟩
  | 42 => ⟨S5x8x512x1, .f32⟩
  | 43 => ⟨S5x8x512x1, .f32⟩
  | 44 => ⟨S5x8x512x1024, .f32⟩
  | 45 => ⟨S5x8x512x1024, .f32⟩
  | 46 => ⟨S5x8x512x1024x1, .f32⟩
  | 47 => ⟨S5x8x512x1024x5, .f32⟩
  | 48 => ⟨S5x8x512x1024x5, .f32⟩
  | 49 => ⟨S_, .f32⟩
  | 50 => ⟨S5x8x512x5, .f32⟩
  | 51 => ⟨S5x8x512x1024x1, .f32⟩
  | 52 => ⟨S5x8x512x1x5, .f32⟩
  | 53 => ⟨S5x8x512x1024x5, .f32⟩
  | 54 => ⟨S5x8x512x1024x5, .f32⟩
  | 55 => ⟨S5x8x512x1024x5, .f32⟩
  | 56 => ⟨S5x8x512x1024x5, .f32⟩
  | 57 => ⟨S5x8x512x1x5, .f32⟩
  | 58 => ⟨S5x8x512x1x5, .f32⟩
  | 59 => ⟨S5x8x512x1x5, .f32⟩
  | 60 => ⟨S5x8x512x1x5, .f32⟩
  | 61 => ⟨S5x8x512x1x5, .f32⟩
  | 62 => ⟨S5x8x512x5x5, .f32⟩
  | 63 => ⟨S1x8x512x1024, .f32⟩
  | 64 => ⟨S1x8x512x1024, .f32⟩
  | 65 => ⟨S1x8x512x1024, .f32⟩
  | 66 => ⟨S1x8x512x1024, .f32⟩
  | 67 => ⟨S1x8x512x1024x1, .f32⟩
  | 68 => ⟨S1x8x512x1024x1, .f32⟩
  | 69 => ⟨S1x8x512x1024x1, .f32⟩
  | 70 => ⟨S1x8x512x1024x1, .f32⟩
  | 71 => ⟨S1x8x512x1024x4, .f32⟩
  | 72 => ⟨S1x8x512x1024x1, .f32⟩
  | 73 => ⟨S1x8x512x1024, .f32⟩
  | 74 => ⟨S1x8x512x1024, .f32⟩
  | 75 => ⟨S_, .f32⟩
  | 76 => ⟨S1x8x512, .f32⟩
  | 77 => ⟨S1x8x512x1, .f32⟩
  | 78 => ⟨S1x8x512x1, .f32⟩
  | 79 => ⟨S1x8x512x1024, .f32⟩
  | 80 => ⟨S1x8x512x1024, .f32⟩
  | 81 => ⟨S1x8x512x1024x1, .f32⟩
  | 82 => ⟨S1x8x512x1024x4, .f32⟩
  | 83 => ⟨S1x8x512x1024x4, .f32⟩
  | 84 => ⟨S_, .f32⟩
  | 85 => ⟨S1x8x512x4, .f32⟩
  | 86 => ⟨S1x8x512x1024x1, .f32⟩
  | 87 => ⟨S1x8x512x1x4, .f32⟩
  | 88 => ⟨S1x8x512x1024x4, .f32⟩
  | 89 => ⟨S1x8x512x1024x4, .f32⟩
  | 90 => ⟨S1x8x512x1024x4, .f32⟩
  | 91 => ⟨S1x8x512x1024x4, .f32⟩
  | 92 => ⟨S1x8x512x1024x1, .f32⟩
  | 93 => ⟨S1x8x512x1024, .f32⟩
  | 94 => ⟨S1x8x512x1024, .f32⟩
  | 95 => ⟨S_, .f32⟩
  | 96 => ⟨S1x8x512, .f32⟩
  | 97 => ⟨S1x8x512x1, .f32⟩
  | 98 => ⟨S1x8x512x1, .f32⟩
  | 99 => ⟨S1x8x512x1024, .f32⟩
  | 100 => ⟨S1x8x512x1024, .f32⟩
  | 101 => ⟨S1x8x512x1024x1, .f32⟩
  | 102 => ⟨S1x8x512x1024x4, .f32⟩
  | 103 => ⟨S1x8x512x1024x4, .f32⟩
  | 104 => ⟨S_, .f32⟩
  | 105 => ⟨S1x8x512x4, .f32⟩
  | 106 => ⟨S1x8x512x1024x1, .f32⟩
  | 107 => ⟨S1x8x512x1x4, .f32⟩
  | 108 => ⟨S1x8x512x1024x4, .f32⟩
  | 109 => ⟨S1x8x512x1024x4, .f32⟩
  | 110 => ⟨S1x8x512x1024x4, .f32⟩
  | 111 => ⟨S1x8x512x1024x4, .f32⟩
  | 112 => ⟨S1x8x512x1024x1, .f32⟩
  | 113 => ⟨S1x8x512x1024, .f32⟩
  | 114 => ⟨S1x8x512x1024, .f32⟩
  | 115 => ⟨S_, .f32⟩
  | 116 => ⟨S1x8x512, .f32⟩
  | 117 => ⟨S1x8x512x1, .f32⟩
  | 118 => ⟨S1x8x512x1, .f32⟩
  | 119 => ⟨S1x8x512x1024, .f32⟩
  | 120 => ⟨S1x8x512x1024, .f32⟩
  | 121 => ⟨S1x8x512x1024x1, .f32⟩
  | 122 => ⟨S1x8x512x1024x4, .f32⟩
  | 123 => ⟨S1x8x512x1024x4, .f32⟩
  | 124 => ⟨S_, .f32⟩
  | 125 => ⟨S1x8x512x4, .f32⟩
  | 126 => ⟨S1x8x512x1024x1, .f32⟩
  | 127 => ⟨S1x8x512x1x4, .f32⟩
  | _ => ⟨S13x8x512x1024, .f32⟩

abbrev hbmTy0_2 (i : Nat) : BufTy := match i % 128 with
  | 0 => ⟨S1x8x512x1024x4, .f32⟩
  | 1 => ⟨S1x8x512x1024x4, .f32⟩
  | 2 => ⟨S1x8x512x1024x4, .f32⟩
  | 3 => ⟨S1x8x512x1024x4, .f32⟩
  | 4 => ⟨S1x8x512x1024x1, .f32⟩
  | 5 => ⟨S1x8x512x1024, .f32⟩
  | 6 => ⟨S1x8x512x1024, .f32⟩
  | 7 => ⟨S_, .f32⟩
  | 8 => ⟨S1x8x512, .f32⟩
  | 9 => ⟨S1x8x512x1, .f32⟩
  | 10 => ⟨S1x8x512x1, .f32⟩
  | 11 => ⟨S1x8x512x1024, .f32⟩
  | 12 => ⟨S1x8x512x1024, .f32⟩
  | 13 => ⟨S1x8x512x1024x1, .f32⟩
  | 14 => ⟨S1x8x512x1024x4, .f32⟩
  | 15 => ⟨S1x8x512x1024x4, .f32⟩
  | 16 => ⟨S_, .f32⟩
  | 17 => ⟨S1x8x512x4, .f32⟩
  | 18 => ⟨S1x8x512x1024x1, .f32⟩
  | 19 => ⟨S1x8x512x1x4, .f32⟩
  | 20 => ⟨S1x8x512x1024x4, .f32⟩
  | 21 => ⟨S1x8x512x1024x4, .f32⟩
  | 22 => ⟨S1x8x512x1024x4, .f32⟩
  | 23 => ⟨S1x8x512x1024x4, .f32⟩
  | 24 => ⟨S1x8x512x1x4, .f32⟩
  | 25 => ⟨S1x8x512x1x4, .f32⟩
  | 26 => ⟨S1x8x512x1x4, .f32⟩
  | 27 => ⟨S1x8x512x1x4, .f32⟩
  | 28 => ⟨S1x8x512x4x4, .f32⟩
  | 29 => ⟨S1x8x512x1024, .f32⟩
  | 30 => ⟨S1x8x512x1024, .f32⟩
  | 31 => ⟨S1x8x512x1024, .f32⟩
  | 32 => ⟨S1x8x512x1024x1, .f32⟩
  | 33 => ⟨S1x8x512x1024x1, .f32⟩
  | 34 => ⟨S1x8x512x1024x1, .f32⟩
  | 35 => ⟨S1x8x512x1024x3, .f32⟩
  | 36 => ⟨S1x8x512x1024x1, .f32⟩
  | 37 => ⟨S1x8x512x1024, .f32⟩
  | 38 => ⟨S1x8x512x1024, .f32⟩
  | 39 => ⟨S_, .f32⟩
  | 40 => ⟨S1x8x512, .f32⟩
  | 41 => ⟨S1x8x512x1, .f32⟩
  | 42 => ⟨S1x8x512x1, .f32⟩
  | 43 => ⟨S1x8x512x1024, .f32⟩
  | 44 => ⟨S1x8x512x1024, .f32⟩
  | 45 => ⟨S1x8x512x1024x1, .f32⟩
  | 46 => ⟨S1x8x512x1024x3, .f32⟩
  | 47 => ⟨S1x8x512x1024x3, .f32⟩
  | 48 => ⟨S_, .f32⟩
  | 49 => ⟨S1x8x512x3, .f32⟩
  | 50 => ⟨S1x8x512x1024x1, .f32⟩
  | 51 => ⟨S1x8x512x1x3, .f32⟩
  | 52 => ⟨S1x8x512x1024x3, .f32⟩
  | 53 => ⟨S1x8x512x1024x3, .f32⟩
  | 54 => ⟨S1x8x512x1024x3, .f32⟩
  | 55 => ⟨S1x8x512x1024x3, .f32⟩
  | 56 => ⟨S1x8x512x1024x1, .f32⟩
  | 57 => ⟨S1x8x512x1024, .f32⟩
  | 58 => ⟨S1x8x512x1024, .f32⟩
  | 59 => ⟨S_, .f32⟩
  | 60 => ⟨S1x8x512, .f32⟩
  | 61 => ⟨S1x8x512x1, .f32⟩
  | 62 => ⟨S1x8x512x1, .f32⟩
  | 63 => ⟨S1x8x512x1024, .f32⟩
  | 64 => ⟨S1x8x512x1024, .f32⟩
  | 65 => ⟨S1x8x512x1024x1, .f32⟩
  | 66 => ⟨S1x8x512x1024x3, .f32⟩
  | 67 => ⟨S1x8x512x1024x3, .f32⟩
  | 68 => ⟨S_, .f32⟩
  | 69 => ⟨S1x8x512x3, .f32⟩
  | 70 => ⟨S1x8x512x1024x1, .f32⟩
  | 71 => ⟨S1x8x512x1x3, .f32⟩
  | 72 => ⟨S1x8x512x1024x3, .f32⟩
  | 73 => ⟨S1x8x512x1024x3, .f32⟩
  | 74 => ⟨S1x8x512x1024x3, .f32⟩
  | 75 => ⟨S1x8x512x1024x3, .f32⟩
  | 76 => ⟨S1x8x512x1024x1, .f32⟩
  | 77 => ⟨S1x8x512x1024, .f32⟩
  | 78 => ⟨S1x8x512x1024, .f32⟩
  | 79 => ⟨S_, .f32⟩
  | 80 => ⟨S1x8x512, .f32⟩
  | 81 => ⟨S1x8x512x1, .f32⟩
  | 82 => ⟨S1x8x512x1, .f32⟩
  | 83 => ⟨S1x8x512x1024, .f32⟩
  | 84 => ⟨S1x8x512x1024, .f32⟩
  | 85 => ⟨S1x8x512x1024x1, .f32⟩
  | 86 => ⟨S1x8x512x1024x3, .f32⟩
  | 87 => ⟨S1x8x512x1024x3, .f32⟩
  | 88 => ⟨S_, .f32⟩
  | 89 => ⟨S1x8x512x3, .f32⟩
  | 90 => ⟨S1x8x512x1024x1, .f32⟩
  | 91 => ⟨S1x8x512x1x3, .f32⟩
  | 92 => ⟨S1x8x512x1024x3, .f32⟩
  | 93 => ⟨S1x8x512x1024x3, .f32⟩
  | 94 => ⟨S1x8x512x1024x3, .f32⟩
  | 95 => ⟨S1x8x512x1024x3, .f32⟩
  | 96 => ⟨S1x8x512x1x3, .f32⟩
  | 97 => ⟨S1x8x512x1x3, .f32⟩
  | 98 => ⟨S1x8x512x1x3, .f32⟩
  | 99 => ⟨S1x8x512x3x3, .f32⟩
  | 100 => ⟨S2x8x512x3x1, .f32⟩
  | 101 => ⟨S2x8x512x3, .f32⟩
  | 102 => ⟨S2x8x512x2x2, .f32⟩
  | 103 => ⟨S2x8x512x2x2, .f32⟩
  | 104 => ⟨S_, .f32⟩
  | 105 => ⟨S2x8x512x2, .f32⟩
  | 106 => ⟨S2x8x512x2, .f32⟩
  | 107 => ⟨S2x8x512x1x2, .f32⟩
  | 108 => ⟨S2x8x512x2x2, .f32⟩
  | 109 => ⟨S2x8x512x2x2, .f32⟩
  | 110 => ⟨S_, .f32⟩
  | 111 => ⟨S2x8x512x2, .f32⟩
  | 112 => ⟨S_, .f32⟩
  | 113 => ⟨S2x8x512x2, .f32⟩
  | 114 => ⟨S2x8x512x2, .f32⟩
  | 115 => ⟨S2x8x512x2x1, .f32⟩
  | 116 => ⟨S2x8x512x2, .f32⟩
  | 117 => ⟨S2x8x512x2, .f32⟩
  | 118 => ⟨S_, .f32⟩
  | 119 => ⟨S2x8x512, .f32⟩
  | 120 => ⟨S2x8x512x2, .f32⟩
  | 121 => ⟨S2x8x512x2, .f32⟩
  | 122 => ⟨S_, .f32⟩
  | 123 => ⟨S2x8x512, .f32⟩
  | 124 => ⟨S2x8x512, .f32⟩
  | 125 => ⟨S2x8x512, .f32⟩
  | 126 => ⟨S_, .f32⟩
  | 127 => ⟨S2x8x512, .f32⟩
  | _ => ⟨S13x8x512x1024, .f32⟩

abbrev hbmTy0_3 (i : Nat) : BufTy := match i % 128 with
  | 0 => ⟨S2x8x512, .f32⟩
  | 1 => ⟨S_, .f32⟩
  | 2 => ⟨S2x8x512, .f32⟩
  | 3 => ⟨S2x8x512, .f32⟩
  | 4 => ⟨S2x8x512x1, .f32⟩
  | 5 => ⟨S2x8x512, .f32⟩
  | 6 => ⟨S2x8x512, .f32⟩
  | 7 => ⟨S2x8x512x3, .f32⟩
  | 8 => ⟨S_, .f32⟩
  | 9 => ⟨S2x8x512, .f32⟩
  | 10 => ⟨S2x8x512, .f32⟩
  | 11 => ⟨S2x8x512, .f32⟩
  | 12 => ⟨S5x8x512x5x1, .f32⟩
  | 13 => ⟨S5x8x512x5, .f32⟩
  | 14 => ⟨S5x8x512x4x4, .f32⟩
  | 15 => ⟨S5x8x512x4x4, .f32⟩
  | 16 => ⟨S_, .f32⟩
  | 17 => ⟨S5x8x512x4, .f32⟩
  | 18 => ⟨S5x8x512x4, .f32⟩
  | 19 => ⟨S5x8x512x1x4, .f32⟩
  | 20 => ⟨S5x8x512x4x4, .f32⟩
  | 21 => ⟨S5x8x512x4x4, .f32⟩
  | 22 => ⟨S_, .f32⟩
  | 23 => ⟨S5x8x512x4, .f32⟩
  | 24 => ⟨S_, .f32⟩
  | 25 => ⟨S5x8x512x4, .f32⟩
  | 26 => ⟨S5x8x512x4, .f32⟩
  | 27 => ⟨S5x8x512x4x1, .f32⟩
  | 28 => ⟨S5x8x512x4, .f32⟩
  | 29 => ⟨S5x8x512x4, .f32⟩
  | 30 => ⟨S_, .f32⟩
  | 31 => ⟨S5x8x512, .f32⟩
  | 32 => ⟨S5x8x512x4, .f32⟩
  | 33 => ⟨S5x8x512x4, .f32⟩
  | 34 => ⟨S_, .f32⟩
  | 35 => ⟨S5x8x512, .f32⟩
  | 36 => ⟨S5x8x512, .f32⟩
  | 37 => ⟨S5x8x512, .f32⟩
  | 38 => ⟨S_, .f32⟩
  | 39 => ⟨S5x8x512, .f32⟩
  | 40 => ⟨S5x8x512, .f32⟩
  | 41 => ⟨S_, .f32⟩
  | 42 => ⟨S5x8x512, .f32⟩
  | 43 => ⟨S5x8x512, .f32⟩
  | 44 => ⟨S5x8x512x1, .f32⟩
  | 45 => ⟨S5x8x512, .f32⟩
  | 46 => ⟨S5x8x512, .f32⟩
  | 47 => ⟨S5x8x512x5, .f32⟩
  | 48 => ⟨S_, .f32⟩
  | 49 => ⟨S5x8x512, .f32⟩
  | 50 => ⟨S5x8x512, .f32⟩
  | 51 => ⟨S5x8x512, .f32⟩
  | 52 => ⟨S1x8x512x4x1, .f32⟩
  | 53 => ⟨S1x8x512x4, .f32⟩
  | 54 => ⟨S1x8x512x3x3, .f32⟩
  | 55 => ⟨S1x8x512x3x3, .f32⟩
  | 56 => ⟨S_, .f32⟩
  | 57 => ⟨S1x8x512x3, .f32⟩
  | 58 => ⟨S1x8x512x3, .f32⟩
  | 59 => ⟨S1x8x512x1x3, .f32⟩
  | 60 => ⟨S1x8x512x3x3, .f32⟩
  | 61 => ⟨S1x8x512x3x3, .f32⟩
  | 62 => ⟨S_, .f32⟩
  | 63 => ⟨S1x8x512x3, .f32⟩
  | 64 => ⟨S_, .f32⟩
  | 65 => ⟨S1x8x512x3, .f32⟩
  | 66 => ⟨S1x8x512x3, .f32⟩
  | 67 => ⟨S1x8x512x3x1, .f32⟩
  | 68 => ⟨S1x8x512x3, .f32⟩
  | 69 => ⟨S1x8x512x3, .f32⟩
  | 70 => ⟨S_, .f32⟩
  | 71 => ⟨S1x8x512, .f32⟩
  | 72 => ⟨S1x8x512x3, .f32⟩
  | 73 => ⟨S1x8x512x3, .f32⟩
  | 74 => ⟨S_, .f32⟩
  | 75 => ⟨S1x8x512, .f32⟩
  | 76 => ⟨S1x8x512, .f32⟩
  | 77 => ⟨S1x8x512, .f32⟩
  | 78 => ⟨S_, .f32⟩
  | 79 => ⟨S1x8x512, .f32⟩
  | 80 => ⟨S1x8x512, .f32⟩
  | 81 => ⟨S_, .f32⟩
  | 82 => ⟨S1x8x512, .f32⟩
  | 83 => ⟨S1x8x512, .f32⟩
  | 84 => ⟨S1x8x512x1, .f32⟩
  | 85 => ⟨S1x8x512, .f32⟩
  | 86 => ⟨S1x8x512, .f32⟩
  | 87 => ⟨S1x8x512x4, .f32⟩
  | 88 => ⟨S_, .f32⟩
  | 89 => ⟨S1x8x512, .f32⟩
  | 90 => ⟨S1x8x512, .f32⟩
  | 91 => ⟨S1x8x512, .f32⟩
  | 92 => ⟨S1x8x512x3x1, .f32⟩
  | 93 => ⟨S1x8x512x3, .f32⟩
  | 94 => ⟨S1x8x512x2x2, .f32⟩
  | 95 => ⟨S1x8x512x2x2, .f32⟩
  | 96 => ⟨S_, .f32⟩
  | 97 => ⟨S1x8x512x2, .f32⟩
  | 98 => ⟨S1x8x512x2, .f32⟩
  | 99 => ⟨S1x8x512x1x2, .f32⟩
  | 100 => ⟨S1x8x512x2x2, .f32⟩
  | 101 => ⟨S1x8x512x2x2, .f32⟩
  | 102 => ⟨S_, .f32⟩
  | 103 => ⟨S1x8x512x2, .f32⟩
  | 104 => ⟨S_, .f32⟩
  | 105 => ⟨S1x8x512x2, .f32⟩
  | 106 => ⟨S1x8x512x2, .f32⟩
  | 107 => ⟨S1x8x512x2x1, .f32⟩
  | 108 => ⟨S1x8x512x2, .f32⟩
  | 109 => ⟨S1x8x512x2, .f32⟩
  | 110 => ⟨S_, .f32⟩
  | 111 => ⟨S1x8x512, .f32⟩
  | 112 => ⟨S1x8x512x2, .f32⟩
  | 113 => ⟨S1x8x512x2, .f32⟩
  | 114 => ⟨S_, .f32⟩
  | 115 => ⟨S1x8x512, .f32⟩
  | 116 => ⟨S1x8x512, .f32⟩
  | 117 => ⟨S1x8x512, .f32⟩
  | 118 => ⟨S_, .f32⟩
  | 119 => ⟨S1x8x512, .f32⟩
  | 120 => ⟨S1x8x512, .f32⟩
  | 121 => ⟨S_, .f32⟩
  | 122 => ⟨S1x8x512, .f32⟩
  | 123 => ⟨S1x8x512, .f32⟩
  | 124 => ⟨S1x8x512x1, .f32⟩
  | 125 => ⟨S1x8x512, .f32⟩
  | 126 => ⟨S1x8x512, .f32⟩
  | 127 => ⟨S1x8x512x3, .f32⟩
  | _ => ⟨S13x8x512x1024, .f32⟩

abbrev hbmTy0_4 (i : Nat) : BufTy := match i % 128 with
  | 0 => ⟨S_, .f32⟩
  | 1 => ⟨S1x8x512, .f32⟩
  | 2 => ⟨S1x8x512, .f32⟩
  | 3 => ⟨S1x8x512, .f32⟩
  | 4 => ⟨S9x8x512, .f32⟩
  | 5 => ⟨S9x8x512, .f32⟩
  | 6 => ⟨S_, .f32⟩
  | 7 => ⟨S8x512, .f32⟩
  | 8 => ⟨S1x8x512, .f32⟩
  | 9 => ⟨S9x8x512, .f32⟩
  | 10 => ⟨S9x8x512, .f32⟩
  | 11 => ⟨S_, .f32⟩
  | 12 => ⟨S8x512, .f32⟩
  | 13 => ⟨S1x8x512, .f32⟩
  | 14 => ⟨S9x8x512, .f32⟩
  | 15 => ⟨S9x8x512, .f32⟩
  | 16 => ⟨S9x8x512, .f32⟩
  | 17 => ⟨S_, .f32⟩
  | 18 => ⟨S8x512, .f32⟩
  | 19 => ⟨S1x8x512, .f32⟩
  | 20 => ⟨S9x8x512, .f32⟩
  | 21 => ⟨S9x8x512, .f32⟩
  | 22 => ⟨S8x512x1024, .f32⟩
  | 23 => ⟨S9x8x512x1024, .f32⟩
  | 24 => ⟨S_, .f32⟩
  | 25 => ⟨S9x8x512, .f32⟩
  | 26 => ⟨S9x8x512, .f32⟩
  | 27 => ⟨S8x8x512x1024, .f32⟩
  | 28 => ⟨S8x8x512x1024, .f32⟩
  | 29 => ⟨S8x8x512x1024, .f32⟩
  | 30 => ⟨S_, .f32⟩
  | 31 => ⟨S8x8x512, .f32⟩
  | 32 => ⟨S8x8x512, .f32⟩
  | 33 => ⟨S8x8x512, .f32⟩
  | 34 => ⟨S8x8x512, .f32⟩
  | 35 => ⟨S_, .f32⟩
  | 36 => ⟨S8x8x512, .f32⟩
  | 37 => ⟨S8x8x512, .f32⟩
  | 38 => ⟨S8x8x512, .f32⟩
  | 39 => ⟨S_, .i32⟩
  | 40 => ⟨S_, .f32⟩
  | 41 => ⟨S8x512, .f32⟩
  | 42 => ⟨S1x8x512, .f32⟩
  | 43 => ⟨S_, .f32⟩
  | 44 => ⟨S1x8x512, .f32⟩
  | 45 => ⟨S1x8x512, .f32⟩
  | 46 => ⟨S8x8x512, .f32⟩
  | 47 => ⟨S8x8x512, .f32⟩
  | 48 => ⟨S8x8x512, .f32⟩
  | 49 => ⟨S_, .f32⟩
  | 50 => ⟨S_, .f32⟩
  | 51 => ⟨S_, .f32⟩
  | 52 => ⟨S_, .f32⟩
  | 53 => ⟨S8x512, .f32⟩
  | 54 => ⟨S8x512, .f32⟩
  | 55 => ⟨S8x512, .f32⟩
  | 56 => ⟨S_, .f32⟩
  | 57 => ⟨S_, .i1⟩
  | 58 => ⟨S_, .f32⟩
  | 59 => ⟨S_, .f32⟩
  | 60 => ⟨S8x512, .f32⟩
  | 61 => ⟨S8x512, .f32⟩
  | 62 => ⟨S_, .i32⟩
  | 63 => ⟨S8, .i32⟩
  | 64 => ⟨S_, .i32⟩
  | 65 => ⟨S8, .i32⟩
  | 66 => ⟨S8, .i32⟩
  | 67 => ⟨S512, .i32⟩
  | 68 => ⟨S1x512, .i32⟩
  | 69 => ⟨S8x1, .i32⟩
  | 70 => ⟨S8x512, .i32⟩
  | 71 => ⟨S8x512, .i32⟩
  | 72 => ⟨S8x512, .i1⟩
  | 73 => ⟨S_, .f32⟩
  | 74 => ⟨S_, .f32⟩
  | 75 => ⟨S8x512, .f32⟩
  | 76 => ⟨S8x512, .f32⟩
  | 77 => ⟨S_, .f32⟩
  | 78 => ⟨S8, .f32⟩
  | 79 => ⟨S8x1, .f32⟩
  | 80 => ⟨S8x512, .f32⟩
  | 81 => ⟨S8x512, .f32⟩
  | 82 => ⟨S8x1024, .f32⟩
  | 83 => ⟨S8x1x1024, .f32⟩
  | _ => ⟨S13x8x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S13x8x512x1024, .f32⟩

abbrev bufTy : (tb : Table) → Fin (tcTables nBuf tb) → BufTy
  | .hbm, ⟨i, _⟩ => hbmTy i
  | _, _ => ⟨S13x8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_4 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_5 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_cst_6 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_7 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_cst_8 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_9 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_cst_10 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_cst_11 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_cst_12 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_cst_13 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_cst_14 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_cst_15 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_cst_16 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_cst_17 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_cst_18 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_cst_19 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_cst_20 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_cst_21 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_cst_22 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_cst_23 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_cst_24 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_25 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_cst_26 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_cst_27 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_cst_28 : Ref sig .tc := ⟨.hbm, 344, rfl⟩
abbrev main_v313 : Ref sig .tc := ⟨.hbm, 345, rfl⟩
abbrev main_v314 : Ref sig .tc := ⟨.hbm, 346, rfl⟩
abbrev main_v315 : Ref sig .tc := ⟨.hbm, 347, rfl⟩
abbrev main_v316 : Ref sig .tc := ⟨.hbm, 348, rfl⟩
abbrev main_v317 : Ref sig .tc := ⟨.hbm, 349, rfl⟩
abbrev main_v318 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_cst_29 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_cst_30 : Ref sig .tc := ⟨.hbm, 366, rfl⟩
abbrev main_v333 : Ref sig .tc := ⟨.hbm, 367, rfl⟩
abbrev main_cst_31 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_cst_32 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_cst_33 : Ref sig .tc := ⟨.hbm, 378, rfl⟩
abbrev main_v342 : Ref sig .tc := ⟨.hbm, 379, rfl⟩
abbrev main_v343 : Ref sig .tc := ⟨.hbm, 380, rfl⟩
abbrev main_v344 : Ref sig .tc := ⟨.hbm, 381, rfl⟩
abbrev main_cst_34 : Ref sig .tc := ⟨.hbm, 382, rfl⟩
abbrev main_v345 : Ref sig .tc := ⟨.hbm, 383, rfl⟩
abbrev main_v346 : Ref sig .tc := ⟨.hbm, 384, rfl⟩
abbrev main_cst_35 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_cst_36 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_cst_37 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩
abbrev main_v364 : Ref sig .tc := ⟨.hbm, 405, rfl⟩
abbrev main_cst_38 : Ref sig .tc := ⟨.hbm, 406, rfl⟩
abbrev main_v365 : Ref sig .tc := ⟨.hbm, 407, rfl⟩
abbrev main_cst_39 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_cst_40 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_cst_41 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_cst_42 : Ref sig .tc := ⟨.hbm, 422, rfl⟩
abbrev main_v377 : Ref sig .tc := ⟨.hbm, 423, rfl⟩
abbrev main_v378 : Ref sig .tc := ⟨.hbm, 424, rfl⟩
abbrev main_cst_43 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_cst_44 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_v391 : Ref sig .tc := ⟨.hbm, 439, rfl⟩
abbrev main_cst_45 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_cst_46 : Ref sig .tc := ⟨.hbm, 446, rfl⟩
abbrev main_v397 : Ref sig .tc := ⟨.hbm, 447, rfl⟩
abbrev main_cst_47 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_cst_48 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_cst_49 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_cst_50 : Ref sig .tc := ⟨.hbm, 462, rfl⟩
abbrev main_v409 : Ref sig .tc := ⟨.hbm, 463, rfl⟩
abbrev main_v410 : Ref sig .tc := ⟨.hbm, 464, rfl⟩
abbrev main_cst_51 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_cst_52 : Ref sig .tc := ⟨.hbm, 472, rfl⟩
abbrev main_v417 : Ref sig .tc := ⟨.hbm, 473, rfl⟩
abbrev main_v418 : Ref sig .tc := ⟨.hbm, 474, rfl⟩
abbrev main_v419 : Ref sig .tc := ⟨.hbm, 475, rfl⟩
abbrev main_v420 : Ref sig .tc := ⟨.hbm, 476, rfl⟩
abbrev main_v421 : Ref sig .tc := ⟨.hbm, 477, rfl⟩
abbrev main_v422 : Ref sig .tc := ⟨.hbm, 478, rfl⟩
abbrev main_v423 : Ref sig .tc := ⟨.hbm, 479, rfl⟩
abbrev main_cst_53 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_cst_54 : Ref sig .tc := ⟨.hbm, 486, rfl⟩
abbrev main_v429 : Ref sig .tc := ⟨.hbm, 487, rfl⟩
abbrev main_cst_55 : Ref sig .tc := ⟨.hbm, 488, rfl⟩
abbrev main_v430 : Ref sig .tc := ⟨.hbm, 489, rfl⟩
abbrev main_v431 : Ref sig .tc := ⟨.hbm, 490, rfl⟩
abbrev main_v432 : Ref sig .tc := ⟨.hbm, 491, rfl⟩
abbrev main_v433 : Ref sig .tc := ⟨.hbm, 492, rfl⟩
abbrev main_v434 : Ref sig .tc := ⟨.hbm, 493, rfl⟩
abbrev main_cst_56 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_cst_57 : Ref sig .tc := ⟨.hbm, 498, rfl⟩
abbrev main_v438 : Ref sig .tc := ⟨.hbm, 499, rfl⟩
abbrev main_v439 : Ref sig .tc := ⟨.hbm, 500, rfl⟩
abbrev main_v440 : Ref sig .tc := ⟨.hbm, 501, rfl⟩
abbrev main_cst_58 : Ref sig .tc := ⟨.hbm, 502, rfl⟩
abbrev main_v441 : Ref sig .tc := ⟨.hbm, 503, rfl⟩
abbrev main_v442 : Ref sig .tc := ⟨.hbm, 504, rfl⟩
abbrev main_cst_59 : Ref sig .tc := ⟨.hbm, 505, rfl⟩
abbrev main_v443 : Ref sig .tc := ⟨.hbm, 506, rfl⟩
abbrev main_v444 : Ref sig .tc := ⟨.hbm, 507, rfl⟩
abbrev main_v445 : Ref sig .tc := ⟨.hbm, 508, rfl⟩
abbrev main_v446 : Ref sig .tc := ⟨.hbm, 509, rfl⟩
abbrev main_v447 : Ref sig .tc := ⟨.hbm, 510, rfl⟩
abbrev main_v448 : Ref sig .tc := ⟨.hbm, 511, rfl⟩
abbrev main_cst_60 : Ref sig .tc := ⟨.hbm, 512, rfl⟩
abbrev main_v449 : Ref sig .tc := ⟨.hbm, 513, rfl⟩
abbrev main_v450 : Ref sig .tc := ⟨.hbm, 514, rfl⟩
abbrev main_v451 : Ref sig .tc := ⟨.hbm, 515, rfl⟩
abbrev main_v452 : Ref sig .tc := ⟨.hbm, 516, rfl⟩
abbrev main_v453 : Ref sig .tc := ⟨.hbm, 517, rfl⟩
abbrev main_cst_61 : Ref sig .tc := ⟨.hbm, 518, rfl⟩
abbrev main_v454 : Ref sig .tc := ⟨.hbm, 519, rfl⟩
abbrev main_v455 : Ref sig .tc := ⟨.hbm, 520, rfl⟩
abbrev main_v456 : Ref sig .tc := ⟨.hbm, 521, rfl⟩
abbrev main_v457 : Ref sig .tc := ⟨.hbm, 522, rfl⟩
abbrev main_cst_62 : Ref sig .tc := ⟨.hbm, 523, rfl⟩
abbrev main_v458 : Ref sig .tc := ⟨.hbm, 524, rfl⟩
abbrev main_v459 : Ref sig .tc := ⟨.hbm, 525, rfl⟩
abbrev main_v460 : Ref sig .tc := ⟨.hbm, 526, rfl⟩
abbrev main_v461 : Ref sig .tc := ⟨.hbm, 527, rfl⟩
abbrev main_v462 : Ref sig .tc := ⟨.hbm, 528, rfl⟩
abbrev main_cst_63 : Ref sig .tc := ⟨.hbm, 529, rfl⟩
abbrev main_v463 : Ref sig .tc := ⟨.hbm, 530, rfl⟩
abbrev main_v464 : Ref sig .tc := ⟨.hbm, 531, rfl⟩
abbrev main_v465 : Ref sig .tc := ⟨.hbm, 532, rfl⟩
abbrev main_v466 : Ref sig .tc := ⟨.hbm, 533, rfl⟩
abbrev main_v467 : Ref sig .tc := ⟨.hbm, 534, rfl⟩
abbrev main_v468 : Ref sig .tc := ⟨.hbm, 535, rfl⟩
abbrev main_cst_64 : Ref sig .tc := ⟨.hbm, 536, rfl⟩
abbrev main_v469 : Ref sig .tc := ⟨.hbm, 537, rfl⟩
abbrev main_v470 : Ref sig .tc := ⟨.hbm, 538, rfl⟩
abbrev main_v471 : Ref sig .tc := ⟨.hbm, 539, rfl⟩
abbrev main_v472 : Ref sig .tc := ⟨.hbm, 540, rfl⟩
abbrev main_v473 : Ref sig .tc := ⟨.hbm, 541, rfl⟩
abbrev main_cst_65 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_cst_66 : Ref sig .tc := ⟨.hbm, 547, rfl⟩
abbrev main_v478 : Ref sig .tc := ⟨.hbm, 548, rfl⟩
abbrev main_v479 : Ref sig .tc := ⟨.hbm, 549, rfl⟩
abbrev main_v480 : Ref sig .tc := ⟨.hbm, 550, rfl⟩
abbrev main_c : Ref sig .tc := ⟨.hbm, 551, rfl⟩
abbrev main_call0_cst : Ref sig .tc := ⟨.hbm, 552, rfl⟩
abbrev main_call0_v0 : Ref sig .tc := ⟨.hbm, 553, rfl⟩
abbrev main_call0_v1 : Ref sig .tc := ⟨.hbm, 554, rfl⟩
abbrev main_call0_cst_0 : Ref sig .tc := ⟨.hbm, 555, rfl⟩
abbrev main_call0_v2 : Ref sig .tc := ⟨.hbm, 556, rfl⟩
abbrev main_call0_v3 : Ref sig .tc := ⟨.hbm, 557, rfl⟩
abbrev main_call0_v4 : Ref sig .tc := ⟨.hbm, 558, rfl⟩
abbrev main_call0_v5 : Ref sig .tc := ⟨.hbm, 559, rfl⟩
abbrev main_call0_v6 : Ref sig .tc := ⟨.hbm, 560, rfl⟩
abbrev main_call0_v7 : Ref sig .tc := ⟨.hbm, 561, rfl⟩
abbrev main_call0_cst_1 : Ref sig .tc := ⟨.hbm, 562, rfl⟩
abbrev main_call0_v8 : Ref sig .tc := ⟨.hbm, 563, rfl⟩
abbrev main_call0_cst_2 : Ref sig .tc := ⟨.hbm, 564, rfl⟩
abbrev main_call0_v9 : Ref sig .tc := ⟨.hbm, 565, rfl⟩
abbrev main_call0_v10 : Ref sig .tc := ⟨.hbm, 566, rfl⟩
abbrev main_call0_v11 : Ref sig .tc := ⟨.hbm, 567, rfl⟩
abbrev main_call0_cst_3 : Ref sig .tc := ⟨.hbm, 568, rfl⟩
abbrev main_call0_v12 : Ref sig .tc := ⟨.hbm, 569, rfl⟩
abbrev main_call0_cst_4 : Ref sig .tc := ⟨.hbm, 570, rfl⟩
abbrev main_call0_call0_v0 : Ref sig .tc := ⟨.hbm, 571, rfl⟩
abbrev main_call0_call0_v1 : Ref sig .tc := ⟨.hbm, 572, rfl⟩
abbrev main_v481 : Ref sig .tc := ⟨.hbm, 573, rfl⟩
abbrev main_c_67 : Ref sig .tc := ⟨.hbm, 574, rfl⟩
abbrev main_v482 : Ref sig .tc := ⟨.hbm, 575, rfl⟩
abbrev main_c_68 : Ref sig .tc := ⟨.hbm, 576, rfl⟩
abbrev main_v483 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_v488 : Ref sig .tc := ⟨.hbm, 582, rfl⟩
abbrev main_v489 : Ref sig .tc := ⟨.hbm, 583, rfl⟩
abbrev main_v490 : Ref sig .tc := ⟨.hbm, 584, rfl⟩
abbrev main_cst_69 : Ref sig .tc := ⟨.hbm, 585, rfl⟩
abbrev main_call1_v0 : Ref sig .tc := ⟨.hbm, 586, rfl⟩
abbrev main_call1_v1 : Ref sig .tc := ⟨.hbm, 587, rfl⟩
abbrev main_v491 : Ref sig .tc := ⟨.hbm, 588, rfl⟩
abbrev main_cst_70 : Ref sig .tc := ⟨.hbm, 589, rfl⟩
abbrev main_v492 : Ref sig .tc := ⟨.hbm, 590, rfl⟩
abbrev main_v493 : Ref sig .tc := ⟨.hbm, 591, rfl⟩
abbrev main_v494 : Ref sig .tc := ⟨.hbm, 592, rfl⟩
abbrev main_v495 : Ref sig .tc := ⟨.hbm, 593, rfl⟩
abbrev main_v496 : Ref sig .tc := ⟨.hbm, 594, rfl⟩
abbrev main_v497 : Ref sig .tc := ⟨.hbm, 595, rfl⟩

abbrev nD : Nat := 1
abbrev τ : Topo := Topo.v7x

variable {F : FTy → Type} [FloatOps F]
-- ==== Proof.Frames.lean ====
/- The frames of the three programs, and the values the two named constants stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.SL.Sem

namespace Cert.Proof.Frames

/-- The kernel as printed runs, leaves its arguments alone and ends quiescent. -/
theorem kernel : Cert.quiescent_Kernel :=
  fun m ρ _ => Cert.Kernel.Gen.frame m ρ

/-- The same of the idealized kernel. -/
theorem kernelIdeal : Cert.quiescent_KernelIdeal :=
  fun m ρ _ => Cert.KernelIdeal.Gen.frame m ρ

/-- The same of the reference: it names no semaphore at all. -/
theorem referenceIdeal : Cert.quiescent_ReferenceIdeal := by
  intro m ρ _
  refine (θ_run Cert.ReferenceIdeal.defs _ _).mono (fun r h => ⟨fun c => (h c).2, ?_⟩)
    (Cert.ReferenceIdeal.Value.run (F := Ideal) m ρ)
  exact sem_eq_zero_of_no_sems (by decide) r.2

/-- `seventh` stands for 1/7 and `third` for 1/3. -/
theorem constants : Cert.preserves_Kernel_KernelIdeal := by
  constructor
  · exact IdealRules.named_const.statement _ "seventh" .f32 _ _ rfl
  · exact IdealRules.named_const.statement _ "third" .f32 _ _ rfl

end Cert.Proof.Frames

end
-- ==== Proof.Arrays.lean ====
/- Reading array operations at an index whose coordinates are given as numbers. -/
module

public import Idealize.ShloMosaic.PureOps.Ideal
public import Idealize.ShloMosaic.Lib.Pointwise
public import Idealize.ShloMosaic.Lib.IdealHost
public import Idealize.ShloMosaic.Lib.Pipeline.Value
public import Idealize.ShloMosaic.Lib.StableHlo

@[expose] public section

noncomputable section

namespace Cert.Arrays

open Idealize.ShloMosaic

variable {α : Type} {s t : Shape}

/-- A broadcast at an index: the source at the coordinates it names, where the source's extent is not one. -/
theorem bcast_at {dims : Fin s.rank → Fin t.rank} (h : s.BroadcastsInDim t dims) (x : s.Idx → α) (j : t.Idx) (i : s.Idx)
    (hi : ∀ a, s.size a ≠ 1 → (i a).val = (j (dims a)).val) : broadcastInDim t dims h x j = x i := by
  unfold broadcastInDim
  congr 1
  funext a
  apply Fin.ext
  split
  · have := (i a).isLt; simp only; omega
  · exact (hi a ‹_›).symm

/-- A block at an index: the source at the index moved by the offsets. -/
theorem slice_at {off : Fin s.rank → Nat} (x : s.Idx → α) (h : s.Slices off t) (j : t.Idx) (i : s.Idx)
    (hi : ∀ a, (i a).val = off a + (j (a.cast h.1.symm)).val) : extractStridedSlice t off x h j = x i := by
  unfold extractStridedSlice
  congr 1
  funext a
  exact Fin.ext (hi a).symm

end Cert.Arrays

end
-- ==== Proof.Schur.lean ====
/- Real mathematics: the Gram-Schmidt process on the columns of a matrix and the elimination on its Gram matrix
   give the same triangular factor. -/
module

public import Mathlib.Analysis.SpecialFunctions.Pow.Real
public import Mathlib.Algebra.BigOperators.Field

@[expose] public section

noncomputable section

namespace Cert.Schur

open Finset

/-- What is left of the matrix `H` after `n` steps of elimination. -/
def left (H : ℕ → ℕ → ℝ) : ℕ → ℕ → ℕ → ℝ
  | 0, a, b => H a b
  | n + 1, a, b => left H n a b - left H n n a / √(left H n n n) * (left H n n b / √(left H n n n))

/-- Entry (n, c) of the triangular factor. -/
def fac (H : ℕ → ℕ → ℝ) (n c : ℕ) : ℝ := left H n n c / √(left H n n n)

theorem left_succ (H : ℕ → ℕ → ℝ) (n a b : ℕ) : left H (n + 1) a b = left H n a b - fac H n a * fac H n b := rfl

theorem left_symm (H : ℕ → ℕ → ℝ) (hH : ∀ a b, H a b = H b a) (n a b : ℕ) : left H n a b = left H n b a := by
  induction n generalizing a b with
  | zero => exact hH a b
  | succ n ih => rw [left_succ, left_succ, ih a b, mul_comm]

theorem left_eq_sub_sum (H : ℕ → ℕ → ℝ) (n a b : ℕ) :
    left H n a b = H a b - ∑ q ∈ range n, fac H q a * fac H q b := by
  induction n with
  | zero => simp [left]
  | succ n ih => rw [left_succ, ih, sum_range_succ]; ring

theorem fac_mul_fac {H : ℕ → ℕ → ℝ} {n : ℕ} (h : 0 < left H n n n) (c : ℕ) : fac H n n * fac H n c = left H n n c := by
  have h1 : √(left H n n n) ≠ 0 := (Real.sqrt_pos.mpr h).ne'
  have h2 : √(left H n n n) * √(left H n n n) = left H n n n := Real.mul_self_sqrt h.le
  unfold fac
  rw [div_mul_div_comm, h2, mul_div_assoc, mul_div_cancel₀ _ h.ne']

/-- A column that has had its step has nothing left. -/
theorem left_eq_zero {H : ℕ → ℕ → ℝ} (hH : ∀ a b, H a b = H b a) {n : ℕ} (h : ∀ m < n, 0 < left H m m m) {c : ℕ}
    (hc : c < n) (b : ℕ) : left H n c b = 0 := by
  induction n generalizing b with
  | zero => omega
  | succ n ih =>
    rcases Nat.lt_succ_iff_lt_or_eq.mp hc with h' | rfl
    · have h0 := fun b => ih (fun m hm => h m (by omega)) h' b
      rw [left_succ, h0, fac, left_symm H hH, h0]; simp
    · rw [left_succ, fac_mul_fac (h c (by omega)), sub_self]

theorem fac_eq_zero {H : ℕ → ℕ → ℝ} (hH : ∀ a b, H a b = H b a) {n : ℕ} (h : ∀ m < n, 0 < left H m m m) {c : ℕ}
    (hc : c < n) : fac H n c = 0 := by
  rw [fac, left_symm H hH, left_eq_zero hH h hc, zero_div]

/-- The columns of the factor have the norms of the matrix's columns. -/
theorem sum_fac_sq {H : ℕ → ℕ → ℝ} (hH : ∀ a b, H a b = H b a) {w : ℕ} (h : ∀ m < w, 0 < left H m m m) {c : ℕ}
    (hc : c < w) : ∑ q ∈ range w, fac H q c * fac H q c = H c c := by
  have := left_eq_sub_sum H w c c
  rw [left_eq_zero hH h hc] at this
  linarith

theorem fac_diag_pos {H : ℕ → ℕ → ℝ} {n : ℕ} (h : 0 < left H n n n) : 0 < fac H n n :=
  div_pos h (Real.sqrt_pos.mpr h)

theorem diag_pos {H : ℕ → ℕ → ℝ} (hH : ∀ a b, H a b = H b a) {w : ℕ} (h : ∀ m < w, 0 < left H m m m) {c : ℕ}
    (hc : c < w) : 0 < H c c := by
  rw [← sum_fac_sq hH h hc]
  have hm : c ∈ range w := by simpa using hc
  refine lt_of_lt_of_le (mul_pos (fac_diag_pos (h c hc)) (fac_diag_pos (h c hc))) ?_
  exact single_le_sum (f := fun q => fac H q c * fac H q c) (fun q _ => mul_self_nonneg _) hm

section Columns

variable {D : Type} [Fintype D]

/-- The Gram matrix of columns. -/
def gram (v : ℕ → D → ℝ) (a b : ℕ) : ℝ := ∑ d, v a d * v b d

theorem gram_symm (v : ℕ → D → ℝ) (a b : ℕ) : gram v a b = gram v b a :=
  sum_congr rfl fun _ _ => mul_comm _ _

/-- Step `n`'s unit vector, out of what is left of the columns. -/
def unit (u : ℕ → D → ℝ) (n : ℕ) (d : D) : ℝ := u n d / √(gram u n n)

/-- Step `n`'s row of products. -/
def row (u : ℕ → D → ℝ) (n c : ℕ) : ℝ := ∑ d, unit u n d * u c d

/-- What is left of the columns after `n` steps of the Gram-Schmidt process. -/
def rest (v : ℕ → D → ℝ) : ℕ → ℕ → D → ℝ
  | 0 => v
  | n + 1 => fun c d => rest v n c d - unit (rest v n) n d * row (rest v n) n c

theorem row_eq (u : ℕ → D → ℝ) (n c : ℕ) : row u n c = gram u n c / √(gram u n n) := by
  unfold row unit gram
  rw [sum_div]
  exact sum_congr rfl fun d _ => by ring

theorem gram_rest (v : ℕ → D → ℝ) {n : ℕ} (h : ∀ m < n, 0 < left (gram v) m m m) (a b : ℕ) :
    gram (rest v n) a b = left (gram v) n a b := by
  induction n generalizing a b with
  | zero => rfl
  | succ n ih =>
    have ih' := fun a b => ih (fun m hm => h m (by omega)) a b
    have hn := h n (by omega)
    have h2 : √(left (gram v) n n n) * √(left (gram v) n n n) = left (gram v) n n n := Real.mul_self_sqrt hn.le
    have h1 : √(left (gram v) n n n) ≠ 0 := (Real.sqrt_pos.mpr hn).ne'
    have hr : ∀ c, row (rest v n) n c = fac (gram v) n c := fun c => by rw [row_eq, ih', ih']; rfl
    have hu : ∑ d, unit (rest v n) n d * unit (rest v n) n d = 1 := by
      have : ∀ d, unit (rest v n) n d * unit (rest v n) n d
          = rest v n n d * rest v n n d / (√(gram (rest v n) n n) * √(gram (rest v n) n n)) :=
        fun d => by unfold unit; rw [div_mul_div_comm]
      rw [sum_congr rfl fun d _ => this d, ← sum_div]
      show gram (rest v n) n n / _ = 1
      rw [ih', h2, div_self hn.ne']
    rw [left_succ, ← hr, ← hr, ← ih' a b]
    have : ∀ d, rest v (n + 1) a d * rest v (n + 1) b d
        = rest v n a d * rest v n b d
          - row (rest v n) n b * (unit (rest v n) n d * rest v n a d)
          - row (rest v n) n a * (unit (rest v n) n d * rest v n b d)
          + row (rest v n) n a * row (rest v n) n b * (unit (rest v n) n d * unit (rest v n) n d) :=
      fun d => by simp only [rest]; ring
    unfold gram
    rw [sum_congr rfl fun d _ => this d, sum_add_distrib, sum_sub_distrib, sum_sub_distrib, ← mul_sum, ← mul_sum,
      ← mul_sum, hu]
    show _ - row (rest v n) n b * row (rest v n) n a - row (rest v n) n a * row (rest v n) n b + _ = _
    ring

theorem row_rest (v : ℕ → D → ℝ) {n : ℕ} (h : ∀ m < n, 0 < left (gram v) m m m) (c : ℕ) :
    row (rest v n) n c = fac (gram v) n c := by
  rw [row_eq, gram_rest v h, gram_rest v h]; rfl

end Columns

end Cert.Schur

end
-- ==== Proof.Weights.lean ====
/- Extended real arithmetic of the weights: dividing by the sums of the alignments, of the novelties and of the
   weights themselves, in the kernel's order and in the reference's. -/
module

public import Idealize.ShloMosaic.PureOps.Ideal

@[expose] public section

noncomputable section

namespace Cert.Weights

open Idealize.ShloMosaic Finset

theorem div_real {y : ℝ} (h : y ≠ 0) (x : ℝ) : Ideal.div (x : EReal) (y : EReal) = ((x / y : ℝ) : EReal) := by
  rw [Ideal.div_coe h, ← EReal.coe_mul, mul_one_div]

theorem div_top (x : EReal) : Ideal.div x ⊤ = 0 := by
  rw [Ideal.div, if_neg EReal.top_ne_zero, EReal.inv_top, mul_zero]

theorem div_bot (x : EReal) : Ideal.div x ⊥ = 0 := by
  rw [Ideal.div, if_neg EReal.bot_ne_zero, EReal.inv_bot, mul_zero]

theorem one_div_zero : Ideal.div 1 0 = ⊤ := by
  rw [Ideal.div, if_pos rfl, if_pos zero_lt_one]

/-- The sum of reals as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem sum_eq_top {ι : Type} [Fintype ι] (f : ι → EReal) (hb : ∀ i, f i ≠ ⊥) (j : ι) (hj : f j = ⊤) : ∑ i, f i = ⊤ := by
  classical
  rw [← add_sum_erase _ _ (mem_univ j), hj]
  refine EReal.top_add_of_ne_bot ?_
  have : ∀ s : Finset ι, ∑ i ∈ s, f i ≠ ⊥ := by
    intro s
    induction s using Finset.induction_on with
    | empty => simp
    | insert a s ha ih => rw [sum_insert ha]; exact EReal.add_ne_bot_iff.mpr ⟨hb a, ih⟩
  exact this _

theorem sum_eq_bot {ι : Type} [Fintype ι] (f : ι → EReal) (j : ι) (hj : f j = ⊥) : ∑ i, f i = ⊥ := by
  classical
  rw [← add_sum_erase _ _ (mem_univ j), hj, EReal.bot_add]

/-- The alignment score of a window: norm over a multiple of the product, an infinity where the product is zero. -/
theorem align_eq {p : ℝ} (hp : 0 < p) (n : ℝ) {t : ℝ} (ht : 0 < t) :
    Ideal.div 1 (Ideal.div (n : EReal) (p : EReal) * (t : EReal)) = Ideal.div (p : EReal) ((n : EReal) * (t : EReal)) := by
  rw [div_real hp.ne', ← EReal.coe_mul, ← EReal.coe_mul]
  by_cases hn : n = 0
  · subst hn
    have : (0 : EReal) < (p : EReal) := by exact_mod_cast hp
    simp [Ideal.div, this]
  · rw [show (1 : EReal) = ((1 : ℝ) : EReal) from rfl, div_real (by positivity), div_real (by positivity)]
    congr 1
    field_simp

/-- What an alignment score can be. -/
def Score (a : EReal) : Prop := a = ⊤ ∨ ∃ r : ℝ, r ≠ 0 ∧ a = (r : EReal)

theorem score {p : ℝ} (hp : 0 < p) (n : ℝ) {t : ℝ} (ht : 0 < t) : Score (Ideal.div (p : EReal) ((n : EReal) * (t : EReal))) := by
  rw [← EReal.coe_mul]
  by_cases hn : n = 0
  · subst hn
    have : (0 : EReal) < (p : EReal) := by exact_mod_cast hp
    exact .inl (by simp [Ideal.div, this])
  · exact .inr ⟨p / (n * t), by positivity, div_real (by positivity) p⟩

variable {ι : Type} [Fintype ι]

/-- A layer's weight, before the last division: the reference's form. -/
def weight (a n : ι → EReal) (i : ι) : EReal := Ideal.div (a i) (∑ j, a j) + Ideal.div (n i) (∑ j, n j)

/-- The two forms of a layer's weight agree, and so do the two forms of its product with the token's share; the
    quotient is a real. -/
theorem weight_spec [Nonempty ι] (a : ι → EReal) (n : ι → ℝ) (ha : ∀ i, Score (a i)) (hn : 0 < ∑ i, n i) :
    (∀ i, a i * Ideal.div 1 (∑ j, a j) + (n i : EReal) * Ideal.div 1 (∑ j, (n j : EReal)) = weight a (fun j => (n j : EReal)) i)
    ∧ ∃ c : ι → ℝ, ∀ i,
      Ideal.div (weight a (fun j => (n j : EReal)) i) (∑ j, weight a (fun j => (n j : EReal)) j) = (c i : EReal)
      ∧ ∀ v : ℝ, weight a (fun j => (n j : EReal)) i * Ideal.div (v : EReal) (∑ j, weight a (fun j => (n j : EReal)) j)
          = ((v * c i : ℝ) : EReal) := by
  have hN : ∑ j, (n j : EReal) = ((∑ j, n j : ℝ) : EReal) := (coe_sum _ _).symm
  set N := ∑ j, n j
  have hn1 : ∀ i, (n i : EReal) * Ideal.div 1 (N : EReal) = ((n i / N : ℝ) : EReal) := fun i => by
    rw [show (1 : EReal) = ((1 : ℝ) : EReal) from rfl, div_real hn.ne', ← EReal.coe_mul, mul_one_div]
  have hn2 : ∀ i, Ideal.div (n i : EReal) (N : EReal) = ((n i / N : ℝ) : EReal) := fun i => div_real hn.ne' _
  have hsum : ∑ i, n i / N = 1 := by rw [← sum_div, div_self hn.ne']
  -- the weights real, with a nonzero real sum: both forms are the real quotient
  have fin : ∀ (w : ι → ℝ) (S : ℝ), S ≠ 0 → ∑ i, w i = S →
      (∀ i, weight a (fun j => (n j : EReal)) i = (w i : EReal)) →
      ∃ c : ι → ℝ, ∀ i,
        Ideal.div (weight a (fun j => (n j : EReal)) i) (∑ j, weight a (fun j => (n j : EReal)) j) = (c i : EReal)
        ∧ ∀ v : ℝ, weight a (fun j => (n j : EReal)) i * Ideal.div (v : EReal) (∑ j, weight a (fun j => (n j : EReal)) j)
            = ((v * c i : ℝ) : EReal) := by
    intro w S hS hw hwt
    have : ∑ j, weight a (fun j => (n j : EReal)) j = (S : EReal) := by
      rw [sum_congr rfl fun j _ => hwt j, ← coe_sum, hw]
    refine ⟨fun i => w i / S, fun i => ⟨?_, fun v => ?_⟩⟩
    · rw [this, hwt, div_real hS]
    · rw [this, hwt, div_real hS, ← EReal.coe_mul]; congr 1; ring
  by_cases ht : ∃ j, a j = ⊤
  · obtain ⟨j, hj⟩ := ht
    have hA : ∑ j, a j = ⊤ := sum_eq_top a (fun i h => by
      rcases ha i with h' | ⟨r, -, h'⟩ <;> rw [h'] at h
      · exact absurd h (by simp)
      · exact EReal.coe_ne_bot _ h) j hj
    have hw : ∀ i, weight a (fun j => (n j : EReal)) i = ((n i / N : ℝ) : EReal) := fun i => by
      rw [weight, hA, div_top, hN, hn2, zero_add]
    refine ⟨fun i => ?_, fin _ 1 one_ne_zero hsum hw⟩
    rw [hw, hA, div_top, mul_zero, zero_add, hN, hn1]
  · have hr : ∀ i, ∃ r : ℝ, r ≠ 0 ∧ a i = (r : EReal) := fun i => (ha i).resolve_left fun h => ht ⟨i, h⟩
    choose r hr0 hr using hr
    have hA : ∑ j, a j = ((∑ j, r j : ℝ) : EReal) := by rw [coe_sum]; exact sum_congr rfl fun i _ => hr i
    by_cases h0 : ∑ j, r j = 0
    · have hA0 : ∑ j, a j = 0 := by rw [hA, h0]; rfl
      have key : ∀ i, a i * (⊤ : EReal) = Ideal.div (a i) 0 := fun i => by
        rw [Ideal.div, if_pos rfl, hr]
        rcases lt_or_gt_of_ne (hr0 i) with h | h
        · rw [EReal.coe_mul_top_of_neg h, if_neg (by simpa using h.le)]
        · rw [EReal.coe_mul_top_of_pos h, if_pos (by exact_mod_cast h)]
      refine ⟨fun i => ?_, ?_⟩
      · rw [weight, hA0, hN, hn1, hn2, one_div_zero, key]
      · obtain ⟨j, hj⟩ : ∃ j, r j < 0 := by
          by_contra hc
          push Not at hc
          have := (sum_eq_zero_iff_of_nonneg fun i _ => hc i).mp h0 (Classical.arbitrary ι) (mem_univ _)
          exact hr0 _ this
        have hS : ∑ j, weight a (fun j => (n j : EReal)) j = ⊥ := by
          refine sum_eq_bot _ j ?_
          rw [weight, hA0, Ideal.div, if_pos rfl, hr, if_neg (by simpa using hj.le), EReal.bot_add]
        refine ⟨fun _ => 0, fun i => ⟨?_, fun v => ?_⟩⟩
        · rw [hS, div_bot]; rfl
        · rw [hS, div_bot, mul_zero, mul_zero]; rfl
    · have hw : ∀ i, weight a (fun j => (n j : EReal)) i = ((r i / (∑ j, r j) + n i / N : ℝ) : EReal) := fun i => by
        rw [weight, hA, hr, div_real h0, hN, hn2, EReal.coe_add]
      refine ⟨fun i => ?_, fin _ 2 two_ne_zero ?_ hw⟩
      · rw [hw, hA, hN, hn1, hr, show (1 : EReal) = ((1 : ℝ) : EReal) from rfl, div_real h0, ← EReal.coe_mul,
          mul_one_div, ← EReal.coe_add]
      · rw [sum_add_distrib, hsum, ← sum_div, div_self h0]; norm_num

end Cert.Weights

end
-- ==== Proof.Steps.lean ====
/- The Gram-Schmidt steps of the reference on an array of windows, as array operations at any number of windows and of
   columns, and what they hold at an index when the windows are real. -/
module

public import proofs.«01_k».proof.Proof.Arrays
public import proofs.«01_k».proof.Proof.Schur
public import proofs.«01_k».proof.Proof.Weights

@[expose] public section

noncomputable section

namespace Cert.Steps

open Idealize.ShloMosaic Cert.Arrays Cert.Schur
open Idealize.ShloMosaic.ValueIdx (hostDivf_apply hostReduceAdd_apply)

/-- The windows: layer, sequence, token, feature, column. -/
abbrev Win (K w : ℕ) : Shape := ⟨5, ![K, 8, 512, 1024, w]⟩
/-- One column of every window. -/
abbrev Col (K : ℕ) : Shape := ⟨4, ![K, 8, 512, 1024]⟩
/-- One number for every token of every layer. -/
abbrev Tok (K : ℕ) : Shape := ⟨3, ![K, 8, 512]⟩
/-- One row of the factor for every token of every layer. -/
abbrev Row (K w : ℕ) : Shape := ⟨4, ![K, 8, 512, w]⟩
/-- The factors. -/
abbrev Fac (K w : ℕ) : Shape := ⟨5, ![K, 8, 512, w, w]⟩
/-- A single number. -/
abbrev One : Shape := ⟨0, ![]⟩

/-- The side conditions of the operations below. -/
structure Dims (K w : ℕ) : Prop where
  col : ∀ j, j < w → (Win K w).Slices ![0, 0, 0, 0, j] (Win K 1)
  drop : (Win K 1).ShapeCasts (Col K)
  red : (Col K).ReducesTo [3] (Tok K)
  one : 0 < One.numel
  keep : (Tok K).BroadcastsInDim (Row K 1) (![0, 1, 2] : Fin 3 → Fin 4)
  spread : (Row K 1).BroadcastsInDim (Col K) (![0, 1, 2, 3] : Fin 4 → Fin 4)
  keepCol : (Col K).BroadcastsInDim (Win K 1) (![0, 1, 2, 3] : Fin 4 → Fin 5)
  spreadCol : (Win K 1).BroadcastsInDim (Win K w) (![0, 1, 2, 3, 4] : Fin 5 → Fin 5)
  redWin : (Win K w).ReducesTo [3] (Row K w)
  keepRow : (Row K w).BroadcastsInDim ⟨5, ![K, 8, 512, 1, w]⟩ (![0, 1, 2, 4] : Fin 4 → Fin 5)
  spreadRow : (⟨5, ![K, 8, 512, 1, w]⟩ : Shape).BroadcastsInDim (Win K w) (![0, 1, 2, 3, 4] : Fin 5 → Fin 5)

section Ops

variable {F : FTy → Type} [FloatOps F] {K w : ℕ} (D : Dims K w)
include D

/-- The sum along a column's features. -/
def total (x : FVec F (Col K) .f32) : FVec F (Tok K) .f32 :=
  Host.reduceAdd x (constant One .f32 0x00000000#32) D.red D.one

/-- Column `j`. -/
def column (j : ℕ) (hj : j < w) (a : FVec F (Win K w) .f32) : FVec F (Col K) .f32 :=
  shapeCast (Col K) (extractStridedSlice (Win K 1) ![0, 0, 0, 0, j] a (D.col j hj)) D.drop

/-- A column over its norm. -/
def direction (v : FVec F (Col K) .f32) : FVec F (Col K) .f32 :=
  Host.divf v (broadcastInDim (Col K) ![0, 1, 2, 3] D.spread
    (Host.sqrt (broadcastInDim (Row K 1) ![0, 1, 2] D.keep (total D (mulf v v)))))

/-- A direction laid out along every column. -/
def along (q : FVec F (Col K) .f32) : FVec F (Win K w) .f32 :=
  broadcastInDim (Win K w) ![0, 1, 2, 3, 4] D.spreadCol (broadcastInDim (Win K 1) ![0, 1, 2, 3] D.keepCol q)

/-- The products of a direction with every column. -/
def products (q : FVec F (Col K) .f32) (a : FVec F (Win K w) .f32) : FVec F (Row K w) .f32 :=
  Host.reduceAdd (mulf (along D q) a) (constant One .f32 0x00000000#32) D.redWin D.one

/-- The columns less their parts along the direction. -/
def remove (q : FVec F (Col K) .f32) (r : FVec F (Row K w) .f32) (a : FVec F (Win K w) .f32) : FVec F (Win K w) .f32 :=
  subf a (mulf (along D q) (broadcastInDim (Win K w) ![0, 1, 2, 3, 4] D.spreadRow
    (broadcastInDim ⟨5, ![K, 8, 512, 1, w]⟩ ![0, 1, 2, 4] D.keepRow r)))

/-- The columns after `n` steps. -/
def after (a : FVec F (Win K w) .f32) : (n : ℕ) → n ≤ w → FVec F (Win K w) .f32
  | 0, _ => a
  | n + 1, h =>
    remove D (direction D (column D n h (after a n (Nat.le_of_succ_le h))))
      (products D (direction D (column D n h (after a n (Nat.le_of_succ_le h)))) (after a n (Nat.le_of_succ_le h)))
      (after a n (Nat.le_of_succ_le h))

/-- Row `n` of the factor. -/
def factorRow (a : FVec F (Win K w) .f32) (n : ℕ) (h : n < w) : FVec F (Row K w) .f32 :=
  products D (direction D (column D n h (after D a n h.le))) (after D a n h.le)

end Ops

/-! ## At an index -/

section Read

variable {K w : ℕ} (D : Dims K w)

theorem total_at (x : FVec Ideal (Col K) .f32) (k : Fin K) (b : Fin 8) (s : Fin 512) :
    total D x (ix3 k b s) = ∑ d : Fin 1024, x (ix4 k b s d) := by
  unfold total
  rw [hostReduceAdd_apply, Ideal.hostReduceAdd_r4_a3]
  rw [show (constant (F := Ideal) One .f32 0x00000000#32) (Shape.Idx.first D.one) = 0 by
    simp [constant, Ideal.ofBits, Ideal.ieee], zero_add]
  rfl

theorem column_at (j : ℕ) (hj : j < w) (a : FVec Ideal (Win K w) .f32) (k : Fin K) (b : Fin 8) (s : Fin 512) (d : Fin 1024) :
    column D j hj a (ix4 k b s d) = a (ix5 k b s d ⟨j, hj⟩) := by
  unfold column
  rw [Idealize.ShloMosaic.shapeCast_apply _ _ _ (ix5 k b s d 0)]
  · refine slice_at _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl
  · rw [rowMajor_val5 _ _ _ _ _ rfl rfl rfl rfl, rowMajor_val4 _ _ _ _ rfl rfl rfl]
    show k.val * (8 * (512 * (1024 * 1))) + b.val * (512 * (1024 * 1)) + s.val * (1024 * 1) + d.val * 1 + 0
      = k.val * (8 * (512 * 1024)) + b.val * (512 * 1024) + s.val * 1024 + d.val
    ring

theorem direction_at (v : FVec Ideal (Col K) .f32) (k : Fin K) (b : Fin 8) (s : Fin 512) (d : Fin 1024) :
    direction D v (ix4 k b s d)
      = Ideal.div (v (ix4 k b s d)) (Ideal.sqrt (∑ e : Fin 1024, v (ix4 k b s e) * v (ix4 k b s e))) := by
  unfold direction
  rw [hostDivf_apply, bcast_at D.spread _ _ (ix4 k b s 0) (fun a ha => by
    match a with
    | ⟨0, _⟩ => rfl
    | ⟨1, _⟩ => rfl
    | ⟨2, _⟩ => rfl
    | ⟨3, _⟩ => exact absurd rfl ha)]
  show Ideal.div _ (Ideal.sqrt (broadcastInDim _ _ _ _ _)) = _
  rw [bcast_at D.keep _ _ (ix3 k b s) (fun a _ => by
    match a with
    | ⟨0, _⟩ => rfl
    | ⟨1, _⟩ => rfl
    | ⟨2, _⟩ => rfl), total_at]
  rfl

theorem along_at (q : FVec Ideal (Col K) .f32) (k : Fin K) (b : Fin 8) (s : Fin 512) (d : Fin 1024) (c : Fin w) :
    along D q (ix5 k b s d c) = q (ix4 k b s d) := by
  unfold along
  rw [bcast_at D.spreadCol _ _ (ix5 k b s d 0) (fun a ha => by
    match a with
    | ⟨0, _⟩ => rfl
    | ⟨1, _⟩ => rfl
    | ⟨2, _⟩ => rfl
    | ⟨3, _⟩ => rfl
    | ⟨4, _⟩ => exact absurd rfl ha)]
  exact bcast_at D.keepCol _ _ _ (fun a _ => by
    match a with
    | ⟨0, _⟩ => rfl
    | ⟨1, _⟩ => rfl
    | ⟨2, _⟩ => rfl
    | ⟨3, _⟩ => rfl)

theorem products_at (q : FVec Ideal (Col K) .f32) (a : FVec Ideal (Win K w) .f32) (k : Fin K) (b : Fin 8) (s : Fin 512) (c : Fin w) :
    products D q a (ix4 k b s c) = ∑ d : Fin 1024, q (ix4 k b s d) * a (ix5 k b s d c) := by
  unfold products
  rw [hostReduceAdd_apply, Ideal.hostReduceAdd_r5_a3]
  rw [show (constant (F := Ideal) One .f32 0x00000000#32) (Shape.Idx.first D.one) = 0 by
    simp [constant, Ideal.ofBits, Ideal.ieee], zero_add]
  refine Finset.sum_congr rfl fun d _ => ?_
  show along D q (ix5 k b s d c) * a (ix5 k b s d c) = _
  rw [along_at]

theorem remove_at (q : FVec Ideal (Col K) .f32) (r : FVec Ideal (Row K w) .f32) (a : FVec Ideal (Win K w) .f32) (k : Fin K)
    (b : Fin 8) (s : Fin 512) (d : Fin 1024) (c : Fin w) :
    remove D q r a (ix5 k b s d c) = a (ix5 k b s d c) - q (ix4 k b s d) * r (ix4 k b s c) := by
  unfold remove
  show a _ - along D q _ * broadcastInDim _ _ _ _ _ = _
  rw [along_at, bcast_at D.spreadRow _ _ (ix5 k b s 0 c) (fun a ha => by
    match a with
    | ⟨0, _⟩ => rfl
    | ⟨1, _⟩ => rfl
    | ⟨2, _⟩ => rfl
    | ⟨3, _⟩ => exact absurd rfl ha
    | ⟨4, _⟩ => rfl), bcast_at D.keepRow _ _ (ix4 k b s c) (fun a _ => by
    match a with
    | ⟨0, _⟩ => rfl
    | ⟨1, _⟩ => rfl
    | ⟨2, _⟩ => rfl
    | ⟨3, _⟩ => rfl)]

end Read

/-! ## On real windows -/

section Real

variable {K w : ℕ} (D : Dims K w)

theorem sqrt_real {r : ℝ} (h : 0 ≤ r) : Ideal.sqrt (r : EReal) = ((√r : ℝ) : EReal) := by
  rw [Ideal.sqrt_coe, if_neg (not_lt.mpr h)]

theorem sum_sq (u : Fin 1024 → ℝ) : ∑ e, (u e : EReal) * (u e : EReal) = ((∑ e, u e * u e : ℝ) : EReal) := by
  rw [Weights.coe_sum]; exact Finset.sum_congr rfl fun e _ => (EReal.coe_mul _ _).symm

variable {a : FVec Ideal (Win K w) .f32} {k : Fin K} {b : Fin 8} {s : Fin 512}

/-- One step on columns that are real at a token, whose next column does not vanish. -/
theorem step_real {u : ℕ → Fin 1024 → ℝ} (ha : ∀ d (c : Fin w), a (ix5 k b s d c) = (u c.val d : EReal)) (n : ℕ) (hn : n < w)
    (hp : 0 < gram u n n) :
    (∀ d, direction D (column D n hn a) (ix4 k b s d) = ((unit u n d : ℝ) : EReal))
    ∧ ∀ c : Fin w, products D (direction D (column D n hn a)) a (ix4 k b s c) = ((row u n c.val : ℝ) : EReal) := by
  have hq : ∀ d, direction D (column D n hn a) (ix4 k b s d) = ((unit u n d : ℝ) : EReal) := fun d => by
    rw [direction_at]
    simp only [column_at, ha]
    rw [sum_sq, sqrt_real (Finset.sum_nonneg fun _ _ => mul_self_nonneg _)]
    exact Weights.div_real (Real.sqrt_pos.mpr hp).ne' _
  refine ⟨hq, fun c => ?_⟩
  rw [products_at, row, Weights.coe_sum]
  exact Finset.sum_congr rfl fun d _ => by rw [hq, ha, EReal.coe_mul]

theorem after_real {v : ℕ → Fin 1024 → ℝ} (ha : ∀ d (c : Fin w), a (ix5 k b s d c) = (v c.val d : EReal)) (n : ℕ) (hn : n ≤ w)
    (hp : ∀ m < n, 0 < left (gram v) m m m) (d : Fin 1024) (c : Fin w) :
    after D a n hn (ix5 k b s d c) = ((rest v n c.val d : ℝ) : EReal) := by
  induction n generalizing d c with
  | zero => exact ha d c
  | succ n ih =>
    have ih' := fun d c => ih (by omega) (fun m hm => hp m (by omega)) d c
    have hg : 0 < gram (rest v n) n n := by
      rw [gram_rest v (fun m hm => hp m (by omega))]; exact hp n (by omega)
    obtain ⟨h1, h2⟩ := step_real D ih' n hn hg
    rw [after, remove_at, h1, h2, ih', ← EReal.coe_mul, ← EReal.coe_sub]
    rfl

theorem factorRow_real {v : ℕ → Fin 1024 → ℝ} (ha : ∀ d (c : Fin w), a (ix5 k b s d c) = (v c.val d : EReal)) (n : ℕ)
    (hn : n < w) (hp : ∀ m < n + 1, 0 < left (gram v) m m m) (c : Fin w) :
    factorRow D a n hn (ix4 k b s c) = ((fac (gram v) n c.val : ℝ) : EReal) := by
  have hp' := fun m hm => hp m (Nat.lt_succ_of_lt hm)
  have hg : 0 < gram (rest v n) n n := by rw [gram_rest v hp']; exact hp n (by omega)
  rw [factorRow, (step_real D (after_real D ha n hn.le hp') n hn hg).2, row_rest v hp']

/-- A positive diagonal of the factor means that no column vanished. -/
theorem pos_of_factorRow {v : ℕ → Fin 1024 → ℝ} (ha : ∀ d (c : Fin w), a (ix5 k b s d c) = (v c.val d : EReal))
    (hd : ∀ n (hn : n < w), 0 < factorRow D a n hn (ix4 k b s ⟨n, hn⟩)) : ∀ n, n < w → 0 < left (gram v) n n n := by
  intro n
  induction n using Nat.strong_induction_on with
  | _ n ih =>
    intro hn
    have hp : ∀ m < n, 0 < left (gram v) m m m := fun m hm => ih m hm (by omega)
    have ha' := after_real D ha n hn.le hp
    rw [← gram_rest v hp]
    have h0 : 0 ≤ gram (rest v n) n n := Finset.sum_nonneg fun _ _ => mul_self_nonneg _
    refine lt_of_le_of_ne h0 fun he => ?_
    have hz : ∀ d, rest v n n d = 0 := fun d =>
      mul_self_eq_zero.mp ((Finset.sum_eq_zero_iff_of_nonneg (fun d _ => mul_self_nonneg (rest v n n d))).mp he.symm d (Finset.mem_univ d))
    have := hd n hn
    rw [factorRow, products_at] at this
    refine this.ne' (Finset.sum_eq_zero fun d _ => ?_)
    rw [ha', hz, EReal.coe_zero, mul_zero]

end Real

end Cert.Steps

end
-- ==== Proof.Windows.lean ====
/- The windows of the layers. -/
module

public import Mathlib.Data.List.GetD

@[expose] public section

namespace Cert

/-- The layers of window `k`, the centre last. -/
def window : ℕ → List ℕ
  | 0 => [1, 2, 0]
  | 1 => [2, 3, 1]
  | 7 => [5, 6, 8, 7]
  | 8 => [6, 7, 8]
  | k => [k - 2, k - 1, k + 1, k + 2, k]

/-- The layer in place `a` of window `k`. -/
def place (k a : ℕ) : ℕ := (window k).getD a 0

/-- The width of window `k` less two. -/
def width : ℕ → ℕ
  | 0 => 1
  | 1 => 1
  | 7 => 2
  | 8 => 1
  | _ => 3

/-- The centre comes last. -/
theorem place_last : ∀ k < 9, place k (width k + 1) = k := by decide

end Cert
-- ==== Proof.Token.lean ====
/- What the kernel and the reference compute at one token, from the real values of its layers. -/
module

public import proofs.«01_k».proof.Proof.Windows
public import proofs.«01_k».proof.Proof.Schur
public import proofs.«01_k».proof.Proof.Weights

@[expose] public section

noncomputable section

namespace Cert.Token

open Idealize.ShloMosaic Finset Cert.Schur

variable (u : ℕ → Fin 1024 → ℝ)

/-- The inner products inside window `k`. -/
def inside (k a b : ℕ) : ℝ := gram u (place k a) (place k b)

theorem inside_symm (k a b : ℕ) : inside u k a b = inside u k b a := gram_symm u _ _

/-- The norm of the centre's coordinates along the other layers of window `k`. -/
def reach (k : ℕ) : ℝ :=
  √(∑ a ∈ range (width k + 1), fac (inside u k) a (width k + 1) * fac (inside u k) a (width k + 1))

/-- The product of those coordinates with the mean of the other layers' unit columns. -/
def pull (k : ℕ) : ℝ :=
  ∑ a ∈ range (width k + 1), (∑ j ∈ range (width k + 1), fac (inside u k) a j / √(inside u k j j)) / ((width k + 1 : ℕ) : ℝ)
    * fac (inside u k) a (width k + 1)

/-- The alignment of layer `k`. -/
def alignment (k : ℕ) : EReal := Ideal.div (reach u k : EReal) ((pull u k : EReal) * ((2 * (width k + 2) : ℕ) : ℝ))

/-- The novelty of layer `k`. -/
def novelty (k : ℕ) : ℝ := fac (inside u k) (width k + 1) (width k + 1) / √(inside u k (width k + 1) (width k + 1))

/-- The layers of every window are independent and the centre is not orthogonal to all the others. -/
structure Regular : Prop where
  pos : ∀ k < 9, ∀ n < width k + 2, 0 < left (inside u k) n n n
  reach : ∀ k < 9, 0 < reach u k

variable {u}

theorem Regular.inside_pos (h : Regular u) {k c : ℕ} (hk : k < 9) (hc : c < width k + 2) : 0 < inside u k c c :=
  diag_pos (inside_symm u k) (h.pos k hk) hc

theorem Regular.gram_pos (h : Regular u) {k : ℕ} (hk : k < 9) : 0 < gram u k k := by
  have := h.inside_pos hk (c := width k + 1) (by omega)
  rwa [inside, place_last k hk] at this

theorem Regular.novelty_pos (h : Regular u) {k : ℕ} (hk : k < 9) : 0 < novelty u k :=
  div_pos (fac_diag_pos (h.pos k hk _ (by omega))) (Real.sqrt_pos.mpr (h.inside_pos hk (by omega)))

variable (u)

/-- A layer's weight. -/
def weight (i : Fin 9) : EReal :=
  Weights.weight (fun j : Fin 9 => alignment u j.val) (fun j : Fin 9 => ((novelty u j.val : ℝ) : EReal)) i

/-- A layer's share of the weights. -/
def portion (i : Fin 9) : ℝ := (Ideal.div (weight u i) (∑ j, weight u j)).toReal

variable {u}

theorem Regular.spec (h : Regular u) :
    (∀ i : Fin 9, alignment u i.val * Ideal.div 1 (∑ j : Fin 9, alignment u j.val)
      + (novelty u i.val : EReal) * Ideal.div 1 (∑ j : Fin 9, ((novelty u j.val : ℝ) : EReal)) = weight u i)
    ∧ (∀ i, Ideal.div (weight u i) (∑ j, weight u j) = (portion u i : EReal))
    ∧ ∀ (v : ℝ) (i : Fin 9), weight u i * Ideal.div (v : EReal) (∑ j, weight u j) = ((v * portion u i : ℝ) : EReal) := by
  obtain ⟨h1, c, hc⟩ := Weights.weight_spec (fun i : Fin 9 => alignment u i.val) (fun i : Fin 9 => novelty u i.val)
    (fun i => Weights.score (h.reach i.val i.isLt) _ (t := ((2 * (width i.val + 2) : ℕ) : ℝ)) (by positivity))
    (sum_pos (fun i _ => h.novelty_pos i.isLt) univ_nonempty)
  have hp : ∀ i, portion u i = c i := fun i => by
    have := (hc i).1
    exact congrArg EReal.toReal this
  refine ⟨h1, fun i => ?_, fun v i => ?_⟩
  · rw [hp]; exact (hc i).1
  · rw [hp]; exact (hc i).2 v

variable (u)

/-- The smallest denominator of a cosine. -/
def floor : ℝ := 11258999 / 2 ^ 50

theorem floor_pos : 0 < floor := by unfold floor; positivity

/-- The cosine of layers `l` and `l + 1`. -/
def cosine (l : ℕ) : ℝ := gram u l (l + 1) / max (√(gram u l l) * √(gram u (l + 1) (l + 1))) floor

/-- The variance of the eight cosines. -/
def variance : ℝ :=
  (∑ l ∈ range 8, (cosine u l - (∑ j ∈ range 8, cosine u j) / 8) * (cosine u l - (∑ j ∈ range 8, cosine u j) / 8)) / 7

end Cert.Token

end
-- ==== Proof.Lits.lean ====
/- The real values of the programs' constants, and roots of reals. -/
module

public import proofs.«01_k».proof.Proof.Token
public import Idealize.ShloMosaic.Lib.IdealHost
public import Idealize.ShloMosaic.PureOps.IdealRules

@[expose] public section

noncomputable section

namespace Cert.Lits

open Idealize.ShloMosaic

theorem half : Ideal.ofBits .f32 0x3F000000#32 = ((1 / 2 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num
theorem six : Ideal.ofBits .f32 0x40C00000#32 = ((6 : ℝ) : EReal) := by
  simp [Ideal.ofBits, Ideal.ieee, -EReal.coe_mul]; norm_num
theorem seven : Ideal.ofBits .f32 0x40E00000#32 = ((7 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem ten : Ideal.ofBits .f32 0x41200000#32 = ((10 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem zero : Ideal.ofBits .f32 0x00000000#32 = 0 := Ideal.ofBits_zero_f32
theorem two : Ideal.ofBits .f32 0x40000000#32 = ((2 : ℝ) : EReal) := by
  simp [Ideal.ofBits, Ideal.ieee, -EReal.coe_mul]; norm_num
theorem three : Ideal.ofBits .f32 0x40400000#32 = ((3 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem floor : Ideal.ofBits .f32 0x322BCC77#32 = ((Token.floor : ℝ) : EReal) := by
  unfold Token.floor
  simp [Ideal.ofBits, Ideal.ieee, -EReal.coe_mul]; norm_num

theorem rsqrt_real {r : ℝ} (h : 0 < r) : Ideal.rsqrt (r : EReal) = (((√r)⁻¹ : ℝ) : EReal) := by
  rw [Ideal.rsqrt_coe, if_neg h.not_gt, if_neg h.ne']

theorem sqrt_real {r : ℝ} (h : 0 ≤ r) : Ideal.sqrt (r : EReal) = ((√r : ℝ) : EReal) := by
  rw [Ideal.sqrt_coe, if_neg h.not_gt]

theorem max_real (x y : ℝ) : max (x : EReal) (y : EReal) = ((max x y : ℝ) : EReal) :=
  (EReal.coe_strictMono.monotone.map_max).symm

end Cert.Lits

end
-- ==== Proof.Groups.lean ====
/- The layers whose windows have one form, as the reference treats them together: their windows, the triangular
   factors, and the alignments and novelties read off the factors; and what these hold at an index. -/
module

public import proofs.«01_k».proof.Proof.Steps
public import proofs.«01_k».proof.Proof.Lits

@[expose] public section

noncomputable section

namespace Cert.Groups

open Idealize.ShloMosaic Cert.Arrays Cert.Schur Cert.Steps
open Idealize.ShloMosaic.ValueIdx (hostDivf_apply hostReduceAdd_apply)

/-- The nine layers. -/
abbrev Nine : Shape := ⟨4, ![9, 8, 512, 1024]⟩
/-- The factors' rows and columns below the given sizes. -/
abbrev Part (K m n : ℕ) : Shape := ⟨5, ![K, 8, 512, m, n]⟩

theorem ofFn_fits {α : Type} {N : ℕ} {s t : Shape} {a : Fin t.rank} (h : Shape.Concatenates (List.ofFn fun _ : Fin N => s) t a)
    (f : Fin N → s.Idx → α) :
    Shape.Concatenates ((List.ofFn fun n : Fin N => (⟨s, f n⟩ : (s : Shape) × (s.Idx → α))).map (·.1)) t a := by
  rw [List.map_ofFn]; exact h

/-- The side conditions of the operations below, for windows of `p + 1` layers. -/
structure Sides (K p : ℕ) (offs : Fin (p + 1) → ℕ) : Prop where
  dims : Dims K (p + 1)
  take : ∀ c, Nine.Slices ![offs c, 0, 0, 0] (Col K)
  stack : Shape.Concatenates (List.ofFn fun _ : Fin (p + 1) => Win K 1) (Win K (p + 1)) 4
  rows : Shape.Concatenates (List.ofFn fun _ : Fin (p + 1) => Part K 1 (p + 1)) (Fac K (p + 1)) 3
  lastCol : (Fac K (p + 1)).Slices ![0, 0, 0, 0, p] (Part K (p + 1) 1)
  lastDrop : (Part K (p + 1) 1).ShapeCasts (Row K (p + 1))
  above : (Fac K (p + 1)).Slices ![0, 0, 0, 0, p] (Part K p 1)
  aboveDrop : (Part K p 1).ShapeCasts (Row K p)
  sub : (Fac K (p + 1)).Slices ![0, 0, 0, 0, 0] (Part K p p)
  short : (Row K (p + 1)).Slices ![0, 0, 0, 0] (Row K p)
  final : (Row K (p + 1)).Slices ![0, 0, 0, p] (Row K 1)
  finalDrop : (Row K 1).ShapeCasts (Tok K)
  redLast : (Row K (p + 1)).ReducesTo [3] (Tok K)
  redShort : (Row K p).ReducesTo [3] (Tok K)
  redCols : (Part K p p).ReducesTo [3] (Row K p)
  redRows : (Part K p p).ReducesTo [4] (Row K p)
  keep : (Row K p).BroadcastsInDim (Part K 1 p) (![0, 1, 2, 4] : Fin 4 → Fin 5)
  spread : (Part K 1 p).BroadcastsInDim (Part K p p) (![0, 1, 2, 3, 4] : Fin 5 → Fin 5)
  fillRow : One.BroadcastsInDim (Row K p) (![] : Fin 0 → Fin 4)
  fillTok : One.BroadcastsInDim (Tok K) (![] : Fin 0 → Fin 3)
  diag : ∀ j, j < p + 1 → (Fac K (p + 1)).Slices ![0, 0, 0, j, j] (Part K 1 1)
  diagDrop : (Part K 1 1).ShapeCasts (Tok K)
  all : (Tok K).ReducesTo [0, 1, 2] One

section Ops

variable {F : FTy → Type} [FloatOps F] {K p : ℕ} {offs : Fin (p + 1) → ℕ} (S : Sides K p offs)

/-- The windows of the group's layers. -/
def windows (x : FVec F Nine .f32) : FVec F (Win K (p + 1)) .f32 :=
  concatenate (Win K (p + 1)) 4
    (List.ofFn fun c : Fin (p + 1) =>
      (⟨Win K 1, broadcastInDim (Win K 1) ![0, 1, 2, 3] S.dims.keepCol
        (extractStridedSlice (Col K) ![offs c, 0, 0, 0] x (S.take c))⟩ : (s : Shape) × (s.Idx → F .f32)))
    (ofFn_fits S.stack _)

/-- The triangular factors of the windows. -/
def factor (a : FVec F (Win K (p + 1)) .f32) : FVec F (Fac K (p + 1)) .f32 :=
  concatenate (Fac K (p + 1)) 3
    (List.ofFn fun n : Fin (p + 1) =>
      (⟨Part K 1 (p + 1), broadcastInDim (Part K 1 (p + 1)) ![0, 1, 2, 4] S.dims.keepRow
        (factorRow S.dims a n.val n.isLt)⟩ : (s : Shape) × (s.Idx → F .f32)))
    (ofFn_fits S.rows _)

/-- The last column of the factors. -/
def lastCol (R : FVec F (Fac K (p + 1)) .f32) : FVec F (Row K (p + 1)) .f32 :=
  shapeCast (Row K (p + 1)) (extractStridedSlice (Part K (p + 1) 1) ![0, 0, 0, 0, p] R S.lastCol) S.lastDrop

/-- The last column without its last entry. -/
def above (R : FVec F (Fac K (p + 1)) .f32) : FVec F (Row K p) .f32 :=
  shapeCast (Row K p) (extractStridedSlice (Part K p 1) ![0, 0, 0, 0, p] R S.above) S.aboveDrop

/-- The factors without their last row and column. -/
def sub (R : FVec F (Fac K (p + 1)) .f32) : FVec F (Part K p p) .f32 :=
  extractStridedSlice (Part K p p) ![0, 0, 0, 0, 0] R S.sub

/-- The norm along the last axis. -/
def norm {n : ℕ} (h : (Row K n).ReducesTo [3] (Tok K)) (x : FVec F (Row K n) .f32) : FVec F (Tok K) .f32 :=
  Host.sqrt (Host.reduceAdd (mulf x x) (constant One .f32 0x00000000#32) h S.dims.one)

/-- The mean over the other layers of their unit columns. -/
def meanRows (count : BitVec 32) (y : FVec F (Part K p p) .f32) : FVec F (Row K p) .f32 :=
  Host.divf
    (Host.reduceAdd
      (Host.divf y (broadcastInDim (Part K p p) ![0, 1, 2, 3, 4] S.spread
        (broadcastInDim (Part K 1 p) ![0, 1, 2, 4] S.keep
          (Host.sqrt (Host.reduceAdd (mulf y y) (constant One .f32 0x00000000#32) S.redCols S.dims.one)))))
      (constant One .f32 0x00000000#32) S.redRows S.dims.one)
    (broadcastInDim (Row K p) ![] S.fillRow (constant One .f32 count))

/-- The alignments. -/
def aligns (count scale : BitVec 32) (R : FVec F (Fac K (p + 1)) .f32) : FVec F (Tok K) .f32 :=
  Host.divf (broadcastInDim (Tok K) ![] S.fillTok (constant One .f32 0x3F800000#32))
    (mulf
      (Host.divf
        (Host.reduceAdd (mulf (meanRows S count (sub S R)) (above S R)) (constant One .f32 0x00000000#32) S.redShort S.dims.one)
        (norm S S.redShort (extractStridedSlice (Row K p) ![0, 0, 0, 0] (lastCol S R) S.short)))
      (broadcastInDim (Tok K) ![] S.fillTok (constant One .f32 scale)))

/-- The novelties. -/
def novs (R : FVec F (Fac K (p + 1)) .f32) : FVec F (Tok K) .f32 :=
  Host.divf
    (Host.absf (shapeCast (Tok K) (extractStridedSlice (Row K 1) ![0, 0, 0, p] (lastCol S R) S.final) S.finalDrop))
    (norm S S.redLast (lastCol S R))

/-- Diagonal entry `j` of the factors. -/
def diag (j : ℕ) (hj : j < p + 1) (R : FVec F (Fac K (p + 1)) .f32) : FVec F (Tok K) .f32 :=
  shapeCast (Tok K) (extractStridedSlice (Part K 1 1) ![0, 0, 0, j, j] R (S.diag j hj)) S.diagDrop

/-- Whether every number is positive. -/
def positive (x : FVec F (Tok K) .f32) : IVec One 1 :=
  Host.reduce IntOp.andi (cmpf .ogt x (broadcastInDim (Tok K) ![] S.fillTok (constant One .f32 0x00000000#32)))
    (constantI One 1 1#1) S.all S.dims.one

/-- What was asked before, and that the first `n` diagonal entries are positive. -/
def diagsPositive (R : FVec F (Fac K (p + 1)) .f32) (ok : IVec One 1) : (n : ℕ) → n ≤ p + 1 → IVec One 1
  | 0, _ => ok
  | n + 1, h => andi (diagsPositive R ok n (Nat.le_of_succ_le h)) (positive S (diag S n h R))

/-- What was asked before, and that the group's factors are regular. -/
def regular (R : FVec F (Fac K (p + 1)) .f32) (ok : IVec One 1) : IVec One 1 :=
  andi (diagsPositive S R ok (p + 1) le_rfl) (positive S (norm S S.redShort (above S R)))

end Ops

/-! ## At an index -/

section Read

variable {K p : ℕ} {offs : Fin (p + 1) → ℕ} (S : Sides K p offs)

theorem first_zero (h : 0 < One.numel) : (constant (F := Ideal) One .f32 0x00000000#32) (Shape.Idx.first h) = 0 := Lits.zero

theorem fill_at {t : Shape} {f : Fin 0 → Fin t.rank} (h : One.BroadcastsInDim t f) (c : BitVec 32) (j : t.Idx) :
    broadcastInDim t f h (constant (F := Ideal) One .f32 c) j = Ideal.ofBits .f32 c := rfl

theorem windows_at (x : FVec Ideal Nine .f32) (k : Fin K) (b : Fin 8) (s : Fin 512) (d : Fin 1024) (c : Fin (p + 1))
    (l : Fin 9) (hl : l.val = offs c + k.val) : windows S x (ix5 k b s d c) = x (ix4 l b s d) := by
  unfold windows
  refine (concatenate_ofFn_unit_apply (t := Win K (p + 1)) (s₁ := Win K 1) 4 _ _ rfl rfl (ix5 k b s d c) c rfl (ix5 k b s d 0) fun a ha => ?_).trans ?_
  · match a with
    | ⟨0, _⟩ => rfl
    | ⟨1, _⟩ => rfl
    | ⟨2, _⟩ => rfl
    | ⟨3, _⟩ => rfl
    | ⟨4, _⟩ => exact absurd rfl ha
  rw [bcast_at S.dims.keepCol _ _ (ix4 k b s d) (fun a _ => by
    match a with
    | ⟨0, _⟩ => rfl
    | ⟨1, _⟩ => rfl
    | ⟨2, _⟩ => rfl
    | ⟨3, _⟩ => rfl)]
  refine slice_at _ _ _ _ fun a => ?_
  match a with
  | ⟨0, _⟩ => exact hl
  | ⟨1, _⟩ => exact (Nat.zero_add _).symm
  | ⟨2, _⟩ => exact (Nat.zero_add _).symm
  | ⟨3, _⟩ => exact (Nat.zero_add _).symm

theorem factor_at (a : FVec Ideal (Win K (p + 1)) .f32) (k : Fin K) (b : Fin 8) (s : Fin 512) (n c : Fin (p + 1)) :
    factor S a (ix5 k b s n c) = factorRow S.dims a n.val n.isLt (ix4 k b s c) := by
  unfold factor
  refine (concatenate_ofFn_unit_apply (t := Fac K (p + 1)) (s₁ := Part K 1 (p + 1)) 3 _ _ rfl rfl (ix5 k b s n c) n rfl (ix5 k b s 0 c) fun a ha => ?_).trans ?_
  · match a with
    | ⟨0, _⟩ => rfl
    | ⟨1, _⟩ => rfl
    | ⟨2, _⟩ => rfl
    | ⟨3, _⟩ => exact absurd rfl ha
    | ⟨4, _⟩ => rfl
  exact bcast_at S.dims.keepRow _ _ (ix4 k b s c) (fun a _ => by
    match a with
    | ⟨0, _⟩ => rfl
    | ⟨1, _⟩ => rfl
    | ⟨2, _⟩ => rfl
    | ⟨3, _⟩ => rfl)

/-- A column of one part of the factors, its unit axis dropped. -/
theorem column_at {m : ℕ} (h : (Fac K (p + 1)).Slices ![0, 0, 0, 0, p] (Part K m 1)) (hd : (Part K m 1).ShapeCasts (Row K m))
    (R : FVec Ideal (Fac K (p + 1)) .f32) (k : Fin K) (b : Fin 8) (s : Fin 512) (n : Fin m) (n' : Fin (p + 1)) (hn : n'.val = n.val) :
    shapeCast (Row K m) (extractStridedSlice (Part K m 1) ![0, 0, 0, 0, p] R h) hd (ix4 k b s n) = R (ix5 k b s n' (Fin.last p)) := by
  rw [Idealize.ShloMosaic.shapeCast_apply _ _ _ (ix5 k b s n 0)]
  · refine slice_at _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact hn.trans (Nat.zero_add _).symm
    | ⟨4, _⟩ => rfl
  · rw [rowMajor_val5 _ _ _ _ _ rfl rfl rfl rfl, rowMajor_val4 _ _ _ _ rfl rfl rfl]
    show k.val * (8 * (512 * (m * 1))) + b.val * (512 * (m * 1)) + s.val * (m * 1) + n.val * 1 + 0
      = k.val * (8 * (512 * m)) + b.val * (512 * m) + s.val * m + n.val
    ring

theorem lastCol_at (R : FVec Ideal (Fac K (p + 1)) .f32) (k : Fin K) (b : Fin 8) (s : Fin 512) (n : Fin (p + 1)) :
    lastCol S R (ix4 k b s n) = R (ix5 k b s n (Fin.last p)) :=
  column_at S.lastCol S.lastDrop R k b s n n rfl

theorem above_at (R : FVec Ideal (Fac K (p + 1)) .f32) (k : Fin K) (b : Fin 8) (s : Fin 512) (n : Fin p) :
    above S R (ix4 k b s n) = R (ix5 k b s n.castSucc (Fin.last p)) :=
  column_at S.above S.aboveDrop R k b s n n.castSucc rfl

theorem sub_at (R : FVec Ideal (Fac K (p + 1)) .f32) (k : Fin K) (b : Fin 8) (s : Fin 512) (n c : Fin p) :
    sub S R (ix5 k b s n c) = R (ix5 k b s n.castSucc c.castSucc) := by
  refine slice_at _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => exact (Nat.zero_add _).symm

theorem rowSum_at {n : ℕ} (h : (Row K n).ReducesTo [3] (Tok K)) (x : FVec Ideal (Row K n) .f32) (k : Fin K) (b : Fin 8) (s : Fin 512) :
    Host.reduceAdd x (constant One .f32 0x00000000#32) h S.dims.one (ix3 k b s) = ∑ i : Fin n, x (ix4 k b s i) := by
  rw [hostReduceAdd_apply, Ideal.hostReduceAdd_r4_a3, first_zero, zero_add]
  rfl

theorem norm_at {n : ℕ} (h : (Row K n).ReducesTo [3] (Tok K)) (x : FVec Ideal (Row K n) .f32) (k : Fin K) (b : Fin 8) (s : Fin 512) :
    norm S h x (ix3 k b s) = Ideal.sqrt (∑ i : Fin n, x (ix4 k b s i) * x (ix4 k b s i)) :=
  congrArg Ideal.sqrt (rowSum_at S h (mulf x x) k b s)

theorem meanRows_at (count : BitVec 32) (y : FVec Ideal (Part K p p) .f32) (k : Fin K) (b : Fin 8) (s : Fin 512) (n : Fin p) :
    meanRows S count y (ix4 k b s n)
      = Ideal.div (∑ c : Fin p, Ideal.div (y (ix5 k b s n c)) (Ideal.sqrt (∑ m : Fin p, y (ix5 k b s m c) * y (ix5 k b s m c))))
          (Ideal.ofBits .f32 count) := by
  unfold meanRows
  rw [hostDivf_apply, fill_at, hostReduceAdd_apply, Ideal.hostReduceAdd_r5_a4, first_zero, zero_add]
  refine congrArg (Ideal.div · _) (Finset.sum_congr rfl fun c _ => ?_)
  refine (hostDivf_apply _ _ (ix5 k b s n c)).trans (congrArg (Ideal.div _) ?_)
  rw [bcast_at S.spread _ _ (ix5 k b s 0 c) (fun a ha => by
    match a with
    | ⟨0, _⟩ => rfl
    | ⟨1, _⟩ => rfl
    | ⟨2, _⟩ => rfl
    | ⟨3, _⟩ => exact absurd rfl ha
    | ⟨4, _⟩ => rfl), bcast_at S.keep _ _ (ix4 k b s c) (fun a _ => by
    match a with
    | ⟨0, _⟩ => rfl
    | ⟨1, _⟩ => rfl
    | ⟨2, _⟩ => rfl
    | ⟨3, _⟩ => rfl)]
  refine congrArg Ideal.sqrt ?_
  rw [hostReduceAdd_apply, Ideal.hostReduceAdd_r5_a3, first_zero, zero_add]
  rfl

theorem aligns_at (count scale : BitVec 32) (R : FVec Ideal (Fac K (p + 1)) .f32) (k : Fin K) (b : Fin 8) (s : Fin 512) :
    aligns S count scale R (ix3 k b s)
      = Ideal.div (Ideal.ofBits .f32 0x3F800000#32)
          (Ideal.div (∑ n : Fin p, meanRows S count (sub S R) (ix4 k b s n) * R (ix5 k b s n.castSucc (Fin.last p)))
            (Ideal.sqrt (∑ n : Fin p, R (ix5 k b s n.castSucc (Fin.last p)) * R (ix5 k b s n.castSucc (Fin.last p))))
            * Ideal.ofBits .f32 scale) := by
  unfold aligns
  have hs : ∀ n : Fin p, extractStridedSlice (Row K p) ![0, 0, 0, 0] (lastCol S R) S.short (ix4 k b s n)
      = R (ix5 k b s n.castSucc (Fin.last p)) := fun n => by
    rw [slice_at (lastCol S R) S.short _ (ix4 k b s n.castSucc) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm), lastCol_at]
  rw [hostDivf_apply, fill_at]
  refine congrArg (Ideal.div _) (congrArg (· * Ideal.ofBits .f32 scale) ?_)
  rw [hostDivf_apply, rowSum_at S, norm_at]
  simp only [hs]
  refine congrArg (Ideal.div · _) (Finset.sum_congr rfl fun n _ => ?_)
  exact congrArg (_ * ·) (above_at S R k b s n)

theorem novs_at (R : FVec Ideal (Fac K (p + 1)) .f32) (k : Fin K) (b : Fin 8) (s : Fin 512) :
    novs S R (ix3 k b s)
      = Ideal.div (max (R (ix5 k b s (Fin.last p) (Fin.last p))) (-R (ix5 k b s (Fin.last p) (Fin.last p))))
          (Ideal.sqrt (∑ n : Fin (p + 1), R (ix5 k b s n (Fin.last p)) * R (ix5 k b s n (Fin.last p)))) := by
  unfold novs
  rw [hostDivf_apply, norm_at]
  simp only [lastCol_at]
  have h : shapeCast (Tok K) (extractStridedSlice (Row K 1) ![0, 0, 0, p] (lastCol S R) S.final) S.finalDrop (ix3 k b s)
      = R (ix5 k b s (Fin.last p) (Fin.last p)) := by
    rw [Idealize.ShloMosaic.shapeCast_apply _ _ _ (ix4 k b s 0)]
    · rw [slice_at (lastCol S R) S.final _ (ix4 k b s (Fin.last p)) (fun a => by
        match a with
        | ⟨0, _⟩ => exact (Nat.zero_add _).symm
        | ⟨1, _⟩ => exact (Nat.zero_add _).symm
        | ⟨2, _⟩ => exact (Nat.zero_add _).symm
        | ⟨3, _⟩ => rfl), lastCol_at]
    · rw [rowMajor_val4 _ _ _ _ rfl rfl rfl, rowMajor_val3 _ _ _ rfl rfl]
      show k.val * (8 * (512 * 1)) + b.val * (512 * 1) + s.val * 1 + 0 = k.val * (8 * 512) + b.val * 512 + s.val
      ring
  exact congrArg (fun z => Ideal.div (max z (-z)) _) h

theorem diag_at (j : ℕ) (hj : j < p + 1) (R : FVec Ideal (Fac K (p + 1)) .f32) (k : Fin K) (b : Fin 8) (s : Fin 512) :
    diag S j hj R (ix3 k b s) = R (ix5 k b s ⟨j, hj⟩ ⟨j, hj⟩) := by
  unfold diag
  rw [Idealize.ShloMosaic.shapeCast_apply _ _ _ (ix5 k b s 0 0)]
  · refine slice_at _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => rfl
    | ⟨4, _⟩ => rfl
  · rw [rowMajor_val5 _ _ _ _ _ rfl rfl rfl rfl, rowMajor_val3 _ _ _ rfl rfl]
    show k.val * (8 * (512 * (1 * 1))) + b.val * (512 * (1 * 1)) + s.val * (1 * 1) + 0 * 1 + 0 = k.val * (8 * 512) + b.val * 512 + s.val
    ring

end Read

end Cert.Groups

end
-- ==== Proof.Whole.lean ====
/- The reference and the precondition as array operations, put together of the groups' operations. -/
module

public import proofs.«01_k».proof.Proof.Groups

@[expose] public section

noncomputable section

namespace Cert.Whole

open Idealize.ShloMosaic Cert.Steps Cert.Groups

/-- The hidden states. -/
abbrev All : Shape := ⟨4, ![13, 8, 512, 1024]⟩
/-- One number for every token. -/
abbrev Grid : Shape := ⟨2, ![8, 512]⟩
/-- One number for every sequence. -/
abbrev Seqs : Shape := ⟨1, ![8]⟩
/-- One number for every position. -/
abbrev Spots : Shape := ⟨1, ![512]⟩
/-- Eight layers. -/
abbrev Eight : Shape := ⟨4, ![8, 8, 512, 1024]⟩
/-- The tokens' vectors. -/
abbrev Vecs : Shape := ⟨3, ![8, 512, 1024]⟩
/-- The sequences' vectors. -/
abbrev Outs : Shape := ⟨2, ![8, 1024]⟩

/-- The side conditions of the operations below. -/
structure Ends : Prop where
  layers : All.Slices ![4, 0, 0, 0] Nine
  redNine : Nine.ReducesTo [3] (Tok 9)
  upper : Nine.Slices ![1, 0, 0, 0] Eight
  lower : Nine.Slices ![0, 0, 0, 0] Eight
  redEight : Eight.ReducesTo [3] (Tok 8)
  upperTok : (Tok 9).Slices ![1, 0, 0] (Tok 8)
  lowerTok : (Tok 9).Slices ![0, 0, 0] (Tok 8)
  fillEight : One.BroadcastsInDim (Tok 8) (![] : Fin 0 → Fin 3)
  fillOne : One.BroadcastsInDim (Tok 1) (![] : Fin 0 → Fin 3)
  fillGrid : One.BroadcastsInDim Grid (![] : Fin 0 → Fin 2)
  fillSeqs : One.BroadcastsInDim Seqs (![] : Fin 0 → Fin 1)
  fillNine : One.BroadcastsInDim Nine (![] : Fin 0 → Fin 4)
  sumEight : (Tok 8).ReducesTo [0] Grid
  sumNine : (Tok 9).ReducesTo [0] Grid
  keepGrid : Grid.BroadcastsInDim (Tok 1) (![1, 2] : Fin 2 → Fin 3)
  overEight : (Tok 1).BroadcastsInDim (Tok 8) (![0, 1, 2] : Fin 3 → Fin 3)
  overNine : (Tok 1).BroadcastsInDim (Tok 9) (![0, 1, 2] : Fin 3 → Fin 3)
  keepSpots : Spots.BroadcastsInDim ⟨2, ![1, 512]⟩ (![1] : Fin 1 → Fin 2)
  overSpots : (⟨2, ![1, 512]⟩ : Shape).BroadcastsInDim Grid (![0, 1] : Fin 2 → Fin 2)
  keepSeqs : Seqs.BroadcastsInDim ⟨2, ![8, 1]⟩ (![0] : Fin 1 → Fin 2)
  overSeqs : (⟨2, ![8, 1]⟩ : Shape).BroadcastsInDim Grid (![0, 1] : Fin 2 → Fin 2)
  sumGrid : Grid.ReducesTo [1] Seqs
  pieces : Shape.Concatenates [Tok 2, Tok 5, Tok 1, Tok 1] (Tok 9) 0
  dotLayers : DotDims.WF (Tok 9) Nine Vecs [0] [0] [] [3] [1, 2] [1, 2]
  dotTokens : DotDims.WF Grid Vecs Outs [1] [1] [] [2] [0] [0]
  out : Outs.BroadcastsInDim ⟨3, ![8, 1, 1024]⟩ (![0, 2] : Fin 2 → Fin 3)
  allNine : Nine.ReducesTo [0, 1, 2, 3] One
  allGrid : Grid.ReducesTo [0, 1] One
  allSeqs : Seqs.ReducesTo [0] One
  one : 0 < One.numel

theorem ends : Ends := by constructor <;> decide

/-- The windows of the first two layers. -/
theorem sidesA : Sides 2 2 ![1, 2, 0] := by refine ⟨by constructor <;> decide, ?_, ?_, ?_, ?_, ?_, ?_, ?_, ?_, ?_, ?_, ?_, ?_, ?_, ?_, ?_, ?_, ?_, ?_, ?_, ?_, ?_, ?_⟩ <;> decide
/-- The windows of the five middle layers. -/
theorem sidesB : Sides 5 4 ![0, 1, 3, 4, 2] := by refine ⟨by constructor <;> decide, ?_, ?_, ?_, ?_, ?_, ?_, ?_, ?_, ?_, ?_, ?_, ?_, ?_, ?_, ?_, ?_, ?_, ?_, ?_, ?_, ?_, ?_⟩ <;> decide
/-- The window of the last layer but one. -/
theorem sidesC : Sides 1 3 ![5, 6, 8, 7] := by refine ⟨by constructor <;> decide, ?_, ?_, ?_, ?_, ?_, ?_, ?_, ?_, ?_, ?_, ?_, ?_, ?_, ?_, ?_, ?_, ?_, ?_, ?_, ?_, ?_, ?_⟩ <;> decide
/-- The window of the last layer. -/
theorem sidesD : Sides 1 2 ![6, 7, 8] := by refine ⟨by constructor <;> decide, ?_, ?_, ?_, ?_, ?_, ?_, ?_, ?_, ?_, ?_, ?_, ?_, ?_, ?_, ?_, ?_, ?_, ?_, ?_, ?_, ?_, ?_⟩ <;> decide

section Ops

variable {F : FTy → Type} [FloatOps F]

/-- The number `c` alone. -/
abbrev lit (c : BitVec 32) : FVec F One .f32 := constant One .f32 c

/-- The last nine layers. -/
def layers (a : FVec F All .f32) : FVec F Nine .f32 := extractStridedSlice Nine ![4, 0, 0, 0] a ends.layers

/-- The factors of a group's windows. -/
abbrev factors {K p : ℕ} {offs : Fin (p + 1) → ℕ} (S : Sides K p offs) (x : FVec F Nine .f32) : FVec F (Fac K (p + 1)) .f32 :=
  factor S (windows S x)

/-- The layers' norms. -/
def norms (x : FVec F Nine .f32) : FVec F (Tok 9) .f32 :=
  Host.sqrt (Host.reduceAdd (mulf x x) (lit 0x00000000#32) ends.redNine ends.one)

/-- The cosines of neighbouring layers. -/
def cosines (x : FVec F Nine .f32) : FVec F (Tok 8) .f32 :=
  Host.divf
    (Host.reduceAdd (mulf (extractStridedSlice Eight ![1, 0, 0, 0] x ends.upper) (extractStridedSlice Eight ![0, 0, 0, 0] x ends.lower))
      (lit 0x00000000#32) ends.redEight ends.one)
    (maximumf
      (mulf (extractStridedSlice (Tok 8) ![1, 0, 0] (norms x) ends.upperTok) (extractStridedSlice (Tok 8) ![0, 0, 0] (norms x) ends.lowerTok))
      (broadcastInDim (Tok 8) ![] ends.fillEight (lit 0x322BCC77#32)))

/-- The numbers less their mean over the layers. -/
def centred (c : FVec F (Tok 8) .f32) : FVec F (Tok 8) .f32 :=
  subf c (broadcastInDim (Tok 8) ![0, 1, 2] ends.overEight
    (Host.divf (broadcastInDim (Tok 1) ![1, 2] ends.keepGrid (Host.reduceAdd c (lit 0x00000000#32) ends.sumEight ends.one))
      (broadcastInDim (Tok 1) ![] ends.fillOne (lit 0x41000000#32))))

/-- Eight less one. -/
def freedom : FVec F One .f32 := subf (lit 0x41000000#32) (sitofp .f32 (constantI One 32 1#32))

/-- The variance over the layers. -/
def spread (c : FVec F (Tok 8) .f32) : FVec F Grid .f32 :=
  select (broadcastInDim Grid ![] ends.fillGrid (cmpf .ogt (freedom (F := F)) (lit 0x00000000#32)))
    (Host.divf (Host.reduceAdd (mulf (centred c) (centred c)) (lit 0x00000000#32) ends.sumEight ends.one)
      (broadcastInDim Grid ![] ends.fillGrid freedom))
    (broadcastInDim Grid ![] ends.fillGrid (id (lit 0x7FC00000#32)))

/-- The tokens below their sequence's number of marks less one. -/
def valid (m : IVec Grid 32) : IVec Grid 1 :=
  cmpi .slt
    (broadcastInDim Grid ![0, 1] ends.overSpots (broadcastInDim ⟨2, ![1, 512]⟩ ![1] ends.keepSpots (iotaInDim Spots 32 0)))
    (broadcastInDim Grid ![0, 1] ends.overSeqs (broadcastInDim ⟨2, ![8, 1]⟩ ![0] ends.keepSeqs
      (subi (Host.reduce IntOp.addi m (constantI One 32 0#32) ends.sumGrid ends.one)
        (broadcastInDim Seqs ![] ends.fillSeqs (constantI One 32 1#32)))))

/-- The variances, zero where a token is not valid. -/
def masked (x : FVec F Nine .f32) (m : IVec Grid 32) : FVec F Grid .f32 :=
  select (valid m) (spread (cosines x)) (broadcastInDim Grid ![] ends.fillGrid (id (lit 0x00000000#32)))

/-- Every sequence's sum. -/
def sums (v : FVec F Grid .f32) : FVec F Seqs .f32 := Host.reduceAdd v (lit 0x00000000#32) ends.sumGrid ends.one

/-- The groups' numbers, one group after the other. -/
def joined (a : FVec F (Tok 2) .f32) (b : FVec F (Tok 5) .f32) (c d : FVec F (Tok 1) .f32) : FVec F (Tok 9) .f32 :=
  concatenate (Tok 9) 0 [⟨Tok 2, a⟩, ⟨Tok 5, b⟩, ⟨Tok 1, c⟩, ⟨Tok 1, d⟩] ends.pieces

/-- The alignments of all layers. -/
def allAligns (x : FVec F Nine .f32) : FVec F (Tok 9) .f32 :=
  joined (aligns sidesA 0x40000000#32 0x40C00000#32 (factors sidesA x)) (aligns sidesB 0x40800000#32 0x41200000#32 (factors sidesB x))
    (aligns sidesC 0x40400000#32 0x41000000#32 (factors sidesC x)) (aligns sidesD 0x40000000#32 0x40C00000#32 (factors sidesD x))

/-- The novelties of all layers. -/
def allNovs (x : FVec F Nine .f32) : FVec F (Tok 9) .f32 :=
  joined (novs sidesA (factors sidesA x)) (novs sidesB (factors sidesB x)) (novs sidesC (factors sidesC x)) (novs sidesD (factors sidesD x))

/-- Numbers over their sum over the layers. -/
def shares (x : FVec F (Tok 9) .f32) : FVec F (Tok 9) .f32 :=
  Host.divf x (broadcastInDim (Tok 9) ![0, 1, 2] ends.overNine (broadcastInDim (Tok 1) ![1, 2] ends.keepGrid
    (Host.reduceAdd x (lit 0x00000000#32) ends.sumNine ends.one)))

/-- The layers' weights. -/
def weights (x : FVec F Nine .f32) : FVec F (Tok 9) .f32 := addf (shares (allAligns x)) (shares (allNovs x))

/-- The tokens' vectors: the weighted sums of their layers. -/
def vectors (x : FVec F Nine .f32) : FVec F Vecs .f32 :=
  Host.dotGeneral ⟨[0], [0], [], [3], [1, 2], [1, 2], ends.dotLayers⟩ none (shares (weights x)) x

/-- The reference's result. -/
def result (a : FVec F All .f32) (m : IVec Grid 32) : FVec F ⟨3, ![8, 1, 1024]⟩ .f32 :=
  broadcastInDim ⟨3, ![8, 1, 1024]⟩ ![0, 2] ends.out
    (Host.dotGeneral ⟨[1], [1], [], [2], [0], [0], ends.dotTokens⟩ none
      (Host.divf (masked (layers a) m) (broadcastInDim Grid ![0, 1] ends.overSeqs (broadcastInDim ⟨2, ![8, 1]⟩ ![0] ends.keepSeqs
        (sums (masked (layers a) m)))))
      (vectors (layers a)))

/-- Whether every state is finite. -/
def finite (x : FVec F Nine .f32) : IVec One 1 :=
  Host.reduce IntOp.andi (cmpf .olt (Host.absf x) (broadcastInDim Nine ![] ends.fillNine (lit 0x7F800000#32)))
    (constantI One 1 1#1) ends.allNine ends.one

/-- Whether every mark is zero or one. -/
def marks (m : IVec Grid 32) : IVec One 1 :=
  Host.reduce IntOp.andi
    (andi (cmpi .sge m (broadcastInDim Grid ![] ends.fillGrid (constantI One 32 0#32)))
      (cmpi .sle m (broadcastInDim Grid ![] ends.fillGrid (constantI One 32 1#32))))
    (constantI One 1 1#1) ends.allGrid ends.one

/-- Whether every sequence's variances have a positive sum. -/
def nonempty (v : FVec F Grid .f32) : IVec One 1 :=
  Host.reduce IntOp.andi (cmpf .ogt (sums v) (broadcastInDim Seqs ![] ends.fillSeqs (lit 0x00000000#32)))
    (constantI One 1 1#1) ends.allSeqs ends.one

/-- The precondition. -/
def asked (a : FVec F All .f32) (m : IVec Grid 32) : IVec One 1 :=
  andi
    (regular sidesD (factors sidesD (layers a)) (regular sidesC (factors sidesC (layers a))
      (regular sidesB (factors sidesB (layers a)) (regular sidesA (factors sidesA (layers a)) (andi (finite (layers a)) (marks m))))))
    (nonempty (masked (layers a) m))

end Ops

end Cert.Whole

end
-- ==== Proof.Column.lean ====
/- The kernel's body as one function of its loaded patches: inner products of layers, the triangular factor of
   every window, the two scores of a layer, and the weighted sum of the layers. -/
module

public import proofs.«01_k».proof.Proof.Gen.KernelIdeal.Frame
public import proofs.«01_k».proof.Proof.Windows

@[expose] public section

set_option maxRecDepth 16384

noncomputable section

namespace Cert.Column

open Idealize.ShloMosaic Cert.KernelIdeal Cert.KernelIdeal.Gen

variable {F : FTy → Type} [FloatOps F] [Named F]

/-- A 128 by 128 patch of one layer. -/
abbrev Patch (F : FTy → Type) := FVec F S128x128 .f32
/-- One number per token of a block. -/
abbrev Line (F : FTy → Type) := FVec F S1x512 .f32

/-! ## Loads -/

theorem inside4 (l t : Fin 4) (b : Fin 8) :
    ∀ a, (![l.val, 0, 128 * t.val, 128 * b.val] : Fin 4 → Nat) a + S1x1x128x128.size a ≤ S4x1x512x1024.size a := by
  revert l t b; decide +kernel

theorem inside1 (t : Fin 4) (b : Fin 8) :
    ∀ a, (![0, 0, 128 * t.val, 128 * b.val] : Fin 4 → Nat) a + S1x1x128x128.size a ≤ S1x1x512x1024.size a := by
  revert t b; decide +kernel

/-- A patch of a four layer block. -/
def patch4 (arg : Memref sig .tc .vmem S4x1x512x1024 .f32) (h : arg.IsWhole) (x : Vec F S4x1x512x1024 .f32)
    (l t : Fin 4) (b : Fin 8) : Patch F :=
  shapeCast S128x128 (View.readAt (Elt F) arg.view
    (Rect.unit (s := S4x1x512x1024) ![l.val, 0, 128 * t.val, 128 * b.val] S1x1x128x128.size (inside4 l t b)).toLoadRect (h.unread x))
    shapeCasts_S1x1x128x128_S128x128

/-- A patch of a one layer block. -/
def patch1 (arg : Memref sig .tc .vmem S1x1x512x1024 .f32) (h : arg.IsWhole) (x : Vec F S1x1x512x1024 .f32)
    (t : Fin 4) (b : Fin 8) : Patch F :=
  shapeCast S128x128 (View.readAt (Elt F) arg.view
    (Rect.unit (s := S1x1x512x1024) ![0, 0, 128 * t.val, 128 * b.val] S1x1x128x128.size (inside1 t b)).toLoadRect (h.unread x))
    shapeCasts_S1x1x128x128_S128x128

/-- The patches of layer `i`: the first four layers come from one block, the next four from another, the last alone. -/
def layer (arg2 : Memref sig .tc .vmem S4x1x512x1024 .f32) (harg2 : arg2.IsWhole)
    (arg3 : Memref sig .tc .vmem S4x1x512x1024 .f32) (harg3 : arg3.IsWhole)
    (arg4 : Memref sig .tc .vmem S1x1x512x1024 .f32) (harg4 : arg4.IsWhole)
    (x0 x1 : Vec F S4x1x512x1024 .f32) (x2 : Vec F S1x1x512x1024 .f32) (i : ℕ) : Fin 4 → Fin 8 → Patch F :=
  if h : i < 4 then patch4 arg2 harg2 x0 ⟨i, h⟩
  else if h' : i - 4 < 4 then patch4 arg3 harg3 x1 ⟨i - 4, h'⟩
  else patch1 arg4 harg4 x2

/-! ## Inner products -/

/-- Products of two rows of patches, added up patch by patch. -/
def across (p q : Fin 8 → Patch F) : Patch F :=
  addf (addf (addf (addf (addf (addf (addf (mulf (p 0) (q 0)) (mulf (p 1) (q 1))) (mulf (p 2) (q 2)))
    (mulf (p 3) (q 3))) (mulf (p 4) (q 4))) (mulf (p 5) (q 5))) (mulf (p 6) (q 6))) (mulf (p 7) (q 7))

/-- The patch's rows summed: one number for each of 128 tokens. -/
def strip (p q : Fin 8 → Patch F) : FVec F S1x128 .f32 :=
  shapeCast S1x128 (multiReduction .add [0] S128
    (transpose S128x128 [1, 0] (across p q) transposes_S128x128_p1_0_S128x128) 0x00000000#32
    reduces_S128x128_S128 (.inl rfl) rfl) shapeCasts_S128_S1x128

/-- The inner products of two layers at every token of the block. -/
def inner (p q : Fin 4 → Fin 8 → Patch F) : Line F :=
  concatenate S1x512 1 [⟨S1x128, strip (p 0) (q 0)⟩, ⟨S1x128, strip (p 1) (q 1)⟩, ⟨S1x128, strip (p 2) (q 2)⟩,
    ⟨S1x128, strip (p 3) (q 3)⟩] concatenates_S1x128_S1x128_S1x128_S1x128_S1x512_d1

/-- The inner product of layers `i` and `j`, the lower layer first. -/
def pair (L : ℕ → Fin 4 → Fin 8 → Patch F) (i j : ℕ) : Line F :=
  if i ≤ j then inner (L i) (L j) else inner (L j) (L i)

/-! ## The triangular factor -/

/-- What is left of entry `(a, b)` after `n` rows of the factor were taken away. -/
def left (H : ℕ → ℕ → Line F) : ℕ → ℕ → ℕ → Line F
  | 0, a, b => H a b
  | n + 1, a, b => subf (left H n a b)
      (mulf (mulf (left H n n a) (rsqrt (left H n n n))) (mulf (left H n n b) (rsqrt (left H n n n))))

/-- Entry `b` of row `n` of the factor. -/
def entry (H : ℕ → ℕ → Line F) (n b : ℕ) : Line F := mulf (left H n n b) (rsqrt (left H n n n))

/-- The sum of `f 0, …, f n`. -/
def run (f : ℕ → Line F) : ℕ → Line F
  | 0 => f 0
  | n + 1 => addf (run f n) (f (n + 1))

/-- The constant line. -/
def flat (x : F .f32) : Line F := broadcast S1x512 x

/-- The sum of the first `n` terms, from zero. -/
def total (f : ℕ → Line F) : ℕ → Line F
  | 0 => flat (Scalar.ofBits .f32 0x00000000#32)
  | n + 1 => addf (total f n) (f n)

/-- One. -/
def one : Line F := flat (Scalar.ofBits .f32 0x3F800000#32)

/-! ## The scores of a layer -/

/-- The norm of a layer. -/
def norm (G : ℕ → ℕ → Line F) (i : ℕ) : Line F := sqrt (G i i)

/-- The inner products inside window `k`. -/
def within (G : ℕ → ℕ → Line F) (k a b : ℕ) : Line F := G (place k a) (place k b)

/-- How well the centre of window `k`, `w + 2` layers wide, aligns with the rest: `c` is one over the number of the other
    layers, `d` twice the width. -/
def align (G : ℕ → ℕ → Line F) (k w : ℕ) (c d : F .f32) : Line F :=
  divf (sqrt (total (fun a => mulf (entry (within G k) a (w + 1)) (entry (within G k) a (w + 1))) (w + 1)))
    (mulf (run (fun a => mulf (mulf (run (fun j => mulf (entry (within G k) a (a + j))
        (divf one (norm G (place k (a + j))))) (w - a)) (flat c)) (entry (within G k) a (w + 1))) w) (flat d))

/-- How new the centre of window `k` is. -/
def novel (G : ℕ → ℕ → Line F) (k w : ℕ) : Line F :=
  mulf (entry (within G k) (w + 1) (w + 1)) (divf one (norm G k))

/-- The score of layer `k` from all the alignments and novelties. -/
def score (al nv : ℕ → Line F) (k : ℕ) : Line F :=
  addf (mulf (al k) (divf one (total al 9))) (mulf (nv k) (divf one (total nv 9)))

/-- A score times its token's variance over the sum of scores. -/
def coef (al nv : ℕ → Line F) (v : Line F) (k : ℕ) : Line F :=
  mulf (score al nv k) (divf v (total (score al nv) 9))

/-! ## The variance -/

/-- The cosine of two neighbouring layers. -/
def cosine (G : ℕ → ℕ → Line F) (l : ℕ) : Line F :=
  divf (G l (l + 1)) (maximumf (mulf (norm G l) (norm G (l + 1))) (flat (Scalar.ofBits .f32 0x322BCC77#32)))

/-- The cosine less the mean of the eight. -/
def gap (G : ℕ → ℕ → Line F) (l : ℕ) : Line F :=
  subf (cosine G l) (mulf (total (cosine G) 8) (flat (Scalar.ofBits .f32 0x3E000000#32)))

/-- The variance of the eight cosines. -/
def spread (G : ℕ → ℕ → Line F) : Line F :=
  mulf (total (fun l => mulf (gap G l) (gap G l)) 8)
    (flat (Named.named Cert.KernelIdeal.κ "seventh" (φ := .f32) 0x3E124925#32))

/-- The mask row as numbers. -/
def marks (arg5 : Memref sig .tc .vmem S1x1x512 .i32) (harg5 : arg5.IsWhole) (x3 : Vec F S1x1x512 .i32) : Line F :=
  sitofp .f32 (shapeCast S1x512 (View.readAt (Elt F) arg5.view
    (Rect.unit (s := S1x1x512) ![0, 0, 0] S1x1x512.size inb_S1x1x512_S1x1x512_0_0_0).toLoadRect (harg5.unread x3))
    shapeCasts_S1x1x512_S1x512)

/-- The sum of a line. -/
def across1 (v : Line F) : FVec F S1x1 .f32 :=
  shapeCast S1x1 (multiReduction .add [1] S1 v 0x00000000#32 reduces_S1x512_S1 (.inl rfl) rfl) shapeCasts_S1_S1x1

/-- The variance where the position is below the number of marks less one, zero elsewhere. -/
def masked (i : grid0.Coords) (u : Line F) (v : Line F) : Line F :=
  select (cmpf .olt (sitofp .f32 (addi (iota .tc S1x512 32 [1] iota_S1x512_d1_w32)
      (broadcast S1x512 (Scalar.muli (BitVec.ofNat 32 (i 1).val) 512#32))))
    (broadcastTo S1x512 (subf (across1 u) (broadcast S1x1 (Scalar.ofBits .f32 0x3F800000#32)))
      broadcasts_S1x1_S1x512)) v (flat (Scalar.ofBits .f32 0x00000000#32))

/-! ## The weighted sum -/

/-- Four lines side by side. -/
def beside (f : Fin 4 → Line F) : FVec F S1x2048 .f32 :=
  concatenate S1x2048 1 [⟨S1x512, f 0⟩, ⟨S1x512, f 1⟩, ⟨S1x512, f 2⟩, ⟨S1x512, f 3⟩]
    concatenates_S1x512_S1x512_S1x512_S1x512_S1x2048_d1

/-- All four layers of a block, one token a row. -/
def rows4 (arg : Memref sig .tc .vmem S4x1x512x1024 .f32) (h : arg.IsWhole) (x : Vec F S4x1x512x1024 .f32) :
    FVec F S2048x1024 .f32 :=
  shapeCast S2048x1024 (shapeCast S4x512x1024 (View.readAt (Elt F) arg.view
    (Rect.unit (s := S4x1x512x1024) ![0, 0, 0, 0] S4x1x512x1024.size inb_S4x1x512x1024_S4x1x512x1024_0_0_0_0).toLoadRect (h.unread x))
    shapeCasts_S4x1x512x1024_S4x512x1024) shapeCasts_S4x512x1024_S2048x1024

/-- The last layer, one token a row. -/
def rows1 (arg : Memref sig .tc .vmem S1x1x512x1024 .f32) (h : arg.IsWhole) (x : Vec F S1x1x512x1024 .f32) :
    FVec F S512x1024 .f32 :=
  shapeCast S512x1024 (View.readAt (Elt F) arg.view
    (Rect.unit (s := S1x1x512x1024) ![0, 0, 0, 0] S1x1x512x1024.size inb_S1x1x512x1024_S1x1x512x1024_0_0_0_0).toLoadRect (h.unread x))
    shapeCasts_S1x1x512x1024_S512x1024

/-- The layers' rows weighted by `co` and summed. -/
def mix (co : ℕ → Line F) (r0 r1 : FVec F S2048x1024 .f32) (r2 : FVec F S512x1024 .f32) : FVec F S1x1024 .f32 :=
  addf (addf
    (matmul dot_S1x2048_S2048x1024_S1x1024_1_0_0_1_n_n none (beside fun k => co k.val) r0
      (constant S1x1024 .f32 0x00000000#32))
    (matmul dot_S1x2048_S2048x1024_S1x1024_1_0_0_1_n_n none (beside fun k => co (4 + k.val)) r1
      (constant S1x1024 .f32 0x00000000#32)))
    (matmul dot_S1x512_S512x1024_S1x1024_1_0_0_1_n_n none (co 8) r2 (constant S1x1024 .f32 0x00000000#32))

/-! ## All windows -/

/-- One over the number of the other layers of window `k`. -/
def share (k : ℕ) : F .f32 :=
  match k with
  | 0 => Scalar.ofBits .f32 0x3F000000#32
  | 1 => Scalar.ofBits .f32 0x3F000000#32
  | 7 => Named.named Cert.KernelIdeal.κ "third" (φ := .f32) 0x3EAAAAAB#32
  | 8 => Scalar.ofBits .f32 0x3F000000#32
  | _ => Scalar.ofBits .f32 0x3E800000#32

/-- Twice the width of window `k`. -/
def double (k : ℕ) : F .f32 :=
  match k with
  | 0 => Scalar.ofBits .f32 0x40C00000#32
  | 1 => Scalar.ofBits .f32 0x40C00000#32
  | 7 => Scalar.ofBits .f32 0x41000000#32
  | 8 => Scalar.ofBits .f32 0x40C00000#32
  | _ => Scalar.ofBits .f32 0x41200000#32

/-- The alignment of every layer. -/
def aligns (G : ℕ → ℕ → Line F) (k : ℕ) : Line F := align G k (width k) (share k) (double k)
/-- The novelty of every layer. -/
def novels (G : ℕ → ℕ → Line F) (k : ℕ) : Line F := novel G k (width k)

end Cert.Column

end
-- ==== Proof.WholeRun.lean ====
/- The generated terms of the reference and of the precondition are the operations of `Whole`. -/
module

public import proofs.«01_k».proof.Proof.Whole
public import proofs.«01_k».proof.Proof.Gen.ReferenceIdeal.Run
public import proofs.«01_k».proof.Pre_regular
public import proofs.«01_k».proof.Proof.Column

@[expose] public section

noncomputable section

namespace Cert.Whole

open Idealize.ShloMosaic Idealize.ShloMosaic.Tactic Idealize.SL.Sem Cert.Groups
open Cert.ReferenceIdeal Cert.ReferenceIdeal.Gen Cert.ReferenceIdeal.Value

/-- The precondition's side conditions hold. -/
theorem preFacts : Cert.Pre_regular.Facts := by constructor <;> decide

variable {F : FTy → Type} [FloatOps F]

theorem asked_eq [Cert.Pre_regular.Facts] (a : FVec F All .f32) (m : IVec Grid 32) : Cert.Pre_regular.fn a m = asked a m := by
  sl_kernel_rfl

/-- The reference's run: it ends with the result at `Whole`'s and the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v497)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (by sl_kernel_rfl), (h c).2⟩) (Value.run m g)

end Cert.Whole

end
-- ==== Proof.WholeAt.lean ====
/- What the reference's operations over all layers hold at an index. -/
module

public import proofs.«01_k».proof.Proof.Whole
public import Idealize.ShloMosaic.Lib.WordSum
public import Idealize.ShloMosaic.Lib.WordArith

@[expose] public section

noncomputable section

namespace Cert.Whole

open Idealize.ShloMosaic Finset Cert.Arrays Cert.Schur Cert.Steps Cert.Groups
open Idealize.ShloMosaic.ValueIdx (hostDivf_apply hostReduceAdd_apply contrEquiv1 contrEquiv1_symm_val)

theorem lit_zero (h : 0 < One.numel) : (lit (F := Ideal) 0x00000000#32) (Shape.Idx.first h) = 0 := Lits.zero

theorem maximumf_at {t : Shape} (x y : FVec Ideal t .f32) (j : t.Idx) : maximumf x y j = max (x j) (y j) := rfl

theorem mulf_at {t : Shape} (x y : FVec Ideal t .f32) (j : t.Idx) : mulf x y j = x j * y j := rfl

theorem layers_at (a : FVec Ideal All .f32) (i : Fin 9) (b : Fin 8) (s : Fin 512) (d : Fin 1024) (j : Fin 13) (hj : j.val = 4 + i.val) :
    layers a (ix4 i b s d) = a (ix4 j b s d) := by
  refine slice_at _ _ _ _ fun c => ?_
  match c with
  | ⟨0, _⟩ => exact hj
  | ⟨1, _⟩ => exact (Nat.zero_add _).symm
  | ⟨2, _⟩ => exact (Nat.zero_add _).symm
  | ⟨3, _⟩ => exact (Nat.zero_add _).symm

/-- The joined groups where one of them is known. -/
theorem piece_at (a : FVec Ideal (Tok 2) .f32) (e : FVec Ideal (Tok 5) .f32) (c d : FVec Ideal (Tok 1) .f32)
    (n : ℕ) (hn : n < 4) {K : ℕ} (x : FVec Ideal (Tok K) .f32)
    (hx : ([⟨Tok 2, a⟩, ⟨Tok 5, e⟩, ⟨Tok 1, c⟩, ⟨Tok 1, d⟩] : List ((s : Shape) × (s.Idx → EReal)))[n] = ⟨Tok K, x⟩)
    (pre : ℕ)
    (hpre : (((([⟨Tok 2, a⟩, ⟨Tok 5, e⟩, ⟨Tok 1, c⟩, ⟨Tok 1, d⟩] : List ((s : Shape) × (s.Idx → EReal))).take n).map (·.1)).map
      fun s => if h : s.rank = (Tok 9).rank then s.size ((0 : Fin (Tok 9).rank).cast h.symm) else 0).sum = pre)
    (k : Fin K) (i : Fin 9) (hk : pre + k.val = i.val) (b : Fin 8) (s : Fin 512) :
    joined a e c d (ix3 i b s) = x (ix3 k b s) := by
  refine concatenate_apply_piece (t := Tok 9) 0 _ _ (ix3 i b s) n (by exact hn) (Tok K) x hx rfl pre hpre (ix3 k b s) (fun q hq => ?_) hk
  match q with
  | ⟨0, _⟩ => exact absurd rfl hq
  | ⟨1, _⟩ => rfl
  | ⟨2, _⟩ => rfl

theorem joined_at {a : FVec Ideal (Tok 2) .f32} {e : FVec Ideal (Tok 5) .f32} {c d : FVec Ideal (Tok 1) .f32} {b : Fin 8} {s : Fin 512}
    (g : ℕ → EReal) (ha : ∀ k : Fin 2, a (ix3 k b s) = g (0 + k.val)) (he : ∀ k : Fin 5, e (ix3 k b s) = g (2 + k.val))
    (hc : ∀ k : Fin 1, c (ix3 k b s) = g (7 + k.val)) (hd : ∀ k : Fin 1, d (ix3 k b s) = g (8 + k.val)) (i : Fin 9) :
    joined a e c d (ix3 i b s) = g i.val := by
  by_cases h2 : i.val < 2
  · rw [piece_at a e c d 0 (by omega) a rfl 0 rfl ⟨i.val, h2⟩ i (Nat.zero_add _) b s, ha, Nat.zero_add]
  by_cases h7 : i.val < 7
  · have h : 2 + (i.val - 2) = i.val := by omega
    rw [piece_at a e c d 1 (by omega) e rfl 2 rfl ⟨i.val - 2, by omega⟩ i h b s, he, h]
  by_cases h8 : i.val < 8
  · have h : 7 + (0 : Fin 1).val = i.val := by show 7 + 0 = _; omega
    rw [piece_at a e c d 2 (by omega) c rfl 7 rfl 0 i h b s, hc, h]
  · have h : 8 + (0 : Fin 1).val = i.val := by have := i.isLt; show 8 + 0 = _; omega
    rw [piece_at a e c d 3 (by omega) d rfl 8 rfl 0 i h b s, hd, h]

/-- A token's number laid out along the layers. -/
theorem over_at {n : ℕ} (h : (Tok 1).BroadcastsInDim (Tok n) (![0, 1, 2] : Fin 3 → Fin 3)) (v : FVec Ideal Grid .f32)
    (i : Fin n) (b : Fin 8) (s : Fin 512) :
    broadcastInDim (Tok n) ![0, 1, 2] h (broadcastInDim (Tok 1) ![1, 2] ends.keepGrid v) (ix3 i b s) = v (ix2 b s) := by
  rw [bcast_at h _ _ (ix3 0 b s) (fun a ha => by
    match a with
    | ⟨0, _⟩ => exact absurd rfl ha
    | ⟨1, _⟩ => rfl
    | ⟨2, _⟩ => rfl)]
  exact bcast_at ends.keepGrid _ _ (ix2 b s) (fun a _ => by
    match a with
    | ⟨0, _⟩ => rfl
    | ⟨1, _⟩ => rfl)

theorem layerSum_at {n : ℕ} (h : (Tok n).ReducesTo [0] Grid) (x : FVec Ideal (Tok n) .f32) (b : Fin 8) (s : Fin 512) :
    Host.reduceAdd x (lit 0x00000000#32) h ends.one (ix2 b s) = ∑ j : Fin n, x (ix3 j b s) := by
  rw [hostReduceAdd_apply, Ideal.hostReduceAdd_r3_a0, lit_zero, zero_add]
  rfl

theorem shares_at (x : FVec Ideal (Tok 9) .f32) (i : Fin 9) (b : Fin 8) (s : Fin 512) :
    shares x (ix3 i b s) = Ideal.div (x (ix3 i b s)) (∑ j : Fin 9, x (ix3 j b s)) := by
  unfold shares
  rw [hostDivf_apply, over_at, layerSum_at]

theorem norms_at (x : FVec Ideal Nine .f32) (i : Fin 9) (b : Fin 8) (s : Fin 512) :
    norms x (ix3 i b s) = Ideal.sqrt (∑ d : Fin 1024, x (ix4 i b s d) * x (ix4 i b s d)) := by
  refine congrArg Ideal.sqrt ?_
  rw [hostReduceAdd_apply, Ideal.hostReduceAdd_r4_a3, lit_zero, zero_add]
  rfl

theorem cosines_at (x : FVec Ideal Nine .f32) (l : Fin 8) (b : Fin 8) (s : Fin 512) :
    cosines x (ix3 l b s)
      = Ideal.div (∑ d : Fin 1024, x (ix4 l.succ b s d) * x (ix4 l.castSucc b s d))
          (max (norms x (ix3 l.succ b s) * norms x (ix3 l.castSucc b s)) (Ideal.ofBits .f32 0x322BCC77#32)) := by
  have hu : ∀ d, extractStridedSlice Eight ![1, 0, 0, 0] x ends.upper (ix4 l b s d) = x (ix4 l.succ b s d) := fun d =>
    slice_at _ _ _ _ fun a => by
      match a with
      | ⟨0, _⟩ => exact Nat.add_comm _ _
      | ⟨1, _⟩ => exact (Nat.zero_add _).symm
      | ⟨2, _⟩ => exact (Nat.zero_add _).symm
      | ⟨3, _⟩ => exact (Nat.zero_add _).symm
  have hl : ∀ d, extractStridedSlice Eight ![0, 0, 0, 0] x ends.lower (ix4 l b s d) = x (ix4 l.castSucc b s d) := fun d =>
    slice_at _ _ _ _ fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
  have hnu : extractStridedSlice (Tok 8) ![1, 0, 0] (norms x) ends.upperTok (ix3 l b s) = norms x (ix3 l.succ b s) :=
    slice_at _ _ _ _ fun a => by
      match a with
      | ⟨0, _⟩ => exact Nat.add_comm _ _
      | ⟨1, _⟩ => exact (Nat.zero_add _).symm
      | ⟨2, _⟩ => exact (Nat.zero_add _).symm
  have hnl : extractStridedSlice (Tok 8) ![0, 0, 0] (norms x) ends.lowerTok (ix3 l b s) = norms x (ix3 l.castSucc b s) :=
    slice_at _ _ _ _ fun a => by
      match a with
      | ⟨0, _⟩ => exact (Nat.zero_add _).symm
      | ⟨1, _⟩ => exact (Nat.zero_add _).symm
      | ⟨2, _⟩ => exact (Nat.zero_add _).symm
  unfold cosines
  rw [hostDivf_apply]
  refine congr (congrArg Ideal.div ?_) ?_
  · rw [hostReduceAdd_apply, Ideal.hostReduceAdd_r4_a3, lit_zero, zero_add]
    exact sum_congr rfl fun d _ => congr (congrArg (· * ·) (hu d)) (hl d)
  · rw [maximumf_at, mulf_at, hnu, hnl, fill_at]

theorem centred_at (c : FVec Ideal (Tok 8) .f32) (l : Fin 8) (b : Fin 8) (s : Fin 512) :
    centred c (ix3 l b s) = c (ix3 l b s) - Ideal.div (∑ j : Fin 8, c (ix3 j b s)) (Ideal.ofBits .f32 0x41000000#32) := by
  refine congrArg (c (ix3 l b s) - ·) ?_
  rw [bcast_at ends.overEight _ _ (ix3 0 b s) (fun a ha => by
    match a with
    | ⟨0, _⟩ => exact absurd rfl ha
    | ⟨1, _⟩ => rfl
    | ⟨2, _⟩ => rfl), hostDivf_apply, fill_at, bcast_at ends.keepGrid _ _ (ix2 b s) (fun a _ => by
    match a with
    | ⟨0, _⟩ => rfl
    | ⟨1, _⟩ => rfl), layerSum_at]

theorem freedom_at (j : One.Idx) : freedom (F := Ideal) j = ((7 : ℝ) : EReal) := by
  have : freedom (F := Ideal) j = Ideal.ofBits .f32 0x41000000#32 - (((1#32 : BitVec 32).toInt : ℝ) : EReal) := rfl
  rw [this, Lits.eight, ← EReal.coe_sub]
  congr 1
  rw [show (1#32 : BitVec 32).toInt = 1 from by decide]
  norm_num

theorem spread_at (c : FVec Ideal (Tok 8) .f32) (b : Fin 8) (s : Fin 512) :
    spread c (ix2 b s) = Ideal.div (∑ j : Fin 8, centred c (ix3 j b s) * centred c (ix3 j b s)) ((7 : ℝ) : EReal) := by
  have hc : broadcastInDim Grid ![] ends.fillGrid (cmpf .ogt (freedom (F := Ideal)) (lit 0x00000000#32)) (ix2 b s) = 1#1 := by
    rw [bcast_at ends.fillGrid _ _ (fun a => Fin.elim0 a) (fun a _ => Fin.elim0 a)]
    show BitVec.ofBool (decide (Ideal.ofBits .f32 0x00000000#32 < freedom (F := Ideal) _)) = 1#1
    rw [freedom_at, Lits.zero, decide_eq_true (by norm_num)]
    rfl
  unfold spread
  refine (if_pos hc).trans ?_
  rw [hostDivf_apply, layerSum_at, bcast_at ends.fillGrid _ _ (fun a => Fin.elim0 a) (fun a _ => Fin.elim0 a), freedom_at]
  rfl

theorem vectors_at (x : FVec Ideal Nine .f32) (b : Fin 8) (s : Fin 512) (d : Fin 1024) :
    vectors x (ix3 b s d) = ∑ i : Fin 9, shares (weights x) (ix3 i b s) * x (ix4 i b s d) := by
  unfold vectors
  show FloatOps.dotGeneral _ none _ (shares (weights x)) x (ix3 b s d) = _
  rw [Ideal.dotGeneral_apply,
    ← Equiv.sum_comp (contrEquiv1 (⟨[0], [0], [], [3], [1, 2], [1, 2], ends.dotLayers⟩ : DotDims (Tok 9) Nine Vecs) 9 rfl rfl).symm]
  refine sum_congr rfl fun c _ => ?_
  have hc := contrEquiv1_symm_val (⟨[0], [0], [], [3], [1, 2], [1, 2], ends.dotLayers⟩ : DotDims (Tok 9) Nine Vecs) 9 rfl rfl c
  have hl : (⟨[0], [0], [], [3], [1, 2], [1, 2], ends.dotLayers⟩ : DotDims (Tok 9) Nine Vecs).lhsIdx (ix3 b s d)
      ((contrEquiv1 _ 9 rfl rfl).symm c) = ix3 c b s := by
    funext a; apply Fin.ext
    match a with
    | ⟨0, _⟩ => simp [DotDims.lhsIdx]; exact hc
    | ⟨1, _⟩ => simp [DotDims.lhsIdx]; rfl
    | ⟨2, _⟩ => simp [DotDims.lhsIdx]; rfl
  have hr : (⟨[0], [0], [], [3], [1, 2], [1, 2], ends.dotLayers⟩ : DotDims (Tok 9) Nine Vecs).rhsIdx (ix3 b s d)
      ((contrEquiv1 _ 9 rfl rfl).symm c) = ix4 c b s d := by
    funext a; apply Fin.ext
    match a with
    | ⟨0, _⟩ => simp [DotDims.rhsIdx]; exact hc
    | ⟨1, _⟩ => simp [DotDims.rhsIdx]; rfl
    | ⟨2, _⟩ => simp [DotDims.rhsIdx]; rfl
    | ⟨3, _⟩ => simp [DotDims.rhsIdx]; rfl
  rw [hl, hr]

/-- The weighted sum over a sequence's tokens. -/
theorem tokens_at (w : FVec Ideal Grid .f32) (v : FVec Ideal Vecs .f32) (b : Fin 8) (d : Fin 1024) :
    Host.dotGeneral (⟨[1], [1], [], [2], [0], [0], ends.dotTokens⟩ : DotDims Grid Vecs Outs) none w v (ix2 b d)
      = ∑ s : Fin 512, w (ix2 b s) * v (ix3 b s d) := by
  show FloatOps.dotGeneral _ none _ w v (ix2 b d) = _
  rw [Ideal.dotGeneral_apply,
    ← Equiv.sum_comp (contrEquiv1 (⟨[1], [1], [], [2], [0], [0], ends.dotTokens⟩ : DotDims Grid Vecs Outs) 512 rfl rfl).symm]
  refine sum_congr rfl fun c _ => ?_
  have hc := contrEquiv1_symm_val (⟨[1], [1], [], [2], [0], [0], ends.dotTokens⟩ : DotDims Grid Vecs Outs) 512 rfl rfl c
  have hl : (⟨[1], [1], [], [2], [0], [0], ends.dotTokens⟩ : DotDims Grid Vecs Outs).lhsIdx (ix2 b d)
      ((contrEquiv1 _ 512 rfl rfl).symm c) = ix2 b c := by
    funext a; apply Fin.ext
    match a with
    | ⟨0, _⟩ => simp [DotDims.lhsIdx]; rfl
    | ⟨1, _⟩ => simp [DotDims.lhsIdx]; exact hc
  have hr : (⟨[1], [1], [], [2], [0], [0], ends.dotTokens⟩ : DotDims Grid Vecs Outs).rhsIdx (ix2 b d)
      ((contrEquiv1 _ 512 rfl rfl).symm c) = ix3 b c d := by
    funext a; apply Fin.ext
    match a with
    | ⟨0, _⟩ => simp [DotDims.rhsIdx]; rfl
    | ⟨1, _⟩ => simp [DotDims.rhsIdx]; exact hc
    | ⟨2, _⟩ => simp [DotDims.rhsIdx]; rfl
  rw [hl, hr]

/-- A sequence's number laid out along its tokens. -/
theorem overSeqs_at {α : Type} (v : Seqs.Idx → α) (b : Fin 8) (s : Fin 512) :
    broadcastInDim Grid ![0, 1] ends.overSeqs (broadcastInDim ⟨2, ![8, 1]⟩ ![0] ends.keepSeqs v) (ix2 b s) = v (ix1 b) := by
  rw [bcast_at ends.overSeqs _ _ (ix2 b 0) (fun a ha => by
    match a with
    | ⟨0, _⟩ => rfl
    | ⟨1, _⟩ => exact absurd rfl ha)]
  exact bcast_at ends.keepSeqs _ _ (ix1 b) (fun a _ => by
    match a with
    | ⟨0, _⟩ => rfl)

theorem sums_at (v : FVec Ideal Grid .f32) (b : Fin 8) : sums v (ix1 b) = ∑ s : Fin 512, v (ix2 b s) := by
  unfold sums
  rw [hostReduceAdd_apply, Ideal.hostReduceAdd_r2_a1, lit_zero, zero_add]
  rfl

theorem result_at (a : FVec Ideal All .f32) (m : IVec Grid 32) (b : Fin 8) (d : Fin 1024) :
    result a m (ix3 b 0 d)
      = ∑ s : Fin 512, Ideal.div (masked (layers a) m (ix2 b s)) (∑ t : Fin 512, masked (layers a) m (ix2 b t))
          * vectors (layers a) (ix3 b s d) := by
  unfold result
  rw [bcast_at ends.out _ _ (ix2 b d) (fun c _ => by
    match c with
    | ⟨0, _⟩ => rfl
    | ⟨1, _⟩ => rfl), tokens_at]
  refine sum_congr rfl fun s _ => congrArg (· * _) ?_
  rw [hostDivf_apply, overSeqs_at, sums_at]

/-! ## The mask -/

/-- A sum of zeros and ones does not leave the word. -/
theorem count_bound {n : ℕ} (S : Finset (Fin n)) (y : Fin n → BitVec 32) (hy : ∀ i, (y i).toInt = 0 ∨ (y i).toInt = 1) :
    0 ≤ ∑ i ∈ S, (y i).toInt ∧ ∑ i ∈ S, (y i).toInt ≤ S.card := by
  refine ⟨sum_nonneg fun i _ => by rcases hy i with h | h <;> omega, ?_⟩
  refine (sum_le_card_nsmul S (fun i => (y i).toInt) 1 fun i _ => by rcases hy i with h | h <;> omega).trans ?_
  simp

theorem fold_count {n : ℕ} (hn : n < 2 ^ 31) (S : Finset (Fin n)) (y : Fin n → BitVec 32) (hy : ∀ i, (y i).toInt = 0 ∨ (y i).toInt = 1) :
    (S.fold IntOp.addi 0#32 y).toInt = ∑ i ∈ S, (y i).toInt := by
  induction S using Finset.cons_induction with
  | empty => rfl
  | cons a S ha ih =>
    have hb := count_bound (S.cons a ha) y hy
    have hc : (S.cons a ha).card ≤ n := (card_le_univ _).trans (by simp)
    rw [sum_cons] at hb ⊢
    rw [fold_cons, ← ih]
    exact WordArith.toInt_add_of_bounds _ _ (by rw [ih]; omega) (by rw [ih]; omega)

theorem total_at (m : IVec Grid 32) (hm : ∀ i, (m i).toInt = 0 ∨ (m i).toInt = 1) (b : Fin 8) :
    (Host.reduce IntOp.addi m (constantI One 32 0#32) ends.sumGrid ends.one (ix1 b)).toInt = ∑ s : Fin 512, (m (ix2 b s)).toInt := by
  rw [Host.reduce_eq_fold_single IntOp.addi m _ ends.sumGrid (by decide) ends.one]
  refine (fold_count (by decide) univ _ fun i => hm _).trans (sum_congr rfl fun s _ => congrArg (fun i => (m i).toInt) ?_)
  funext a; apply Fin.ext
  match a with
  | ⟨0, _⟩ => rfl
  | ⟨1, _⟩ => rfl

theorem valid_at (m : IVec Grid 32) (hm : ∀ i, (m i).toInt = 0 ∨ (m i).toInt = 1) (b : Fin 8) (s : Fin 512) :
    valid m (ix2 b s) = BitVec.ofBool (decide ((s.val : ℤ) < ∑ j : Fin 512, (m (ix2 b j)).toInt - 1)) := by
  have hb := count_bound univ (fun j : Fin 512 => m (ix2 b j)) fun j => hm _
  have hc : (univ : Finset (Fin 512)).card = 512 := by simp
  have ht := total_at m hm b
  have hl : broadcastInDim Grid ![0, 1] ends.overSpots (broadcastInDim ⟨2, ![1, 512]⟩ ![1] ends.keepSpots (iotaInDim Spots 32 0)) (ix2 b s)
      = BitVec.ofNat 32 s.val := by
    rw [bcast_at ends.overSpots _ _ (ix2 0 s) (fun a ha => by
      match a with
      | ⟨0, _⟩ => exact absurd rfl ha
      | ⟨1, _⟩ => rfl), bcast_at ends.keepSpots _ _ (ix1 s) (fun a _ => by
      match a with
      | ⟨0, _⟩ => rfl)]
    rfl
  unfold valid
  refine (congr (congrArg (IntOp.cmpi .slt) hl) (overSeqs_at _ b s)).trans ?_
  show BitVec.ofBool (BitVec.slt _ (_ - 1#32)) = _
  rw [BitVec.slt_eq_decide, WordArith.toInt_ofNat_small _ (by have := s.isLt; omega),
    WordArith.toInt_sub_of_bounds _ _ (by rw [ht]; show _ ≤ _ - (1 : ℤ); omega) (by rw [ht]; show _ - (1 : ℤ) < _; omega), ht]
  rfl

end Cert.Whole

end
-- ==== Proof.GroupValue.lean ====
/- The group operations on real layers: the windows, the factors, the alignments and the novelties, and what the
   precondition says of the factors. -/
module

public import proofs.«01_k».proof.Proof.Groups
public import Idealize.ShloMosaic.Lib.ReduceAll

@[expose] public section

noncomputable section

namespace Cert.GroupValue

open Idealize.ShloMosaic Finset Cert.Arrays Cert.Schur Cert.Steps Cert.Groups

/-- The windows of the `K` layers from layer `k0` on are those the token's mathematics has. -/
structure Fits {p : ℕ} (K k0 : ℕ) (offs : Fin (p + 1) → ℕ) : Prop where
  last : k0 + K ≤ 9
  low : ∀ c, offs c + K ≤ 9
  place : ∀ k < K, ∀ c : Fin (p + 1), offs c + k = Cert.place (k0 + k) c.val
  width : ∀ k < K, Cert.width (k0 + k) + 1 = p

variable {K p k0 : ℕ} {offs : Fin (p + 1) → ℕ} (S : Sides K p offs) (f : Fits K k0 offs)
variable {x : FVec Ideal Nine .f32} {b : Fin 8} {s : Fin 512} {u : ℕ → Fin 1024 → ℝ}

include f in
theorem windows_real (hx : ∀ (l : Fin 9) d, x (ix4 l b s d) = (u l.val d : EReal)) (k : Fin K) (d : Fin 1024) (c : Fin (p + 1)) :
    windows S x (ix5 k b s d c) = ((u (Cert.place (k0 + k.val) c.val) d : ℝ) : EReal) := by
  have hl : offs c + k.val < 9 := by have := f.low c; have := k.isLt; omega
  rw [windows_at S x k b s d c ⟨offs c + k.val, hl⟩ rfl, hx]
  show ((u (offs c + k.val) d : ℝ) : EReal) = _
  rw [f.place k.val k.isLt c]

include f in
theorem factors_real (hx : ∀ (l : Fin 9) d, x (ix4 l b s d) = (u l.val d : EReal)) (k : Fin K)
    (hp : ∀ n < p + 1, 0 < left (Token.inside u (k0 + k.val)) n n n) (n c : Fin (p + 1)) :
    factor S (windows S x) (ix5 k b s n c) = ((fac (Token.inside u (k0 + k.val)) n.val c.val : ℝ) : EReal) := by
  rw [factor_at]
  exact factorRow_real S.dims (v := fun a => u (Cert.place (k0 + k.val) a)) (fun d c => windows_real S f hx k d c) n.val n.isLt
    (fun m hm => hp m (by have := n.isLt; omega)) c

section Matrix

variable {H : ℕ → ℕ → ℝ} {R : FVec Ideal (Fac K (p + 1)) .f32} {k : Fin K}

/-- Sums of squares of a column's entries. -/
theorem column_sq (n : ℕ) (y : Fin n → EReal) (c : ℕ) (hy : ∀ m : Fin n, y m = ((fac H m.val c : ℝ) : EReal)) :
    Ideal.sqrt (∑ m, y m * y m) = ((√(∑ m ∈ range n, fac H m c * fac H m c) : ℝ) : EReal) := by
  rw [sum_range fun m => fac H m c * fac H m c, ← Lits.sqrt_real (sum_nonneg fun m _ => mul_self_nonneg _), Weights.coe_sum]
  exact congrArg Ideal.sqrt (sum_congr rfl fun m _ => by rw [hy, EReal.coe_mul])

variable (hs : ∀ a c, H a c = H c a) (hp : ∀ n < p + 1, 0 < left H n n n)
  (hR : ∀ n c : Fin (p + 1), R (ix5 k b s n c) = ((fac H n.val c.val : ℝ) : EReal))

include hs hp hR

theorem meanRows_real (h0 : 0 < p) (count : BitVec 32) (hc : Ideal.ofBits .f32 count = (((p : ℕ) : ℝ) : EReal)) (n : Fin p) :
    meanRows S count (sub S R) (ix4 k b s n)
      = (((∑ j ∈ range p, fac H n.val j / √(H j j)) / ((p : ℕ) : ℝ) : ℝ) : EReal) := by
  have hp' : ∀ n < p, 0 < left H n n n := fun n hn => hp n (by omega)
  have hsub : ∀ n c : Fin p, sub S R (ix5 k b s n c) = ((fac H n.val c.val : ℝ) : EReal) := fun n c => by
    rw [sub_at, hR]; rfl
  rw [meanRows_at, hc, ← Weights.div_real (by positivity), sum_range fun j => fac H n.val j / √(H j j), Weights.coe_sum]
  refine congrArg (Ideal.div · _) (sum_congr rfl fun c _ => ?_)
  rw [column_sq p (fun m => sub S R (ix5 k b s m c)) c.val (fun m => hsub m c), hsub, sum_fac_sq hs hp' c.isLt,
    Weights.div_real (Real.sqrt_pos.mpr (diag_pos hs hp' c.isLt)).ne']

theorem aligns_real (h0 : 0 < p) (count scale : BitVec 32) (hc : Ideal.ofBits .f32 count = (((p : ℕ) : ℝ) : EReal))
    (ht : Ideal.ofBits .f32 scale = (((2 * (p + 1) : ℕ) : ℝ) : EReal))
    (hr : 0 < √(∑ a ∈ range p, fac H a p * fac H a p)) :
    aligns S count scale R (ix3 k b s)
      = Ideal.div ((√(∑ a ∈ range p, fac H a p * fac H a p) : ℝ) : EReal)
          (((∑ a ∈ range p, (∑ j ∈ range p, fac H a j / √(H j j)) / ((p : ℕ) : ℝ) * fac H a p : ℝ) : EReal)
            * (((2 * (p + 1) : ℕ) : ℝ) : EReal)) := by
  rw [aligns_at, Lits.one, ht]
  rw [column_sq p (fun n => R (ix5 k b s n.castSucc (Fin.last p))) p (fun n => hR n.castSucc (Fin.last p))]
  refine Eq.trans ?_ (Weights.align_eq hr _ (t := ((2 * (p + 1) : ℕ) : ℝ)) (by positivity))
  refine congrArg (Ideal.div 1) (congrArg (· * _) (congrArg (Ideal.div · _) ?_))
  rw [sum_range fun a => (∑ j ∈ range p, fac H a j / √(H j j)) / ((p : ℕ) : ℝ) * fac H a p, Weights.coe_sum]
  refine sum_congr rfl fun n _ => ?_
  rw [meanRows_real S hs hp hR h0 count hc, hR, EReal.coe_mul]
  rfl

theorem novs_real :
    novs S R (ix3 k b s) = ((fac H p p / √(H p p) : ℝ) : EReal) := by
  have hf := fac_diag_pos (hp p (by omega))
  rw [novs_at, column_sq (p + 1) (fun n => R (ix5 k b s n (Fin.last p))) p (fun n => hR n (Fin.last p)), hR, ← EReal.coe_neg,
    Lits.max_real, sum_fac_sq hs hp (by omega), Weights.div_real (Real.sqrt_pos.mpr (diag_pos hs hp (by omega))).ne']
  show ((max (fac H p p) (-fac H p p) / _ : ℝ) : EReal) = _
  rw [max_eq_left (by linarith)]

end Matrix

include f

theorem aligns_token (h : Token.Regular u) (hx : ∀ (l : Fin 9) d, x (ix4 l b s d) = (u l.val d : EReal)) (k : Fin K)
    (count scale : BitVec 32) (hc : Ideal.ofBits .f32 count = (((p : ℕ) : ℝ) : EReal))
    (ht : Ideal.ofBits .f32 scale = (((2 * (p + 1) : ℕ) : ℝ) : EReal)) :
    aligns S count scale (factor S (windows S x)) (ix3 k b s) = Token.alignment u (k0 + k.val) := by
  have hk : k0 + k.val < 9 := by have := f.last; have := k.isLt; omega
  have hw := f.width k.val k.isLt
  have hp : ∀ n < p + 1, 0 < left (Token.inside u (k0 + k.val)) n n n := fun n hn => h.pos _ hk n (by omega)
  have hr := h.reach _ hk
  unfold Token.reach at hr
  rw [hw] at hr
  rw [aligns_real S (Token.inside_symm u _) hp (factors_real S f hx k hp) (by omega) count scale hc ht hr]
  unfold Token.alignment Token.reach Token.pull
  rw [show Cert.width (k0 + k.val) + 2 = p + 1 by omega, hw]

theorem novs_token (h : Token.Regular u) (hx : ∀ (l : Fin 9) d, x (ix4 l b s d) = (u l.val d : EReal)) (k : Fin K) :
    novs S (factor S (windows S x)) (ix3 k b s) = ((Token.novelty u (k0 + k.val) : ℝ) : EReal) := by
  have hk : k0 + k.val < 9 := by have := f.last; have := k.isLt; omega
  have hw := f.width k.val k.isLt
  have hp : ∀ n < p + 1, 0 < left (Token.inside u (k0 + k.val)) n n n := fun n hn => h.pos _ hk n (by omega)
  rw [novs_real S (Token.inside_symm u _) hp (factors_real S f hx k hp)]
  unfold Token.novelty
  rw [hw]

end Cert.GroupValue

/-! ## The precondition read back -/

namespace Cert.GroupValue

open Idealize.ShloMosaic Finset Cert.Arrays Cert.Schur Cert.Steps Cert.Groups

instance : Subsingleton One.Idx := ⟨fun a _ => funext fun i => Fin.elim0 i⟩

theorem pos_of_ogt {x y : EReal} (h : FloatOps.cmpf (F := Ideal) (φ := .f32) .ogt x y = 1#1) : y < x := by
  by_contra hn
  have : FloatOps.cmpf (F := Ideal) (φ := .f32) .ogt x y = BitVec.ofBool (decide (y < x)) := rfl
  rw [this, decide_eq_false hn] at h
  exact absurd h (by decide)

variable {K p k0 : ℕ} {offs : Fin (p + 1) → ℕ} (S : Sides K p offs)

theorem pos_of_positive {x : FVec Ideal (Tok K) .f32} {j : One.Idx} (h : positive S x j = 1#1) (i : (Tok K).Idx) : 0 < x i := by
  have h1 := Host.reduce_andi_all _ _ _ _ j h i
  have h2 := pos_of_ogt h1
  rwa [fill_at, Lits.zero] at h2

theorem of_diagsPositive {R : FVec Ideal (Fac K (p + 1)) .f32} {ok : IVec One 1} {j : One.Idx} (n : ℕ) (hn : n ≤ p + 1)
    (h : diagsPositive S R ok n hn j = 1#1) :
    ok j = 1#1 ∧ ∀ m (hm : m < n) (i : (Tok K).Idx), 0 < diag S m (by omega) R i := by
  induction n with
  | zero => exact ⟨h, fun m hm => absurd hm (by omega)⟩
  | succ n ih =>
    obtain ⟨h1, h2⟩ := IntOp.andi_eq_one.1 h
    obtain ⟨ih1, ih2⟩ := ih _ h1
    refine ⟨ih1, fun m hm i => ?_⟩
    rcases Nat.lt_succ_iff_lt_or_eq.mp hm with h' | rfl
    · exact ih2 m h' i
    · exact pos_of_positive S h2 i

theorem of_regular (f : Fits K k0 offs) {x : FVec Ideal Nine .f32} {ok : IVec One 1} {j : One.Idx}
    (h : regular S (factor S (windows S x)) ok j = 1#1) :
    ok j = 1#1 ∧ ∀ (b : Fin 8) (s : Fin 512) (u : ℕ → Fin 1024 → ℝ)
      (_ : ∀ (l : Fin 9) d, x (ix4 l b s d) = (u l.val d : EReal)) (k : Fin K),
      (∀ n < Cert.width (k0 + k.val) + 2, 0 < left (Token.inside u (k0 + k.val)) n n n) ∧ 0 < Token.reach u (k0 + k.val) := by
  obtain ⟨h1, h2⟩ := IntOp.andi_eq_one.1 h
  obtain ⟨hok, hd⟩ := of_diagsPositive S _ _ h1
  refine ⟨hok, fun b s u hx k => ?_⟩
  have hw := f.width k.val k.isLt
  have hp : ∀ n < p + 1, 0 < left (Token.inside u (k0 + k.val)) n n n := fun n hn =>
    pos_of_factorRow S.dims (v := fun a => u (Cert.place (k0 + k.val) a)) (fun d c => windows_real S f hx k d c)
      (fun n hn => by
        have := hd n hn (ix3 k b s)
        rwa [diag_at, factor_at] at this) n hn
  refine ⟨fun n hn => hp n (by omega), ?_⟩
  have h3 := pos_of_positive S h2 (ix3 k b s)
  rw [norm_at, column_sq (H := Token.inside u (k0 + k.val)) p _ p (fun n => by
    rw [above_at, factors_real S f hx k hp]; rfl)] at h3
  unfold Token.reach
  rw [hw]
  exact_mod_cast h3

end Cert.GroupValue

end
-- ==== Proof.Answer.lean ====
/- What both programs compute, as one formula over the real values of the layers. -/
module

public import proofs.«01_k».proof.Proof.Token
public import Idealize.ShloMosaic.Lib.ValueIdx

@[expose] public section

noncomputable section

namespace Cert.Answer

open Idealize.ShloMosaic Idealize.ShloMosaic.ValueIdx Finset

/-- The hidden states. -/
abbrev States := (⟨4, ![13, 8, 512, 1024]⟩ : Shape).Idx → EReal
/-- The mask. -/
abbrev Mask := (⟨2, ![8, 512]⟩ : Shape).Idx → BitVec 32

/-- Where layer `i` of the nine is among the thirteen. -/
def place13 (i : ℕ) : Fin 13 := ⟨4 + min i 8, by omega⟩

variable (A : States) (M : Mask)

/-- The real value of layer `i` at a token. -/
def value (b : Fin 8) (s : Fin 512) (i : ℕ) (d : Fin 1024) : ℝ := (A (ix4 (place13 i) b s d)).toReal

/-- Whether a token counts: it is below the number of marks less one. -/
def counts (b : Fin 8) (s : Fin 512) : Prop := (s.val : ℤ) < ∑ j, (M (ix2 b j)).toInt - 1

instance (b : Fin 8) (s : Fin 512) : Decidable (counts M b s) := inferInstanceAs (Decidable ((s.val : ℤ) < _))

/-- The token's variance, zero where it does not count. -/
def vary (b : Fin 8) (s : Fin 512) : ℝ := if counts M b s then Token.variance (value A b s) else 0

/-- What the claim asks of the arguments. -/
structure Good : Prop where
  real : ∀ b s i d, A (ix4 (place13 i) b s d) = ((value A b s i d : ℝ) : EReal)
  regular : ∀ b s, Token.Regular (value A b s)
  some : ∀ b, 0 < ∑ s, vary A M b s

/-- The answer for one sequence and coordinate. -/
def answer (b : Fin 8) (d : Fin 1024) : ℝ :=
  (∑ s, vary A M b s * ∑ k : Fin 9, Token.portion (value A b s) k * value A b s k.val d) / ∑ s, vary A M b s

end Cert.Answer

end
-- ==== Proof.WholeValue.lean ====
/- The reference's result is the answer, and the precondition gives what the answer asks of the arguments. -/
module

public import proofs.«01_k».proof.Proof.WholeAt
public import proofs.«01_k».proof.Proof.GroupValue
public import proofs.«01_k».proof.Proof.Answer

@[expose] public section

noncomputable section

namespace Cert.Whole

open Idealize.ShloMosaic Finset Cert.Schur Cert.Steps Cert.Groups Cert.GroupValue Cert.Answer

theorem fitsA : Fits (p := 2) 2 0 ![1, 2, 0] := by constructor <;> decide
theorem fitsB : Fits (p := 4) 5 2 ![0, 1, 3, 4, 2] := by constructor <;> decide
theorem fitsC : Fits (p := 3) 1 7 ![5, 6, 8, 7] := by constructor <;> decide
theorem fitsD : Fits (p := 2) 1 8 ![6, 7, 8] := by constructor <;> decide

section Token

variable {x : FVec Ideal Nine .f32} {b : Fin 8} {s : Fin 512} {u : ℕ → Fin 1024 → ℝ}
  (hx : ∀ (l : Fin 9) d, x (ix4 l b s d) = (u l.val d : EReal))

include hx

theorem products_real (l k : Fin 9) :
    ∑ d : Fin 1024, x (ix4 l b s d) * x (ix4 k b s d) = ((gram u l.val k.val : ℝ) : EReal) := by
  unfold gram
  rw [Weights.coe_sum]
  exact sum_congr rfl fun d _ => by rw [hx, hx, EReal.coe_mul]

theorem norms_real (l : Fin 9) : norms x (ix3 l b s) = ((√(gram u l.val l.val) : ℝ) : EReal) := by
  rw [norms_at, products_real hx, Lits.sqrt_real]
  exact sum_nonneg fun d _ => mul_self_nonneg _

theorem cosines_real (l : Fin 8) : cosines x (ix3 l b s) = ((Token.cosine u l.val : ℝ) : EReal) := by
  have hm : 0 < max (√(gram u l.val l.val) * √(gram u (l.val + 1) (l.val + 1))) Token.floor :=
    lt_max_of_lt_right Token.floor_pos
  rw [cosines_at, products_real hx, norms_real hx, norms_real hx, Lits.floor, ← EReal.coe_mul, Lits.max_real, mul_comm]
  show Ideal.div ((gram u (l.val + 1) l.val : ℝ) : EReal)
    ((max (√(gram u l.val l.val) * √(gram u (l.val + 1) (l.val + 1))) Token.floor : ℝ) : EReal) = _
  rw [Weights.div_real hm.ne', gram_symm]
  rfl

theorem centred_real (l : Fin 8) :
    centred (cosines x) (ix3 l b s) = ((Token.cosine u l.val - (∑ j ∈ range 8, Token.cosine u j) / 8 : ℝ) : EReal) := by
  have h : ∑ j : Fin 8, cosines x (ix3 j b s) = ((∑ j ∈ range 8, Token.cosine u j : ℝ) : EReal) := by
    rw [sum_range, Weights.coe_sum]
    exact sum_congr rfl fun j _ => cosines_real hx j
  rw [centred_at, h, cosines_real hx, Lits.eight, Weights.div_real (by norm_num), ← EReal.coe_sub]

theorem spread_real : spread (cosines x) (ix2 b s) = ((Token.variance u : ℝ) : EReal) := by
  unfold Token.variance
  rw [spread_at, ← Weights.div_real (by norm_num), sum_range fun l => (Token.cosine u l - (∑ j ∈ range 8, Token.cosine u j) / 8)
    * (Token.cosine u l - (∑ j ∈ range 8, Token.cosine u j) / 8), Weights.coe_sum]
  refine congrArg (fun z => Ideal.div z ((7 : ℝ) : EReal)) (sum_congr rfl fun j _ => ?_)
  rw [centred_real hx, EReal.coe_mul]

variable (h : Token.Regular u)

include h

theorem allAligns_real (i : Fin 9) : allAligns x (ix3 i b s) = Token.alignment u i.val := by
  unfold allAligns
  exact joined_at (Token.alignment u)
    (fun k => aligns_token sidesA fitsA h hx k _ _ (by rw [Lits.two]; norm_num) (by rw [Lits.six]; norm_num))
    (fun k => aligns_token sidesB fitsB h hx k _ _ (by rw [Lits.four]; norm_num) (by rw [Lits.ten]; norm_num))
    (fun k => aligns_token sidesC fitsC h hx k _ _ (by rw [Lits.three]; norm_num) (by rw [Lits.eight]; norm_num))
    (fun k => aligns_token sidesD fitsD h hx k _ _ (by rw [Lits.two]; norm_num) (by rw [Lits.six]; norm_num)) i

theorem allNovs_real (i : Fin 9) : allNovs x (ix3 i b s) = ((Token.novelty u i.val : ℝ) : EReal) := by
  unfold allNovs
  exact joined_at (fun j => ((Token.novelty u j : ℝ) : EReal)) (novs_token sidesA fitsA h hx) (novs_token sidesB fitsB h hx)
    (novs_token sidesC fitsC h hx) (novs_token sidesD fitsD h hx) i

theorem weights_real (i : Fin 9) : weights x (ix3 i b s) = Token.weight u i := by
  show shares (allAligns x) (ix3 i b s) + shares (allNovs x) (ix3 i b s) = _
  rw [shares_at, shares_at]
  simp only [allAligns_real hx h, allNovs_real hx h]
  rfl

theorem vectors_real (d : Fin 1024) :
    vectors x (ix3 b s d) = ((∑ k : Fin 9, Token.portion u k * u k.val d : ℝ) : EReal) := by
  rw [vectors_at, Weights.coe_sum]
  refine sum_congr rfl fun i _ => ?_
  rw [shares_at]
  simp only [weights_real hx h]
  rw [h.spec.2.1 i, hx, EReal.coe_mul]

end Token

section Arguments

variable {A : FVec Ideal All .f32} {M : IVec Grid 32}

theorem masked_real {b : Fin 8} {s : Fin 512} (hm : ∀ i, (M i).toInt = 0 ∨ (M i).toInt = 1)
    (hx : ∀ (l : Fin 9) d, layers A (ix4 l b s d) = ((value A b s l.val d : ℝ) : EReal)) :
    masked (layers A) M (ix2 b s) = ((vary A M b s : ℝ) : EReal) := by
  have hv := valid_at M hm b s
  unfold masked vary
  by_cases hc : counts M b s
  · have h1 : valid M (ix2 b s) = 1#1 := by
      rw [hv, decide_eq_true (show (s.val : ℤ) < ∑ j : Fin 512, (M (ix2 b j)).toInt - 1 from hc)]; rfl
    rw [if_pos hc]
    exact (if_pos h1).trans (spread_real hx)
  · have h1 : ¬ valid M (ix2 b s) = 1#1 := by
      rw [hv, decide_eq_false (show ¬ (s.val : ℤ) < ∑ j : Fin 512, (M (ix2 b j)).toInt - 1 from hc)]; decide
    rw [if_neg hc]
    exact (if_neg h1).trans Lits.zero

theorem layers_real (h : Good A M) (b : Fin 8) (s : Fin 512) (l : Fin 9) (d : Fin 1024) :
    layers A (ix4 l b s d) = ((value A b s l.val d : ℝ) : EReal) := by
  rw [layers_at A l b s d (place13 l.val) (by show 4 + min l.val 8 = _; have := l.isLt; omega)]
  exact h.real b s l.val d

theorem result_answer (h : Good A M) (hm : ∀ i, (M i).toInt = 0 ∨ (M i).toInt = 1) (b : Fin 8) (d : Fin 1024) :
    result A M (ix3 b 0 d) = ((answer A M b d : ℝ) : EReal) := by
  have hv : ∀ s, masked (layers A) M (ix2 b s) = ((vary A M b s : ℝ) : EReal) := fun s => masked_real hm (layers_real h b s)
  unfold answer
  rw [result_at, sum_div, Weights.coe_sum]
  simp only [hv]
  rw [← Weights.coe_sum]
  refine sum_congr rfl fun s _ => ?_
  rw [vectors_real (layers_real h b s) (h.regular b s), Weights.div_real (h.some b).ne', ← EReal.coe_mul]
  congr 1
  ring

/-! ## The precondition -/

theorem infinity : Ideal.ofBits .f32 0x7F800000#32 = ⊤ := by
  simp [Ideal.ofBits, Ideal.ieee]

theorem real_of_finite {x : FVec Ideal Nine .f32} {j : One.Idx} (h : finite x j = 1#1) (i : Nine.Idx) :
    x i = ((x i).toReal : EReal) := by
  have h1 := Host.reduce_andi_all _ _ _ _ j h i
  have h2 : BitVec.ofBool (decide (max (x i) (-x i) < Ideal.ofBits .f32 0x7F800000#32)) = 1#1 := h1
  have h3 : max (x i) (-x i) < ⊤ := by
    by_contra hn
    rw [infinity, decide_eq_false hn] at h2
    exact absurd h2 (by decide)
  obtain ⟨ht, hb⟩ := max_lt_iff.mp h3
  exact (EReal.coe_toReal ht.ne (fun hn => by rw [hn] at hb; simp at hb)).symm

theorem bits_of_marks {j : One.Idx} (h : marks M j = 1#1) (i : Grid.Idx) : (M i).toInt = 0 ∨ (M i).toInt = 1 := by
  have h1 := Host.reduce_andi_all _ _ _ _ j h i
  obtain ⟨h2, h3⟩ := IntOp.andi_eq_one.1 h1
  have h2' : BitVec.ofBool (BitVec.sle 0#32 (M i)) = 1#1 := h2
  have h3' : BitVec.ofBool (BitVec.sle (M i) 1#32) = 1#1 := h3
  have e : ∀ c : Bool, BitVec.ofBool c = 1#1 → c = true := by decide
  have h2'' := e _ h2'
  have h3'' := e _ h3'
  rw [BitVec.sle_eq_decide, decide_eq_true_eq] at h2'' h3''
  rw [show (0#32 : BitVec 32).toInt = 0 from by decide] at h2''
  rw [show (1#32 : BitVec 32).toInt = 1 from by decide] at h3''
  omega

/-- The precondition's meaning. -/
theorem of_asked (h : asked A M = fun _ => 1#1) : Good A M ∧ ∀ i, (M i).toInt = 0 ∨ (M i).toInt = 1 := by
  have h0 : asked A M (fun a => Fin.elim0 a) = 1#1 := congrFun h _
  obtain ⟨hr, hn⟩ := IntOp.andi_eq_one.1 h0
  obtain ⟨hr, hD⟩ := of_regular sidesD fitsD hr
  obtain ⟨hr, hC⟩ := of_regular sidesC fitsC hr
  obtain ⟨hr, hB⟩ := of_regular sidesB fitsB hr
  obtain ⟨hr, hA⟩ := of_regular sidesA fitsA hr
  obtain ⟨hf, hm⟩ := IntOp.andi_eq_one.1 hr
  have hm' := bits_of_marks hm
  have hreal : ∀ b s i d, A (ix4 (place13 i) b s d) = ((value A b s i d : ℝ) : EReal) := fun b s i d => by
    have := real_of_finite hf (ix4 ⟨min i 8, by omega⟩ b s d)
    rw [layers_at A _ b s d (place13 i) rfl] at this
    exact this
  have hx : ∀ b s (l : Fin 9) d, layers A (ix4 l b s d) = ((value A b s l.val d : ℝ) : EReal) := fun b s l d => by
    rw [layers_at A l b s d (place13 l.val) (by show 4 + min l.val 8 = _; have := l.isLt; omega)]
    exact hreal b s l.val d
  have hk : ∀ b s, ∀ k < 9, (∀ n < Cert.width k + 2, 0 < left (Token.inside (value A b s) k) n n n)
      ∧ 0 < Token.reach (value A b s) k := fun b s k hk => by
    by_cases h2 : k < 2
    · have := hA b s _ (hx b s) ⟨k, h2⟩
      rwa [Nat.zero_add] at this
    by_cases h7 : k < 7
    · have := hB b s _ (hx b s) ⟨k - 2, by omega⟩
      rwa [show 2 + (⟨k - 2, by omega⟩ : Fin 5).val = k by show 2 + (k - 2) = k; omega] at this
    by_cases h8 : k < 8
    · have := hC b s _ (hx b s) 0
      rwa [show 7 + (0 : Fin 1).val = k by show 7 + 0 = k; omega] at this
    · have := hD b s _ (hx b s) 0
      rwa [show 8 + (0 : Fin 1).val = k by show 8 + 0 = k; omega] at this
  refine ⟨⟨hreal, fun b s => ⟨fun k h => (hk b s k h).1, fun k h => (hk b s k h).2⟩, fun b => ?_⟩, hm'⟩
  have h1 := Host.reduce_andi_all _ _ _ _ _ hn (ix1 b)
  have h2 := pos_of_ogt h1
  rw [fill_at, Lits.zero, sums_at] at h2
  simp only [fun s => masked_real hm' (hx b s)] at h2
  rw [← Weights.coe_sum] at h2
  exact_mod_cast h2

end Arguments

end Cert.Whole

end
-- ==== Proof.ColumnRun.lean ====
/- What the kernel's body leaves in its output block, as the function of its loaded patches. -/
module
public import proofs.«01_k».proof.Proof.Column
public import Idealize.ShloMosaic.Lib.Pipeline.Value
@[expose] public section
set_option maxRecDepth 16384
noncomputable section
namespace Cert.Column
open Idealize.ShloMosaic Idealize.ShloMosaic.Tactic Cert.KernelIdeal Cert.KernelIdeal.Gen
variable {F : FTy → Type} [FloatOps F] [Named F]
variable (c : Dev nD) (i : grid0.Coords) (arg2 : Memref sig .tc .vmem S4x1x512x1024 .f32) (harg2 : arg2.IsWhole)
    (arg3 : Memref sig .tc .vmem S4x1x512x1024 .f32) (harg3 : arg3.IsWhole)
    (arg4 : Memref sig .tc .vmem S1x1x512x1024 .f32) (harg4 : arg4.IsWhole)
    (arg5 : Memref sig .tc .vmem S1x1x512 .i32) (harg5 : arg5.IsWhole)
    (arg6 : Memref sig .tc .vmem S1x1x1024 .f32) (harg6 : arg6.IsWhole) (arg7 : Memref sig .tc .vmem S1x1 .f32)
    (harg7 : arg7.IsWhole) (hc0 : cond0_0 i) (hc1 : cond0_1 i)
    (x0 x1 : Vec F S4x1x512x1024 .f32) (x2 : Vec F S1x1x512x1024 .f32) (x3 : Vec F S1x1x512 .i32)

/-- The inner products of layers `i` and `j` of the block. -/
abbrev inners (i j : ℕ) : Line F := pair (layer arg2 harg2 arg3 harg3 arg4 harg4 x0 x1 x2) i j

/-- The block's masked variances. -/
abbrev variances : Line F :=
  masked i (marks arg5 harg5 x3) (spread (inners arg2 harg2 arg3 harg3 arg4 harg4 x0 x1 x2))

/-- The block's coefficients. -/
abbrev coefs : ℕ → Line F :=
  coef (aligns (inners arg2 harg2 arg3 harg3 arg4 harg4 x0 x1 x2)) (novels (inners arg2 harg2 arg3 harg3 arg4 harg4 x0 x1 x2))
    (variances i arg2 harg2 arg3 harg3 arg4 harg4 arg5 harg5 x0 x1 x2 x3)

/-- The block's weighted sum. -/
abbrev blend : FVec F S1x1024 .f32 :=
  mix (coefs i arg2 harg2 arg3 harg3 arg4 harg4 arg5 harg5 x0 x1 x2 x3) (rows4 arg2 harg2 x0) (rows4 arg3 harg3 x1)
    (rows1 arg4 harg4 x2)

/-- What the body leaves of its sum and of the variances' sum. -/
def final (s : FVec F S1x1024 .f32) (z : FVec F S1x1 .f32) : Vec F S1x1x1024 .f32 :=
  shapeCast S1x1x1024 (mulf (addf (broadcast S1x1024 (Scalar.ofBits .f32 0x00000000#32)) s)
    (broadcastTo S1x1024 (divf (broadcast S1x1 (Scalar.ofBits .f32 0x3F800000#32))
      (addf (broadcast S1x1 (Scalar.ofBits .f32 0x00000000#32)) z)) broadcasts_S1x1_S1x1024)) shapeCasts_S1x1024_S1x1x1024

theorem zero3 : (![0, 0, 0] : Fin 3 → Nat) = fun _ => 0 := funext fun a => by fin_cases a <;> rfl
theorem zero2 : (![0, 0] : Fin 2 → Nat) = fun _ => 0 := funext fun a => by fin_cases a <;> rfl

/-- The body's weighted sum. -/
theorem mixed : kernelRun0_A.sl.v5698 c i arg2 harg2 arg3 harg3 arg4 harg4 arg5 harg5 x0 x1 x2 x3
    = blend i arg2 harg2 arg3 harg3 arg4 harg4 arg5 harg5 x0 x1 x2 x3 := by sl_kernel_rfl

/-- The body's sum of masked variances. -/
theorem part : kernelRun0_A.sl.v5700 c i arg2 harg2 arg3 harg3 arg4 harg4 arg5 harg5 x0 x1 x2 x3
    = across1 (variances i arg2 harg2 arg3 harg3 arg4 harg4 arg5 harg5 x0 x1 x2 x3) := by sl_kernel_rfl

/-- A load of a whole buffer after a store to the whole buffer reads what was stored. -/
theorem cov_cons {sig : RefSig} {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What the output block holds before its last scaling. -/
theorem written : kernelRun0_A.sl.v5718_1 c i arg2 harg2 arg3 harg3 arg4 harg4 arg5 harg5 arg6 x0 x1 x2 x3
    = shapeCast S1x1x1024 (addf (shapeCast S1x1024 (shapeCast S1x1x1024 (broadcast S1x1024 (Scalar.ofBits (F := F) .f32 0x00000000#32)) shapeCasts_S1x1024_S1x1x1024) shapeCasts_S1x1x1024_S1x1024)
        (blend i arg2 harg2 arg3 harg3 arg4 harg4 arg5 harg5 x0 x1 x2 x3)) shapeCasts_S1x1024_S1x1x1024 := by
  unfold kernelRun0_A.sl.v5718_1 kernelRun0_A.sl.H4_2
  rw [cov_cons (S := S1x1x1024) _ zero3]
  unfold kernelRun0_A.sl.r_25
  rw [mixed]
  unfold kernelRun0_A.sl.v5710 kernelRun0_A.sl.v5709 kernelRun0_A.sl.H4_1
  rw [View.readCov_unit_zero (S := S1x1x1024) _ zero3]
  rfl

/-- What the scratch holds then. -/
theorem summed : kernelRun0_A.sl.v5720_1 c i arg2 harg2 arg3 harg3 arg4 harg4 arg5 harg5 arg7 x0 x1 x2 x3
    = addf (broadcast S1x1 (Scalar.ofBits .f32 0x00000000#32))
        (across1 (variances i arg2 harg2 arg3 harg3 arg4 harg4 arg5 harg5 x0 x1 x2 x3)) := by
  unfold kernelRun0_A.sl.v5720_1 kernelRun0_A.sl.HS0_2
  rw [cov_cons (S := S1x1) _ zero2]
  unfold kernelRun0_A.sl.v5708 kernelRun0_A.sl.v5705
  rw [part]
  unfold kernelRun0_A.sl.v5704 kernelRun0_A.sl.HS0_1
  rw [View.readCov_unit_zero (S := S1x1) _ zero2, shapeCast_self]
  unfold kernelRun0_A.sl.v5721
  exact congrArg (fun w => addf w _) (shapeCast_self _ _)

/-- The last scaling. -/
theorem final_pay (s : FVec F S1x1024 .f32) (z : FVec F S1x1 .f32) :
    k0_pay2 (shapeCast S1x1x1024 (addf (shapeCast S1x1024 (shapeCast S1x1x1024 (broadcast S1x1024 (Scalar.ofBits (F := F) .f32 0x00000000#32)) shapeCasts_S1x1024_S1x1x1024) shapeCasts_S1x1x1024_S1x1024) s)
      shapeCasts_S1x1024_S1x1x1024) (addf (broadcast S1x1 (Scalar.ofBits .f32 0x00000000#32)) z) = final s z := by
  unfold k0_pay2 final
  rw [shapeCast_shapeCast, shapeCast_shapeCast]

/-- The output block the body leaves. -/
theorem out_eq : out0_A_4 c i arg2 harg2 arg3 harg3 arg4 harg4 arg5 harg5 arg6 harg6 arg7 harg7 hc0 hc1 x0 x1 x2 x3
    = final (blend i arg2 harg2 arg3 harg3 arg4 harg4 arg5 harg5 x0 x1 x2 x3)
      (across1 (variances i arg2 harg2 arg3 harg3 arg4 harg4 arg5 harg5 x0 x1 x2 x3)) := by
  unfold out0_A_4
  rw [View.read_writes_eq_canon _ _ _ (cover0_A_4 c i arg2 harg2 arg3 harg3 arg4 harg4 arg5 harg5 arg6 harg6 arg7 harg7 hc0 hc1 x0 x1 x2 x3)]
  unfold kernelRun0_A
  dsimp only
  rw [View.canon_cons_unit_zero (S := S1x1x1024) zero3]
  rw [written, summed, final_pay]

end Cert.Column
-- ==== Proof.KernelArray.lean ====
/- The kernel's result array, block by block, and what its input blocks read of the arguments. -/
module

public import proofs.«01_k».proof.Proof.ColumnRun
public import proofs.«01_k».proof.Proof.Arrays
public import Idealize.ShloMosaic.Lib.ValueIdx

@[expose] public section

noncomputable section

namespace Cert.KernelArray

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The grid point of batch `b`. -/
def point (b : Fin 8) : Fin cfg0.N := ⟨b.val, by rw [show cfg0.N = 8 from N_0]; exact b.isLt⟩

/-- The result: batch `b`'s row is what point `b` leaves. -/
def result (c : Dev nD) : Buf (Elt F) ((c : Thread nD τ).loc main_v1) :=
  fun i : S8x1x1024.Idx => outsAt0 m c (point (i 0)) (ValueIdx.ix3 0 0 (i 2))

theorem index4 (t : Fin cfg0.N) : win0_4.index t 0 = t.val ∧ win0_4.index t 1 = 0 ∧ win0_4.index t 2 = 0 := by
  rcases fin_N0 t with rfl | rfl | rfl | rfl | rfl | rfl | rfl | rfl <;> decide

theorem index0 (t : Fin cfg0.N) : win0_0.index t 0 = 1 ∧ win0_0.index t 1 = t.val ∧ win0_0.index t 2 = 0 ∧ win0_0.index t 3 = 0 := by
  rcases fin_N0 t with rfl | rfl | rfl | rfl | rfl | rfl | rfl | rfl <;> decide

theorem index1 (t : Fin cfg0.N) : win0_1.index t 0 = 2 ∧ win0_1.index t 1 = t.val ∧ win0_1.index t 2 = 0 ∧ win0_1.index t 3 = 0 := by
  rcases fin_N0 t with rfl | rfl | rfl | rfl | rfl | rfl | rfl | rfl <;> decide

theorem index2 (t : Fin cfg0.N) : win0_2.index t 0 = 12 ∧ win0_2.index t 1 = t.val ∧ win0_2.index t 2 = 0 ∧ win0_2.index t 3 = 0 := by
  rcases fin_N0 t with rfl | rfl | rfl | rfl | rfl | rfl | rfl | rfl <;> decide

theorem index3 (t : Fin cfg0.N) : win0_3.index t 0 = t.val ∧ win0_3.index t 1 = 0 ∧ win0_3.index t 2 = 0 := by
  rcases fin_N0 t with rfl | rfl | rfl | rfl | rfl | rfl | rfl | rfl <;> decide

/-- Blocks, one for every point, cut to what is written back, are the blocks of the array they form. -/
theorem cut_eq (o : Fin cfg0.N → Vec F S1x1x1024 .f32) (t : Fin cfg0.N) :
    (cfg0.win 4).cut (grid0.coords t) (o t)
      = ((cfg0.win 4).blk t).view.read (Elt F) (fun i : S8x1x1024.Idx => o (point (i 0)) (ValueIdx.ix3 0 0 (i 2))) := by
  funext j
  rw [View.read_apply]
  have h := index4 t
  have hj0 : (j 0).val < 1 := (j 0).isLt
  have hj1 : (j 1).val < 1 := (j 1).isLt
  have hj2 : (j 2).val < 1024 := (j 2).isLt
  have ht : t.val < 8 := lt_of_lt_of_eq t.isLt N_0
  show o t _ = o (point ⟨win0_4.index t 0 * 1 + 1 * (j 0).val, _⟩) (ValueIdx.ix3 0 0 ⟨win0_4.index t 2 * 1024 + 1 * (j 2).val, _⟩)
  have e : (point ⟨win0_4.index t 0 * 1 + 1 * (j 0).val, by omega⟩) = t :=
    Fin.ext (by show win0_4.index t 0 * 1 + 1 * (j 0).val = t.val; omega)
  rw [e]
  refine congrArg (o t) (funext fun a => Fin.ext ?_)
  match a with
  | ⟨0, _⟩ => show (j 0).val = 0; omega
  | ⟨1, _⟩ => show (j 1).val = 0; omega
  | ⟨2, _⟩ => show (j 2).val = win0_4.index t 2 * 1024 + 1 * (j 2).val; omega

theorem flushed_eq (c : Dev nD) (t : Fin cfg0.N) :
    (dats m 0 c).flushed 4 t = ((cfg0.win 4).blk t).view.read (Elt F) (result m c) := by
  show (cfg0.win 4).cut (grid0.coords t) ((dats m 0 c).after 4 t) = _
  rw [after0_4, cut_eq (outsAt0 m c) t]
  rfl

theorem final_o (c : Dev nD) : (dats m 0 c).arrAt 4 cfg0.N = result m c :=
  (dats m 0 c).arrAt_eq_of_cover 4 (result m c) (fun t _ => flushed_eq m c t) fun i =>
    ⟨point (i 0), flush0_4 _, by
      show i ∈ ((View.whole main_v1).slice (win0_4.rect (point (i 0)))).set
      rw [View.set_slice_whole, Rect.mem_set_unit]
      have h := index4 (point (i 0))
      have h0 : (point (i 0)).val = (i 0).val := rfl
      have h1 : (i 1 : Nat) < 1 := (i 1).isLt
      have h2 : (i 2 : Nat) < 1024 := (i 2).isLt
      intro a
      match a with
      | ⟨0, _⟩ => show win0_4.index (point (i 0)) 0 * 1 ≤ (i 0 : Nat) ∧ (i 0 : Nat) < win0_4.index (point (i 0)) 0 * 1 + 1; omega
      | ⟨1, _⟩ => show win0_4.index (point (i 0)) 1 * 1 ≤ (i 1 : Nat) ∧ (i 1 : Nat) < win0_4.index (point (i 0)) 1 * 1 + 1; omega
      | ⟨2, _⟩ => show win0_4.index (point (i 0)) 2 * 1024 ≤ (i 2 : Nat) ∧ (i 2 : Nat) < win0_4.index (point (i 0)) 2 * 1024 + 1024; omega⟩

/-- The run, read: the result array, the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 4).trans (final_o m c), h.2 c⟩)
    (θ_run_and (run_main m ρ) (unchanged m ρ))

/-! ## The input blocks -/

theorem block0 (c : Dev nD) (t : Fin cfg0.N) (l : Fin 4) (s : Fin 512) (d : Fin 1024) (b : Fin 8) (hb : b.val = t.val) (l' : Fin 13)
    (hl : l'.val = 4 + l.val) : (X0_0 m c t : Vec F S4x1x512x1024 .f32) (ValueIdx.ix4 l 0 s d) = m ((c : Thread nD τ).loc main_arg0) (ValueIdx.ix4 l' b s d) := by
  rw [← V_main_arg0 m c]
  unfold X0_0 Pipeline.Window.fill
  rw [dif_pos (moved0_0 t _)]
  unfold iblk
  rw [View.read_apply]
  show V m c main_arg0 _ = V m c main_arg0 _
  have h := index0 t
  congr 1
  funext a
  apply Fin.ext
  match a with
  | ⟨0, _⟩ => show win0_0.index t 0 * 4 + 1 * l.val = l'.val; omega
  | ⟨1, _⟩ => show win0_0.index t 1 * 1 + 1 * 0 = b.val; omega
  | ⟨2, _⟩ => show win0_0.index t 2 * 512 + 1 * s.val = s.val; omega
  | ⟨3, _⟩ => show win0_0.index t 3 * 1024 + 1 * d.val = d.val; omega

theorem block1 (c : Dev nD) (t : Fin cfg0.N) (l : Fin 4) (s : Fin 512) (d : Fin 1024) (b : Fin 8) (hb : b.val = t.val) (l' : Fin 13)
    (hl : l'.val = 8 + l.val) : (X0_1 m c t : Vec F S4x1x512x1024 .f32) (ValueIdx.ix4 l 0 s d) = m ((c : Thread nD τ).loc main_arg0) (ValueIdx.ix4 l' b s d) := by
  rw [← V_main_arg0 m c]
  unfold X0_1 Pipeline.Window.fill
  rw [dif_pos (moved0_1 t _)]
  unfold iblk
  rw [View.read_apply]
  show V m c main_arg0 _ = V m c main_arg0 _
  have h := index1 t
  congr 1
  funext a
  apply Fin.ext
  match a with
  | ⟨0, _⟩ => show win0_1.index t 0 * 4 + 1 * l.val = l'.val; omega
  | ⟨1, _⟩ => show win0_1.index t 1 * 1 + 1 * 0 = b.val; omega
  | ⟨2, _⟩ => show win0_1.index t 2 * 512 + 1 * s.val = s.val; omega
  | ⟨3, _⟩ => show win0_1.index t 3 * 1024 + 1 * d.val = d.val; omega

theorem block2 (c : Dev nD) (t : Fin cfg0.N) (s : Fin 512) (d : Fin 1024) (b : Fin 8) (hb : b.val = t.val) :
    (iblk m c 2 t : Vec F S1x1x512x1024 .f32) (ValueIdx.ix4 0 0 s d) = m ((c : Thread nD τ).loc main_arg0) (ValueIdx.ix4 12 b s d) := by
  rw [← V_main_arg0 m c]
  unfold iblk
  rw [View.read_apply]
  show V m c main_arg0 _ = V m c main_arg0 _
  have h := index2 t
  congr 1
  funext a
  apply Fin.ext
  match a with
  | ⟨0, _⟩ => show win0_2.index t 0 * 1 + 1 * 0 = 12; omega
  | ⟨1, _⟩ => show win0_2.index t 1 * 1 + 1 * 0 = b.val; omega
  | ⟨2, _⟩ => show win0_2.index t 2 * 512 + 1 * s.val = s.val; omega
  | ⟨3, _⟩ => show win0_2.index t 3 * 1024 + 1 * d.val = d.val; omega

theorem block3 (c : Dev nD) (t : Fin cfg0.N) (s : Fin 512) (b : Fin 8) (hb : b.val = t.val) :
    (iblk m c 3 t : Vec F S1x1x512 .i32) (ValueIdx.ix3 0 0 s) = m ((c : Thread nD τ).loc main_arg1) (ValueIdx.ix2 b s) := by
  have e : (V m c main_v0 : Vec F S8x1x512 .i32) = shapeCast S8x1x512 (m ((c : Thread nD τ).loc main_arg1)) shapeCasts_S8x512_S8x1x512 := by
    show StableHlo.after hostOps0 _ _ = _
    unfold hostOps0
    after_results
    rfl
  unfold iblk
  rw [View.read_apply]
  show (V m c main_v0 : Vec F S8x1x512 .i32) _ = _
  rw [e]
  have h := index3 t
  rw [show ((cfg0.win 3).blk t).view.emb (ValueIdx.ix3 0 0 s) = (ValueIdx.ix3 b 0 s : S8x1x512.Idx) from funext fun a => Fin.ext (by
    match a with
    | ⟨0, _⟩ => show win0_3.index t 0 * 1 + 1 * 0 = b.val; omega
    | ⟨1, _⟩ => show win0_3.index t 1 * 1 + 1 * 0 = 0; omega
    | ⟨2, _⟩ => show win0_3.index t 2 * 512 + 1 * s.val = s.val; omega)]
  refine shapeCast_apply _ _ _ _ ?_
  rw [Shape.rowMajor_val_three]
  refine (Shape.rowMajor_val_two (d := ![8, 512]) _).trans ?_
  show b.val * 512 + s.val = (b.val * 1 + 0) * 512 + s.val
  ring

end Cert.KernelArray

end
-- ==== Proof.ColumnAt.lean ====
/- The kernel's scores, coefficients and variance at a token whose inner products are those of real layers. -/
module

public import proofs.«01_k».proof.Proof.Column
public import proofs.«01_k».proof.Proof.Lits

@[expose] public section

set_option maxRecDepth 16384

noncomputable section

namespace Cert.Column

open Idealize.ShloMosaic Cert.KernelIdeal Finset
open Cert.Schur (fac gram)
open Cert.Token (inside)

theorem total_at (f : ℕ → Line Ideal) (n : ℕ) (i : S1x512.Idx) : total f n i = ∑ a ∈ range n, f a i := by
  induction n with
  | zero => exact Lits.zero
  | succ n ih => rw [sum_range_succ, ← ih]; rfl

theorem run_at (f : ℕ → Line Ideal) (n : ℕ) (i : S1x512.Idx) : run f n i = ∑ a ∈ range (n + 1), f a i := by
  induction n with
  | zero => rw [sum_range_one]; rfl
  | succ n ih => rw [sum_range_succ, ← ih]; rfl

variable {G : ℕ → ℕ → Line Ideal} {u : ℕ → Fin 1024 → ℝ} {i : S1x512.Idx} (hG : ∀ a b, G a b i = ((gram u a b : ℝ) : EReal))
include hG

theorem left_at (k n a b : ℕ) (h : ∀ m < n, 0 < Schur.left (inside u k) m m m) :
    left (within G k) n a b i = ((Schur.left (inside u k) n a b : ℝ) : EReal) := by
  induction n generalizing a b with
  | zero => exact hG _ _
  | succ n ih =>
    have ih' := fun a b => ih a b fun m hm => h m (by omega)
    show left (within G k) n a b i - left (within G k) n n a i * Ideal.rsqrt (left (within G k) n n n i)
      * (left (within G k) n n b i * Ideal.rsqrt (left (within G k) n n n i)) = _
    rw [ih', ih', ih', ih', Lits.rsqrt_real (h n (by omega)), ← EReal.coe_mul, ← EReal.coe_mul, ← EReal.coe_mul,
      ← EReal.coe_sub]
    rfl

theorem entry_at (k n b : ℕ) (h : ∀ m < n + 1, 0 < Schur.left (inside u k) m m m) :
    entry (within G k) n b i = ((fac (inside u k) n b : ℝ) : EReal) := by
  show left (within G k) n n b i * Ideal.rsqrt (left (within G k) n n n i) = _
  rw [left_at hG k n n b fun m hm => h m (by omega), left_at hG k n n n fun m hm => h m (by omega),
    Lits.rsqrt_real (h n (by omega)), ← EReal.coe_mul]
  rfl

theorem norm_at (a : ℕ) : norm G a i = ((√(gram u a a) : ℝ) : EReal) := by
  show Ideal.sqrt (G a a i) = _
  rw [hG, Lits.sqrt_real (r := gram u a a) (sum_nonneg fun _ _ => mul_self_nonneg _)]

theorem over_norm_at (a : ℕ) (h : 0 < gram u a a) : divf one (norm G a) i = (((√(gram u a a))⁻¹ : ℝ) : EReal) := by
  show Ideal.div (Ideal.ofBits .f32 0x3F800000#32) (norm G a i) = _
  rw [norm_at hG, Lits.one, Weights.div_real (Real.sqrt_pos.mpr h).ne', one_div]

theorem novel_at (h : Token.Regular u) {k : ℕ} (hk : k < 9) : novels G k i = ((Token.novelty u k : ℝ) : EReal) := by
  show entry (within G k) (width k + 1) (width k + 1) i * divf one (norm G k) i = _
  rw [entry_at hG k _ _ fun m hm => h.pos k hk m (by omega), over_norm_at hG k (h.gram_pos hk), ← EReal.coe_mul,
    Token.novelty, div_eq_mul_inv, inside, place_last k hk]

theorem align_at (h : Token.Regular u) {k : ℕ} (hk : k < 9) {c d : EReal}
    (hc : c = ((((width k + 1 : ℕ) : ℝ)⁻¹ : ℝ) : EReal)) (hd : d = (((2 * (width k + 2) : ℕ) : ℝ) : EReal)) :
    align G k (width k) c d i = Token.alignment u k := by
  have hE := fun n (hn : n < width k + 2) b => entry_at hG k n b fun m hm => h.pos k hk m (by omega)
  have hN := fun j (hj : j < width k + 2) => over_norm_at hG (place k j) (h.inside_pos hk hj)
  show Ideal.div (Ideal.sqrt (total (F := Ideal) _ _ i)) (run (F := Ideal) _ _ i * d) = _
  rw [total_at, run_at, Token.alignment, hd]
  congr 1
  · rw [Token.reach, ← Lits.sqrt_real (sum_nonneg fun _ _ => mul_self_nonneg _), Weights.coe_sum]
    congr 1
    refine sum_congr rfl fun a ha => ?_
    show entry (within G k) a (width k + 1) i * entry (within G k) a (width k + 1) i = _
    rw [hE a (by have := mem_range.mp ha; omega), ← EReal.coe_mul]
  · congr 1
    rw [Token.pull, Weights.coe_sum]
    refine sum_congr rfl fun a ha => ?_
    have ha := mem_range.mp ha
    show run (F := Ideal) _ _ i * c * entry (within G k) a (width k + 1) i = _
    rw [hE a (by omega), hc, EReal.coe_mul, div_eq_mul_inv, EReal.coe_mul, run_at]
    congr 2
    have h0 : ∑ j ∈ Ico 0 a, fac (inside u k) a j / √(inside u k j j) = 0 := sum_eq_zero fun j hj => by
      rw [Schur.fac_eq_zero (Token.inside_symm u k) (fun m hm => h.pos k hk m (by omega)) (mem_Ico.mp hj).2, zero_div]
    rw [range_eq_Ico (a := width k + 1), ← sum_Ico_consecutive _ (Nat.zero_le a) (by omega), h0, zero_add,
      sum_Ico_eq_sum_range, Weights.coe_sum, show width k + 1 - a = width k - a + 1 by omega]
    refine sum_congr rfl fun j hj => ?_
    have hj := mem_range.mp hj
    show entry (within G k) a (a + j) i * divf one (norm G (place k (a + j))) i = _
    rw [hE a (by omega), hN (a + j) (by omega), ← EReal.coe_mul, div_eq_mul_inv]
    rfl

theorem aligns_at (h : Token.Regular u) {k : ℕ} (hk : k < 9) : aligns G k i = Token.alignment u k := by
  refine align_at hG h hk ?_ ?_
  · interval_cases k <;>
      first
      | exact Lits.half.trans (by norm_num [width])
      | exact Lits.quarter.trans (by norm_num [width])
      | exact (IdealRules.named_const.ideal_named_scalar _ _ _ _ rfl).trans (by norm_num [width])
  · interval_cases k <;>
      first
      | exact Lits.six.trans (by norm_num [width])
      | exact Lits.eight.trans (by norm_num [width])
      | exact Lits.ten.trans (by norm_num [width])

theorem coef_at (h : Token.Regular u) {v : Line Ideal} {r : ℝ} (hv : v i = (r : EReal)) (k : Fin 9) :
    coef (aligns G) (novels G) v k.val i = ((r * Token.portion u k : ℝ) : EReal) := by
  obtain ⟨h1, -, h3⟩ := h.spec
  have hs : ∀ j : Fin 9, score (aligns G) (novels G) j.val i = Token.weight u j := fun j => by
    show aligns G j.val i * Ideal.div (Ideal.ofBits .f32 0x3F800000#32) (total (F := Ideal) _ _ i)
      + novels G j.val i * Ideal.div (Ideal.ofBits .f32 0x3F800000#32) (total (F := Ideal) _ _ i) = _
    rw [total_at, total_at, sum_range, sum_range, Lits.one, ← h1 j, aligns_at hG h j.isLt, novel_at hG h j.isLt,
      sum_congr rfl fun m _ => aligns_at hG h (Fin.isLt m), sum_congr rfl fun m _ => novel_at hG h (Fin.isLt m)]
    rfl
  show score (aligns G) (novels G) k.val i * Ideal.div (v i) (total (F := Ideal) _ _ i) = _
  rw [total_at, sum_range, sum_congr rfl fun m _ => hs m, hs, hv, h3]

theorem cosine_at (l : ℕ) : cosine G l i = ((Token.cosine u l : ℝ) : EReal) := by
  show Ideal.div (G l (l + 1) i) (max (norm G l i * norm G (l + 1) i) (Ideal.ofBits .f32 0x322BCC77#32)) = _
  rw [hG, norm_at hG, norm_at hG, Lits.floor, ← EReal.coe_mul, Lits.max_real,
    Weights.div_real (lt_of_lt_of_le Token.floor_pos (le_max_right _ _)).ne']
  rfl

theorem spread_at : spread G i = ((Token.variance u : ℝ) : EReal) := by
  have hm : total (cosine G) 8 i = ((∑ j ∈ range 8, Token.cosine u j : ℝ) : EReal) := by
    rw [total_at, Weights.coe_sum]
    exact sum_congr rfl fun l _ => cosine_at hG l
  have hg : ∀ l, gap G l i = ((Token.cosine u l - (∑ j ∈ range 8, Token.cosine u j) / 8 : ℝ) : EReal) := fun l => by
    show cosine G l i - total (cosine G) 8 i * Ideal.ofBits .f32 0x3E000000#32 = _
    rw [cosine_at hG, hm, Lits.eighth, ← EReal.coe_mul, ← EReal.coe_sub, mul_one_div]
  show total (F := Ideal) _ 8 i * Named.named (F := Ideal) Cert.KernelIdeal.κ "seventh" (φ := .f32) 0x3E124925#32 = _
  rw [total_at, IdealRules.named_const.ideal_named_scalar _ _ _ _ rfl, Token.variance, div_eq_mul_inv, EReal.coe_mul,
    Weights.coe_sum]
  congr 1
  refine sum_congr rfl fun l _ => ?_
  show gap G l i * gap G l i = _
  rw [hg, ← EReal.coe_mul]

end Cert.Column

end
-- ==== Proof.ColumnLoad.lean ====
/- What the kernel's loads and sums read of a block of real layers. -/
module

public import proofs.«01_k».proof.Proof.ColumnRun
public import proofs.«01_k».proof.Proof.ColumnAt
public import Idealize.ShloMosaic.Lib.ValueLayout
public import Idealize.ShloMosaic.Lib.MatmulPlain
public import Idealize.ShloMosaic.Lib.WordArith

@[expose] public section

set_option maxRecDepth 16384

noncomputable section

namespace Cert.Column

open Idealize.ShloMosaic Idealize.ShloMosaic.ValueIdx Cert.KernelIdeal Cert.KernelIdeal.Gen Finset
open Cert.Schur (gram)

/-- A sum over `m * n` numbers, the number `n * a + b` at a time. -/
theorem sum_split {M : Type*} [AddCommMonoid M] (m n : ℕ) (f : Fin (m * n) → M) :
    ∑ d, f d = ∑ a : Fin m, ∑ b : Fin n, f (finProdFinEquiv (a, b)) := by
  rw [← Equiv.sum_comp finProdFinEquiv, Fintype.sum_prod_type]

section Loads

variable (arg2 : Memref sig .tc .vmem S4x1x512x1024 .f32) (harg2 : arg2.IsWhole)
    (arg3 : Memref sig .tc .vmem S4x1x512x1024 .f32) (harg3 : arg3.IsWhole)
    (arg4 : Memref sig .tc .vmem S1x1x512x1024 .f32) (harg4 : arg4.IsWhole)
    (arg5 : Memref sig .tc .vmem S1x1x512 .i32) (harg5 : arg5.IsWhole)
    (x0 x1 : Vec Ideal S4x1x512x1024 .f32) (x2 : Vec Ideal S1x1x512x1024 .f32) (x3 : Vec Ideal S1x1x512 .i32)

theorem patch4_at (x : Vec Ideal S4x1x512x1024 .f32) (l t : Fin 4) (b : Fin 8) (r q : Fin 128) (s : Fin 512) (d : Fin 1024)
    (hs : s.val = 128 * t.val + r.val) (hd : d.val = 128 * b.val + q.val) :
    patch4 arg2 harg2 x l t b (ix2 r q) = x (ix4 l 0 s d) := by
  unfold patch4
  rw [View.readAt_eq_ld, harg2.read_unread]
  refine (shapeCast_apply _ _ (ix2 r q) (ix4 0 0 r q) ?_).trans ?_
  · rw [Shape.rowMajor_val_two, Shape.rowMajor_val_four]
    show ((0 * 1 + 0) * 128 + r.val) * 128 + q.val = r.val * 128 + q.val
    ring
  · refine congrArg x (funext fun a => Fin.ext ?_)
    match a with
    | ⟨0, _⟩ => show l.val + 1 * 0 = l.val; omega
    | ⟨1, _⟩ => rfl
    | ⟨2, _⟩ => show 128 * t.val + 1 * r.val = s.val; omega
    | ⟨3, _⟩ => show 128 * b.val + 1 * q.val = d.val; omega

theorem patch1_at (x : Vec Ideal S1x1x512x1024 .f32) (t : Fin 4) (b : Fin 8) (r q : Fin 128) (s : Fin 512) (d : Fin 1024)
    (hs : s.val = 128 * t.val + r.val) (hd : d.val = 128 * b.val + q.val) :
    patch1 arg4 harg4 x t b (ix2 r q) = x (ix4 0 0 s d) := by
  unfold patch1
  rw [View.readAt_eq_ld, harg4.read_unread]
  refine (shapeCast_apply _ _ (ix2 r q) (ix4 0 0 r q) ?_).trans ?_
  · rw [Shape.rowMajor_val_two, Shape.rowMajor_val_four]
    show ((0 * 1 + 0) * 128 + r.val) * 128 + q.val = r.val * 128 + q.val
    ring
  · refine congrArg x (funext fun a => Fin.ext ?_)
    match a with
    | ⟨0, _⟩ => rfl
    | ⟨1, _⟩ => rfl
    | ⟨2, _⟩ => show 128 * t.val + 1 * r.val = s.val; omega
    | ⟨3, _⟩ => show 128 * b.val + 1 * q.val = d.val; omega

theorem rows4_at (x : Vec Ideal S4x1x512x1024 .f32) (k : Fin 4) (s : Fin 512) (d : Fin 1024) (n : Fin 2048)
    (hn : n.val = 512 * k.val + s.val) : rows4 arg2 harg2 x (ix2 n d) = x (ix4 k 0 s d) := by
  unfold rows4
  rw [View.readAt_eq_ld, harg2.read_unread, View.ld_unit_zero (funext fun a => by fin_cases a <;> rfl)]
  refine (shapeCast_apply _ _ (ix2 n d) (ix3 k s d) ?_).trans (shapeCast_apply _ _ (ix3 k s d) (ix4 k 0 s d) ?_)
  · rw [Shape.rowMajor_val_two, Shape.rowMajor_val_three]
    show (k.val * 512 + s.val) * 1024 + d.val = n.val * 1024 + d.val
    rw [hn]; ring
  · rw [Shape.rowMajor_val_three, Shape.rowMajor_val_four]
    show ((k.val * 1 + 0) * 512 + s.val) * 1024 + d.val = (k.val * 512 + s.val) * 1024 + d.val
    ring

theorem rows1_at (x : Vec Ideal S1x1x512x1024 .f32) (s : Fin 512) (d : Fin 1024) :
    rows1 arg4 harg4 x (ix2 s d) = x (ix4 0 0 s d) := by
  unfold rows1
  rw [View.readAt_eq_ld, harg4.read_unread, View.ld_unit_zero (funext fun a => by fin_cases a <;> rfl)]
  refine shapeCast_apply _ _ (ix2 s d) (ix4 0 0 s d) ?_
  rw [Shape.rowMajor_val_two, Shape.rowMajor_val_four]
  show ((0 * 1 + 0) * 512 + s.val) * 1024 + d.val = s.val * 1024 + d.val
  ring

theorem marks_at (s : Fin 512) : marks arg5 harg5 x3 (ix2 0 s) = (((x3 (ix3 0 0 s)).toInt : ℝ) : EReal) := by
  unfold marks
  rw [View.readAt_eq_ld, harg5.read_unread, View.ld_unit_zero (funext fun a => by fin_cases a <;> rfl)]
  show ((((shapeCast S1x512 x3 shapeCasts_S1x1x512_S1x512 (ix2 0 s)).toInt : ℤ) : ℝ) : EReal) = _
  rw [shapeCast_apply _ _ (ix2 0 s) (ix3 0 0 s) (by
    rw [Shape.rowMajor_val_two, Shape.rowMajor_val_three]
    show (0 * 1 + 0) * 512 + s.val = 0 * 512 + s.val
    ring)]

end Loads

/-! ## Sums -/

theorem strip_at (p q : Fin 8 → Patch Ideal) (r : Fin 128) (f g : Fin 1024 → ℝ)
    (hp : ∀ b k (d : Fin 1024), d.val = 128 * b.val + k.val → p b (ix2 r k) = ((f d : ℝ) : EReal))
    (hq : ∀ b k (d : Fin 1024), d.val = 128 * b.val + k.val → q b (ix2 r k) = ((g d : ℝ) : EReal)) :
    strip p q (ix2 0 r) = ((∑ d, f d * g d : ℝ) : EReal) := by
  unfold strip
  refine (shapeCast_apply _ _ (ix2 0 r) (ix1 r) ?_).trans ?_
  · rw [Shape.rowMajor_val_two, Shape.rowMajor_val_one]
    show r.val = 0 * 128 + r.val
    ring
  refine (Ideal.multiReduction_add_single _ _ reduces_S128x128_S128 _ _ (ix1 r)).trans ?_
  rw [sum_split 8 128 fun d : Fin 1024 => f d * g d, sum_comm, Weights.coe_sum]
  refine sum_congr rfl fun k _ => ?_
  have e : Shape.Reduces.lift reduces_S128x128_S128 (ix1 r) k = ix2 (show Fin 128 from k) r := funext fun a => Fin.ext (by
    match a with | ⟨0, _⟩ => rfl | ⟨1, _⟩ => rfl)
  rw [e, transpose_ix2_apply]
  have h : ∀ b : Fin 8, mulf (p b) (q b) (ix2 r (show Fin 128 from k))
      = ((f (finProdFinEquiv (b, (show Fin 128 from k))) * g (finProdFinEquiv (b, (show Fin 128 from k))) : ℝ) : EReal) := fun b => by
    have hd : (finProdFinEquiv (b, (show Fin 128 from k)) : Fin (8 * 128)).val = 128 * b.val + (show Fin 128 from k).val := by
      show (show Fin 128 from k).val + 128 * b.val = _; omega
    show p b _ * q b _ = _
    rw [hp b _ _ hd, hq b _ _ hd, ← EReal.coe_mul]
  show mulf (p 0) (q 0) _ + mulf (p 1) (q 1) _ + mulf (p 2) (q 2) _ + mulf (p 3) (q 3) _ + mulf (p 4) (q 4) _ + mulf (p 5) (q 5) _
    + mulf (p 6) (q 6) _ + mulf (p 7) (q 7) _ = _
  simp only [h, ← EReal.coe_add]
  rw [Fin.sum_univ_eight]

theorem inner_at (p q : Fin 4 → Fin 8 → Patch Ideal) (s : Fin 512) (f g : Fin 1024 → ℝ)
    (hp : ∀ t b r k (d : Fin 1024), s.val = 128 * t.val + r.val → d.val = 128 * b.val + k.val → p t b (ix2 r k) = ((f d : ℝ) : EReal))
    (hq : ∀ t b r k (d : Fin 1024), s.val = 128 * t.val + r.val → d.val = 128 * b.val + k.val → q t b (ix2 r k) = ((g d : ℝ) : EReal)) :
    inner p q (ix2 0 s) = ((∑ d, f d * g d : ℝ) : EReal) := by
  have hs := s.isLt
  let t : Fin 4 := ⟨s.val / 128, by omega⟩
  let r : Fin 128 := ⟨s.val % 128, by omega⟩
  have h : s.val = 128 * t.val + r.val := (Nat.div_add_mod s.val 128).symm
  refine Eq.trans ?_ (strip_at (p t) (q t) r f g (fun b k d hd => hp t b r k d h hd) fun b k d hd => hq t b r k d h hd)
  exact concatenate_ofFn_apply (t := S1x512) (s₁ := S1x128) 1 (fun n : Fin 4 => strip (p n) (q n))
    concatenates_S1x128_S1x128_S1x128_S1x128_S1x512_d1 rfl 128 rfl (ix2 0 s) t rfl (ix2 0 r) rfl fun b hb => by
      match b with
      | ⟨0, _⟩ => rfl
      | ⟨1, _⟩ => exact absurd rfl hb

theorem beside_at (f : Fin 4 → Line Ideal) (k : Fin 4) (s : Fin 512) (n : Fin 2048) (hn : n.val = 512 * k.val + s.val) :
    beside f (ix2 0 n) = f k (ix2 0 s) := by
  have hs := s.isLt
  exact concatenate_ofFn_apply (t := S1x2048) (s₁ := S1x512) 1 f
    concatenates_S1x512_S1x512_S1x512_S1x512_S1x2048_d1 rfl 512 rfl (ix2 0 n) k (by show n.val / 512 = k.val; omega)
    (ix2 0 s) (by show s.val = n.val % 512; omega) fun b hb => by
      match b with
      | ⟨0, _⟩ => rfl
      | ⟨1, _⟩ => exact absurd rfl hb

theorem across1_at (v : Line Ideal) : across1 v (ix2 0 0) = ∑ s : Fin 512, v (ix2 0 s) := by
  unfold across1
  refine (shapeCast_apply _ _ (ix2 0 0) (ix1 0) ?_).trans ?_
  · rw [Shape.rowMajor_val_two, Shape.rowMajor_val_one]
    rfl
  refine (Ideal.multiReduction_add_single _ _ reduces_S1x512_S1 _ _ (ix1 0)).trans ?_
  refine sum_congr rfl fun k _ => congrArg v (funext fun a => Fin.ext ?_)
  match a with | ⟨0, _⟩ => rfl | ⟨1, _⟩ => rfl

/-- A position, as a word moved by no block, read back as an integer. -/
theorem word_nat (s : Fin 512) : (BitVec.ofNat 32 s.val + BitVec.ofNat 32 0 * 512#32).toInt = (s.val : ℤ) := by
  rw [show BitVec.ofNat 32 0 * 512#32 = 0#32 from rfl, BitVec.add_zero]
  exact WordArith.toInt_ofNat_small _ (lt_trans s.isLt (by norm_num))

theorem masked_at (i : grid0.Coords) (u v : Line Ideal) (mk : Fin 512 → BitVec 32)
    (hu : ∀ j, u (ix2 0 j) = (((mk j).toInt : ℝ) : EReal)) (s : Fin 512) :
    masked i u v (ix2 0 s) = if (s.val : ℤ) < ∑ j, (mk j).toInt - 1 then v (ix2 0 s) else 0 := by
  have hi : (i 1).val = 0 := by have : (i 1).val < 1 := (i 1).isLt; omega
  have e1 : sitofp (F := Ideal) .f32 (addi (iota .tc S1x512 32 [1] iota_S1x512_d1_w32)
      (broadcast S1x512 (Scalar.muli (BitVec.ofNat 32 (i 1).val) 512#32))) (ix2 0 s) = ((s.val : ℝ) : EReal) := by
    rw [hi]
    show ((((iota .tc S1x512 32 [1] iota_S1x512_d1_w32 (ix2 0 s) + Scalar.muli (BitVec.ofNat 32 0) 512#32).toInt : ℤ) : ℝ) : EReal) = _
    rw [iota_single_apply]
    show ((((BitVec.ofNat 32 s.val + BitVec.ofNat 32 0 * 512#32).toInt : ℤ) : ℝ) : EReal) = _
    rw [word_nat s]
    norm_cast
  have e2 : broadcastTo S1x512 (subf (across1 u) (broadcast S1x1 (Scalar.ofBits .f32 0x3F800000#32)))
      broadcasts_S1x1_S1x512 (ix2 0 s) = ((((∑ j, (mk j).toInt - 1 : ℤ)) : ℝ) : EReal) := by
    rw [broadcastTo_apply _ _ _ (ix2 0 0) (fun a => by match a with | ⟨0, _⟩ => rfl | ⟨1, _⟩ => rfl)]
    show across1 u (ix2 0 0) - Ideal.ofBits .f32 0x3F800000#32 = _
    rw [across1_at, Lits.one]
    simp only [hu]
    rw [← Weights.coe_sum, ← EReal.coe_sub]
    push_cast
    rfl
  unfold masked
  show (if BitVec.ofBool (decide (_ < _)) = 1#1 then _ else _) = _
  rw [e1, e2]
  have e3 : (((s.val : ℝ) : EReal) < ((((∑ j, (mk j).toInt - 1 : ℤ)) : ℝ) : EReal)) ↔ (s.val : ℤ) < ∑ j, (mk j).toInt - 1 := by
    rw [EReal.coe_lt_coe_iff]; exact_mod_cast Iff.rfl
  by_cases h : (s.val : ℤ) < ∑ j, (mk j).toInt - 1
  · rw [if_pos h, if_pos]
    simp only [e3, h, decide_true]; rfl
  · rw [if_neg h, if_neg]
    · exact Lits.zero
    · simp only [e3, h, decide_false]; decide

theorem mix_at (co : ℕ → Line Ideal) (r0 r1 : FVec Ideal S2048x1024 .f32) (r2 : FVec Ideal S512x1024 .f32) (d : Fin 1024)
    (c : Fin 9 → Fin 512 → ℝ) (v : ℕ → Fin 512 → ℝ) (hc : ∀ (k : Fin 9) s, co k.val (ix2 0 s) = ((c k s : ℝ) : EReal))
    (h0 : ∀ (k : Fin 4) s (n : Fin 2048), n.val = 512 * k.val + s.val → r0 (ix2 n d) = ((v k.val s : ℝ) : EReal))
    (h1 : ∀ (k : Fin 4) s (n : Fin 2048), n.val = 512 * k.val + s.val → r1 (ix2 n d) = ((v (4 + k.val) s : ℝ) : EReal))
    (h2 : ∀ s, r2 (ix2 s d) = ((v 8 s : ℝ) : EReal)) :
    mix co r0 r1 r2 (ix2 0 d) = ((∑ k : Fin 9, ∑ s, c k s * v k.val s : ℝ) : EReal) := by
  have four : ∀ (f : Fin 4 → Line Ideal) (e : Fin 4 → Fin 9) (r : FVec Ideal S2048x1024 .f32) (he : ∀ k s, f k (ix2 0 s) = ((c (e k) s : ℝ) : EReal))
      (hr : ∀ (k : Fin 4) s (n : Fin 2048), n.val = 512 * k.val + s.val → r (ix2 n d) = ((v (e k).val s : ℝ) : EReal)),
      matmul dot_S1x2048_S2048x1024_S1x1024_1_0_0_1_n_n none (beside f) r (constant S1x1024 .f32 0x00000000#32) (ix2 0 d)
        = ((∑ k : Fin 4, ∑ s, c (e k) s * v (e k).val s : ℝ) : EReal) := fun f e r he hr => by
    refine (Ideal.matmul_plain_apply (M := 1) (K := 2048) (N := 1024) none (beside f) r _ 0 d).trans ?_
    show Ideal.ofBits .f32 0x00000000#32 + _ = _
    rw [Lits.zero, sum_split 4 512, Weights.coe_sum]
    rw [zero_add]
    refine sum_congr rfl fun k _ => ?_
    rw [Weights.coe_sum]
    refine sum_congr rfl fun s _ => ?_
    have hn : (finProdFinEquiv (k, s) : Fin (4 * 512)).val = 512 * k.val + s.val := by
      show s.val + 512 * k.val = _; omega
    rw [beside_at f k s _ hn, he, hr k s _ hn, ← EReal.coe_mul]
  have one : matmul dot_S1x512_S512x1024_S1x1024_1_0_0_1_n_n none (co 8) r2 (constant S1x1024 .f32 0x00000000#32) (ix2 0 d)
        = ((∑ s, c 8 s * v 8 s : ℝ) : EReal) := by
    refine (Ideal.matmul_plain_apply (M := 1) (K := 512) (N := 1024) none (co 8) r2 _ 0 d).trans ?_
    show Ideal.ofBits .f32 0x00000000#32 + _ = _
    rw [Lits.zero, Weights.coe_sum, zero_add]
    refine sum_congr rfl fun s _ => ?_
    rw [show co 8 (ix2 0 s) = _ from hc 8 s, h2, ← EReal.coe_mul]
  unfold mix
  show matmul _ none _ r0 _ (ix2 0 d) + matmul _ none _ r1 _ (ix2 0 d) + matmul _ none _ r2 _ (ix2 0 d) = _
  rw [four (fun k => co k.val) (fun k => ⟨k.val, by omega⟩) r0 (fun k s => hc ⟨k.val, _⟩ s) h0,
    four (fun k => co (4 + k.val)) (fun k => ⟨4 + k.val, by omega⟩) r1 (fun k s => hc ⟨4 + k.val, _⟩ s) h1, one, ← EReal.coe_add,
    ← EReal.coe_add]
  congr 1
  rw [Fin.sum_univ_castSucc (n := 8), Fin.sum_univ_add (a := 4) (b := 4)]
  rfl

theorem final_at (s : FVec Ideal S1x1024 .f32) (z : FVec Ideal S1x1 .f32) (d : Fin 1024) :
    final s z (ix3 0 0 d) = s (ix2 0 d) * Ideal.div 1 (z (ix2 0 0)) := by
  unfold final
  refine (shapeCast_apply _ _ (ix3 0 0 d) (ix2 0 d) ?_).trans ?_
  · rw [Shape.rowMajor_val_two, Shape.rowMajor_val_three]
    show 0 * 1024 + d.val = (0 * 1 + 0) * 1024 + d.val
    ring
  show (Ideal.ofBits .f32 0x00000000#32 + s (ix2 0 d)) * broadcastTo S1x1024 _ broadcasts_S1x1_S1x1024 (ix2 0 d) = _
  rw [broadcastTo_apply _ _ _ (ix2 0 0) (fun a => by match a with | ⟨0, _⟩ => rfl | ⟨1, _⟩ => rfl)]
  show (Ideal.ofBits .f32 0x00000000#32 + s (ix2 0 d)) * Ideal.div (Ideal.ofBits .f32 0x3F800000#32) (Ideal.ofBits .f32 0x00000000#32 + z (ix2 0 0)) = _
  rw [Lits.zero, Lits.one, zero_add, zero_add, EReal.coe_one]

end Cert.Column

end
-- ==== Proof.KernelValue.lean ====
/- The kernel's result array is the answer. -/
module

public import proofs.«01_k».proof.Proof.KernelArray
public import proofs.«01_k».proof.Proof.ColumnLoad
public import proofs.«01_k».proof.Proof.Answer

@[expose] public section

set_option maxRecDepth 16384

noncomputable section

namespace Cert.KernelValue

open Idealize.ShloMosaic hiding ix1 ix2 ix3 ix4
open Idealize.ShloMosaic.ValueIdx Cert.KernelIdeal Cert.KernelIdeal.Gen Finset Cert.Column
open Cert.Schur (gram)
open Cert.Answer (States Mask place13 value counts vary Good answer)

section Block

variable (arg2 : Memref sig .tc .vmem S4x1x512x1024 .f32) (harg2 : arg2.IsWhole)
    (arg3 : Memref sig .tc .vmem S4x1x512x1024 .f32) (harg3 : arg3.IsWhole)
    (arg4 : Memref sig .tc .vmem S1x1x512x1024 .f32) (harg4 : arg4.IsWhole)
    (arg5 : Memref sig .tc .vmem S1x1x512 .i32) (harg5 : arg5.IsWhole)
    (x0 x1 : Vec Ideal S4x1x512x1024 .f32) (x2 : Vec Ideal S1x1x512x1024 .f32) (x3 : Vec Ideal S1x1x512 .i32)
    (A : States) (M : Mask) (b : Fin 8)
    (h0 : ∀ (l : Fin 4) s d, x0 (ix4 l 0 s d) = A (ix4 (place13 l.val) b s d))
    (h1 : ∀ (l : Fin 4) s d, x1 (ix4 l 0 s d) = A (ix4 (place13 (4 + l.val)) b s d))
    (h2 : ∀ s d, x2 (ix4 0 0 s d) = A (ix4 (place13 8) b s d))
    (h3 : ∀ s, x3 (ix3 0 0 s) = M (ix2 b s)) (hA : Good A M)

include h0 h1 h2 hA in
theorem layer_at (i : ℕ) (t : Fin 4) (e : Fin 8) (r q : Fin 128) (s : Fin 512) (d : Fin 1024)
    (hs : s.val = 128 * t.val + r.val) (hd : d.val = 128 * e.val + q.val) :
    layer arg2 harg2 arg3 harg3 arg4 harg4 x0 x1 x2 i t e (ix2 r q) = ((value A b s i d : ℝ) : EReal) := by
  unfold layer
  rw [← hA.real]
  split
  · rw [patch4_at _ _ _ _ _ _ _ _ s d hs hd, h0]
  split
  · rename_i h h'
    rw [patch4_at _ _ _ _ _ _ _ _ s d hs hd, h1]
    congr 3
    show 4 + (i - 4) = i
    omega
  · rw [patch1_at _ _ _ _ _ _ _ s d hs hd, h2]
    congr 2
    exact Fin.ext (by show 4 + min 8 8 = 4 + min i 8; omega)

include h0 h1 h2 hA in
theorem inners_at (s : Fin 512) (i j : ℕ) :
    inners arg2 harg2 arg3 harg3 arg4 harg4 x0 x1 x2 i j (ix2 0 s) = ((gram (value A b s) i j : ℝ) : EReal) := by
  have h := fun i t e r q d hs hd => layer_at arg2 harg2 arg3 harg3 arg4 harg4 x0 x1 x2 A M b h0 h1 h2 hA i t e r q s d hs hd
  unfold inners pair
  split
  · exact inner_at _ _ s (value A b s i) (value A b s j) (fun t e r k d => h i t e r k d) fun t e r k d => h j t e r k d
  · rw [Schur.gram_symm]
    exact inner_at _ _ s (value A b s j) (value A b s i) (fun t e r k d => h j t e r k d) fun t e r k d => h i t e r k d

include h0 h1 h2 h3 hA in
theorem variances_at (p : grid0.Coords) (s : Fin 512) :
    variances p arg2 harg2 arg3 harg3 arg4 harg4 arg5 harg5 x0 x1 x2 x3 (ix2 0 s) = ((vary A M b s : ℝ) : EReal) := by
  unfold variances
  rw [masked_at p _ _ (fun j => M (ix2 b j)) (fun j => by rw [marks_at, h3]) s]
  unfold vary
  by_cases h : counts M b s
  · rw [if_pos h]
    refine (if_pos h).trans ?_
    exact spread_at (inners_at arg2 harg2 arg3 harg3 arg4 harg4 x0 x1 x2 A M b h0 h1 h2 hA s)
  · rw [if_neg h]
    exact if_neg h

include h0 h1 h2 h3 hA in
theorem block_at (p : grid0.Coords) (d : Fin 1024) :
    final (blend p arg2 harg2 arg3 harg3 arg4 harg4 arg5 harg5 x0 x1 x2 x3)
      (across1 (variances p arg2 harg2 arg3 harg3 arg4 harg4 arg5 harg5 x0 x1 x2 x3)) (ix3 0 0 d) = ((answer A M b d : ℝ) : EReal) := by
  have hv := variances_at arg2 harg2 arg3 harg3 arg4 harg4 arg5 harg5 x0 x1 x2 x3 A M b h0 h1 h2 h3 hA p
  rw [final_at, across1_at]
  simp only [hv]
  rw [← Weights.coe_sum, blend, mix_at _ _ _ _ d (fun k s => vary A M b s * Token.portion (value A b s) k) (fun i s => value A b s i d)
    (fun k s => coef_at (inners_at arg2 harg2 arg3 harg3 arg4 harg4 x0 x1 x2 A M b h0 h1 h2 hA s) (hA.regular b s) (hv s) k)
    (fun k s n hn => by rw [rows4_at _ _ _ k s d n hn, h0, hA.real])
    (fun k s n hn => by rw [rows4_at _ _ _ k s d n hn, h1, hA.real])
    (fun s => by rw [rows1_at, h2, hA.real])]
  rw [show (1 : EReal) = ((1 : ℝ) : EReal) from rfl, Weights.div_real (hA.some b).ne', ← EReal.coe_mul, mul_one_div]
  congr 2
  rw [sum_comm]
  exact sum_congr rfl fun s _ => by rw [mul_sum]; exact sum_congr rfl fun k _ => mul_assoc _ _ _

end Block

variable (m : (ℓ : Loc nD τ sig) → Buf (Elt Ideal) ℓ)

/-- Every element of the kernel's result. -/
theorem result_at (c : Dev nD) (hA : Good (m ((c.tc : Thread nD τ).loc main_arg0)) (m ((c.tc : Thread nD τ).loc main_arg1)))
    (b : Fin 8) (d : Fin 1024) :
    (KernelArray.result m c : S8x1x1024.Idx → EReal) (ix3 b 0 d)
      = ((answer (m ((c.tc : Thread nD τ).loc main_arg0)) (m ((c.tc : Thread nD τ).loc main_arg1)) b d : ℝ) : EReal) := by
  show outsAt0 m c (KernelArray.point b) (ix3 0 0 d) = _
  unfold outsAt0
  rw [out_eq]
  exact block_at _ _ _ _ _ _ _ _ _ _ _ _ _ _ b
    (fun l s d => KernelArray.block0 m c _ l s d b rfl _ (by show 4 + min l.val 8 = _; omega))
    (fun l s d => KernelArray.block1 m c _ l s d b rfl _ (by show 4 + min (4 + l.val) 8 = _; omega))
    (fun s d => KernelArray.block2 m c _ s d b rfl) (fun s => KernelArray.block3 m c _ s b rfl) hA _ d

end Cert.KernelValue

end
-- ==== Proof.Equal.lean ====
/- The kernel and the reference end with equal results. -/
module

public import proofs.«01_k».proof.Defs
public import proofs.«01_k».proof.Proof.WholeRun
public import proofs.«01_k».proof.Proof.WholeValue
public import proofs.«01_k».proof.Proof.KernelValue

@[expose] public section

noncomputable section

open Idealize.ShloMosaic Idealize.SL.Sem

namespace Cert.Proof.Equal

/-- On states and a mask as the precondition asks, the idealized kernel's result is the reference's. -/
theorem results [hP : Cert.Pre_regular.Facts] :
    Cert.algebraic_KernelIdeal_ReferenceIdeal_pre_regular := by
  intro m g m' g' hp hm
  refine ⟨fun c => Cert.KernelArray.result m c, Cert.KernelArray.run m g, (θ_run _ _ _).mono (fun r h c => ⟨(h c).1.trans ?_, (h c).2⟩)
    (Cert.Whole.run m' g')⟩
  obtain ⟨hA, hM⟩ := Cert.Whole.of_asked ((Cert.Whole.asked_eq _ _).symm.trans (hp c))
  rw [(hm c).1, (hm c).2]
  funext i
  have hi : i = ValueIdx.ix3 (n0 := 8) (n1 := 1) (n2 := 1024) (i 0) 0 (i 2) := by
    funext a
    match a with
    | ⟨0, _⟩ => rfl
    | ⟨1, _⟩ => exact Subsingleton.elim (α := Fin 1) _ _
    | ⟨2, _⟩ => rfl
  rw [hi]
  exact (Cert.Whole.result_answer hA hM (i 0) (i 2)).trans (Cert.KernelValue.result_at m c hA (i 0) (i 2)).symm

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Whole.preFacts,
    Frames.kernel, Frames.kernelIdeal, fun m g _ => Frames.kernelIdeal m g trivial,
    Frames.referenceIdeal, fun m g _ => Frames.referenceIdeal m g trivial,
    Frames.constants, Equal.results (hP := Cert.Whole.preFacts)⟩

end Cert.Proof

end
